-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 4096, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 4096, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S2x256x512 1 × IVec S512x256 1 × IVec S2x256x4x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x256x4x64 .bf16 := Host.absf main_arg2
  let main_cst_1 : FVec F S_ .bf16 := constant S_ .bf16 0x7F80#16
  let main_v7 : FVec F S2x256x4x64 .bf16 := broadcastInDim S2x256x4x64 ![] bcast_S_S2x256x4x64 main_cst_1
  let main_v8 : IVec S2x256x4x64 1 := cmpf .olt main_v6 main_v7
  (main_v2, main_v5, main_v8)
-- ==== Pre_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  bcast_S_S512x256 : S_.BroadcastsInDim S512x256 (![] : Fin 0 → Fin S512x256.rank)
  bcast_S_S2x4096x4x64 : S_.BroadcastsInDim S2x4096x4x64 (![] : Fin 0 → Fin S2x4096x4x64.rank)

variable [Facts]

def fn {F : FTy → Type} [FloatOps F] (main_arg0 : FVec F S2x4096x512 .bf16) (main_arg1 : FVec F S512x256 .bf16) (main_arg2 : FVec F S2x4096x4x64 .bf16) (main_arg3 : FVec F S2x4096x4x64 .bf16) (main_arg4 : FVec F S256x512 .bf16) : IVec S2x4096x512 1 × IVec S512x256 1 × IVec S2x4096x4x64 1 :=
  let main_v0 : FVec F S2x4096x512 .bf16 := Host.absf main_arg0
  let main_cst : FVec F S_ .bf16 := constant S_ .bf16 0x7F80#16
  let main_v1 : FVec F S2x4096x512 .bf16 := broadcastInDim S2x4096x512 ![] bcast_S_S2x4096x512 main_cst
  let main_v2 : IVec S2x4096x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x4096x4x64 .bf16 := Host.absf main_arg2
  let main_cst_1 : FVec F S_ .bf16 := constant S_ .bf16 0x7F80#16
  let main_v7 : FVec F S2x4096x4x64 .bf16 := broadcastInDim S2x4096x4x64 ![] bcast_S_S2x4096x4x64 main_cst_1
  let main_v8 : IVec S2x4096x4x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S4x2x256x512 : Shape := ⟨4, ![4, 2, 256, 512]⟩
abbrev S12x2x256x512 : Shape := ⟨4, ![12, 2, 256, 512]⟩
abbrev S2048x1024 : Shape := ⟨2, ![2048, 1024]⟩
abbrev S3 : Shape := ⟨1, ![3]⟩
abbrev S4 : Shape := ⟨1, ![4]⟩
abbrev S2 : Shape := ⟨1, ![2]⟩
abbrev S_ : Shape := ⟨0, ![]⟩
abbrev S2x256x256 : Shape := ⟨3, ![2, 256, 256]⟩
abbrev S1x2x256x256 : Shape := ⟨4, ![1, 2, 256, 256]⟩
abbrev S1 : Shape := ⟨1, ![1]⟩
abbrev S1x2x256x512 : Shape := ⟨4, ![1, 2, 256, 512]⟩
abbrev S512x512 : Shape := ⟨2, ![512, 512]⟩
abbrev S1x2x64x256 : Shape := ⟨4, ![1, 2, 64, 256]⟩
abbrev S2x64x256 : Shape := ⟨3, ![2, 64, 256]⟩
abbrev S1x256x64 : Shape := ⟨3, ![1, 256, 64]⟩
abbrev S256x64 : Shape := ⟨2, ![256, 64]⟩
abbrev S64x64 : Shape := ⟨2, ![64, 64]⟩
abbrev S64x256 : Shape := ⟨2, ![64, 256]⟩
abbrev S64x1024 : Shape := ⟨2, ![64, 1024]⟩
abbrev S64 : Shape := ⟨1, ![64]⟩
abbrev S64x1 : Shape := ⟨2, ![64, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S4x2x256x512, .bf16⟩
  | .local _ .vmem, ⟨7, _⟩ => ⟨S12x2x256x512, .bf16⟩
  | .local _ .vmem, ⟨8, _⟩ => ⟨S2048x1024, .f32⟩
  | .local _ .vmem, ⟨9, _⟩ => ⟨S512x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_15 : BitVec 32 := 1#32
  let v34 : BitVec 32 := Scalar.muli v28 c1_i32_15
  let v35 : BitVec 32 := Scalar.addi c0_i32_16 v34
  v35.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_18 : BitVec 32 := 1#32
  let v36 : BitVec 32 := Scalar.muli v24 c1_i32_18
  let v37 : BitVec 32 := Scalar.addi c0_i32_19 v36
  v37.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_20 : BitVec 32 := 1#32
  let v38 : BitVec 1 := Scalar.cmpi .sge v19 c1_i32_20
  let v39 : BitVec 32 := Scalar.extui v38
  let c0_i32_21 : BitVec 32 := 0#32
  let v40 : BitVec 1 := Scalar.cmpi .ne v39 c0_i32_21
  v40

def k0_dev3 (d0 : Dev nD) : Nat :=
  let c0_i32_1716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.subi v2 c4_i32_11
  let c0_i32_12 : BitVec 32 := 0#32
  let v30 : BitVec 32 := Scalar.maxsi v29 c0_i32_12
  let c1_i32_1715 : BitVec 32 := 1#32
  let v2901 : BitVec 32 := Scalar.muli v30 c1_i32_1715
  let v2902 : BitVec 32 := Scalar.addi c0_i32_1716 v2901
  v2902.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v41 : BitVec 1 := Scalar.cmpi .sle v19 c2_i32
  let v42 : BitVec 32 := Scalar.extui v41
  let c0_i32_22 : BitVec 32 := 0#32
  let v43 : BitVec 1 := Scalar.cmpi .ne v42 c0_i32_22
  v43

def k0_dev4 (d0 : Dev nD) : Nat :=
  let c0_i32_1716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_13 : BitVec 32 := 4#32
  let v31 : BitVec 32 := Scalar.addi v2 c4_i32_13
  let c15_i32 : BitVec 32 := 15#32
  let v32 : BitVec 32 := Scalar.minsi v31 c15_i32
  let c1_i32_1715 : BitVec 32 := 1#32
  let v2901 : BitVec 32 := Scalar.muli v32 c1_i32_1715
  let v2902 : BitVec 32 := Scalar.addi c0_i32_1716 v2901
  v2902.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_27 : BitVec 32 := 0#32
  let v52 : BitVec 1 := Scalar.cmpi .eq v19 c0_i32_27
  let v53 : BitVec 32 := Scalar.extui v52
  let c0_i32_28 : BitVec 32 := 0#32
  let v54 : BitVec 1 := Scalar.cmpi .ne v53 c0_i32_28
  v54

def k0_dev5 (d0 : Dev nD) : Nat :=
  let c0_i32_1735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1734 : BitVec 32 := 1#32
  let v2913 : BitVec 32 := Scalar.muli v24 c1_i32_1734
  let v2914 : BitVec 32 := Scalar.addi c0_i32_1735 v2913
  v2914.toNat
def k0_dev6 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1746 : BitVec 32 := 1#32
  let v2923 : BitVec 32 := Scalar.muli v28 c1_i32_1746
  let v2924 : BitVec 32 := Scalar.addi c0_i32_1747 v2923
  v2924.toNat
def k0_dev7 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_13 : BitVec 32 := 4#32
  let v31 : BitVec 32 := Scalar.addi v2 c4_i32_13
  let c15_i32 : BitVec 32 := 15#32
  let v32 : BitVec 32 := Scalar.minsi v31 c15_i32
  let c1_i32_1758 : BitVec 32 := 1#32
  let v2933 : BitVec 32 := Scalar.muli v32 c1_i32_1758
  let v2934 : BitVec 32 := Scalar.addi c0_i32_1759 v2933
  v2934.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_29 : BitVec 32 := 1#32
  let v55 : BitVec 1 := Scalar.cmpi .eq v19 c1_i32_29
  let v56 : BitVec 32 := Scalar.extui v55
  let c0_i32_30 : BitVec 32 := 0#32
  let v57 : BitVec 1 := Scalar.cmpi .ne v56 c0_i32_30
  v57

def k0_dev8 (d0 : Dev nD) : Nat :=
  let c0_i32_1735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1734 : BitVec 32 := 1#32
  let v2913 : BitVec 32 := Scalar.muli v24 c1_i32_1734
  let v2914 : BitVec 32 := Scalar.addi c0_i32_1735 v2913
  v2914.toNat
def k0_dev9 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1746 : BitVec 32 := 1#32
  let v2923 : BitVec 32 := Scalar.muli v28 c1_i32_1746
  let v2924 : BitVec 32 := Scalar.addi c0_i32_1747 v2923
  v2924.toNat
def k0_dev10 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_13 : BitVec 32 := 4#32
  let v31 : BitVec 32 := Scalar.addi v2 c4_i32_13
  let c15_i32 : BitVec 32 := 15#32
  let v32 : BitVec 32 := Scalar.minsi v31 c15_i32
  let c1_i32_1758 : BitVec 32 := 1#32
  let v2933 : BitVec 32 := Scalar.muli v32 c1_i32_1758
  let v2934 : BitVec 32 := Scalar.addi c0_i32_1759 v2933
  v2934.toNat
def k0_dev11 (d0 : Dev nD) : Nat :=
  let c0_i32_1771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.subi v2 c4_i32_11
  let c0_i32_12 : BitVec 32 := 0#32
  let v30 : BitVec 32 := Scalar.maxsi v29 c0_i32_12
  let c1_i32_1770 : BitVec 32 := 1#32
  let v2943 : BitVec 32 := Scalar.muli v30 c1_i32_1770
  let v2944 : BitVec 32 := Scalar.addi c0_i32_1771 v2943
  v2944.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_31 : BitVec 32 := 2#32
  let v58 : BitVec 1 := Scalar.cmpi .eq v19 c2_i32_31
  let v59 : BitVec 32 := Scalar.extui v58
  let c0_i32_32 : BitVec 32 := 0#32
  let v60 : BitVec 1 := Scalar.cmpi .ne v59 c0_i32_32
  v60

def k0_dev12 (d0 : Dev nD) : Nat :=
  let c0_i32_1735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1734 : BitVec 32 := 1#32
  let v2913 : BitVec 32 := Scalar.muli v24 c1_i32_1734
  let v2914 : BitVec 32 := Scalar.addi c0_i32_1735 v2913
  v2914.toNat
def k0_dev13 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1746 : BitVec 32 := 1#32
  let v2923 : BitVec 32 := Scalar.muli v28 c1_i32_1746
  let v2924 : BitVec 32 := Scalar.addi c0_i32_1747 v2923
  v2924.toNat
def k0_dev14 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_13 : BitVec 32 := 4#32
  let v31 : BitVec 32 := Scalar.addi v2 c4_i32_13
  let c15_i32 : BitVec 32 := 15#32
  let v32 : BitVec 32 := Scalar.minsi v31 c15_i32
  let c1_i32_1758 : BitVec 32 := 1#32
  let v2933 : BitVec 32 := Scalar.muli v32 c1_i32_1758
  let v2934 : BitVec 32 := Scalar.addi c0_i32_1759 v2933
  v2934.toNat
def k0_dev15 (d0 : Dev nD) : Nat :=
  let c0_i32_1771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.subi v2 c4_i32_11
  let c0_i32_12 : BitVec 32 := 0#32
  let v30 : BitVec 32 := Scalar.maxsi v29 c0_i32_12
  let c1_i32_1770 : BitVec 32 := 1#32
  let v2943 : BitVec 32 := Scalar.muli v30 c1_i32_1770
  let v2944 : BitVec 32 := Scalar.addi c0_i32_1771 v2943
  v2944.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_33 : BitVec 32 := 3#32
  let v61 : BitVec 1 := Scalar.cmpi .eq v19 c3_i32_33
  let v62 : BitVec 32 := Scalar.extui v61
  let c0_i32_34 : BitVec 32 := 0#32
  let v63 : BitVec 1 := Scalar.cmpi .ne v62 c0_i32_34
  v63

def k0_dev16 (d0 : Dev nD) : Nat :=
  let c0_i32_1735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1734 : BitVec 32 := 1#32
  let v2913 : BitVec 32 := Scalar.muli v24 c1_i32_1734
  let v2914 : BitVec 32 := Scalar.addi c0_i32_1735 v2913
  v2914.toNat
def k0_dev17 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1746 : BitVec 32 := 1#32
  let v2923 : BitVec 32 := Scalar.muli v28 c1_i32_1746
  let v2924 : BitVec 32 := Scalar.addi c0_i32_1747 v2923
  v2924.toNat
def k0_dev18 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.subi v2 c4_i32_11
  let c0_i32_12 : BitVec 32 := 0#32
  let v30 : BitVec 32 := Scalar.maxsi v29 c0_i32_12
  let c1_i32_1758 : BitVec 32 := 1#32
  let v2933 : BitVec 32 := Scalar.muli v30 c1_i32_1758
  let v2934 : BitVec 32 := Scalar.addi c0_i32_1759 v2933
  v2934.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_39 : BitVec 32 := 0#32
  let v71 : BitVec 1 := Scalar.cmpi .eq v19 c0_i32_39
  let v72 : BitVec 32 := Scalar.extui v71
  let c0_i32_40 : BitVec 32 := 0#32
  let v73 : BitVec 1 := Scalar.cmpi .ne v72 c0_i32_40
  v73

def k0_dev19 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1730 : BitVec 32 := 1#32
  let v2909 : BitVec 32 := Scalar.muli v24 c1_i32_1730
  let v2910 : BitVec 32 := Scalar.addi c0_i32_1731 v2909
  v2910.toNat
def k0_dev20 (d0 : Dev nD) : Nat :=
  let c0_i32_1743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1742 : BitVec 32 := 1#32
  let v2919 : BitVec 32 := Scalar.muli v28 c1_i32_1742
  let v2920 : BitVec 32 := Scalar.addi c0_i32_1743 v2919
  v2920.toNat
def k0_dev21 (d0 : Dev nD) : Nat :=
  let c0_i32_1767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1766 : BitVec 32 := 1#32
  let v2937 : BitVec 32 := Scalar.muli v24 c1_i32_1766
  let v2938 : BitVec 32 := Scalar.addi c0_i32_1767 v2937
  v2938.toNat
def k0_dev22 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1778 : BitVec 32 := 1#32
  let v2947 : BitVec 32 := Scalar.muli v28 c1_i32_1778
  let v2948 : BitVec 32 := Scalar.addi c0_i32_1779 v2947
  v2948.toNat
def k0_dev23 (d0 : Dev nD) : Nat :=
  let c0_i32_1803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1802 : BitVec 32 := 1#32
  let v2965 : BitVec 32 := Scalar.muli v24 c1_i32_1802
  let v2966 : BitVec 32 := Scalar.addi c0_i32_1803 v2965
  v2966.toNat
def k0_dev24 (d0 : Dev nD) : Nat :=
  let c0_i32_1815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1814 : BitVec 32 := 1#32
  let v2975 : BitVec 32 := Scalar.muli v28 c1_i32_1814
  let v2976 : BitVec 32 := Scalar.addi c0_i32_1815 v2975
  v2976.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_41 : BitVec 32 := 1#32
  let v74 : BitVec 1 := Scalar.cmpi .eq v19 c1_i32_41
  let v75 : BitVec 32 := Scalar.extui v74
  let c0_i32_42 : BitVec 32 := 0#32
  let v76 : BitVec 1 := Scalar.cmpi .ne v75 c0_i32_42
  v76

def k0_dev25 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1730 : BitVec 32 := 1#32
  let v2909 : BitVec 32 := Scalar.muli v24 c1_i32_1730
  let v2910 : BitVec 32 := Scalar.addi c0_i32_1731 v2909
  v2910.toNat
def k0_dev26 (d0 : Dev nD) : Nat :=
  let c0_i32_1743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1742 : BitVec 32 := 1#32
  let v2919 : BitVec 32 := Scalar.muli v28 c1_i32_1742
  let v2920 : BitVec 32 := Scalar.addi c0_i32_1743 v2919
  v2920.toNat
def k0_dev27 (d0 : Dev nD) : Nat :=
  let c0_i32_1767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1766 : BitVec 32 := 1#32
  let v2937 : BitVec 32 := Scalar.muli v24 c1_i32_1766
  let v2938 : BitVec 32 := Scalar.addi c0_i32_1767 v2937
  v2938.toNat
def k0_dev28 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1778 : BitVec 32 := 1#32
  let v2947 : BitVec 32 := Scalar.muli v28 c1_i32_1778
  let v2948 : BitVec 32 := Scalar.addi c0_i32_1779 v2947
  v2948.toNat
def k0_dev29 (d0 : Dev nD) : Nat :=
  let c0_i32_1791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_13 : BitVec 32 := 4#32
  let v31 : BitVec 32 := Scalar.addi v2 c4_i32_13
  let c15_i32 : BitVec 32 := 15#32
  let v32 : BitVec 32 := Scalar.minsi v31 c15_i32
  let c1_i32_1790 : BitVec 32 := 1#32
  let v2957 : BitVec 32 := Scalar.muli v32 c1_i32_1790
  let v2958 : BitVec 32 := Scalar.addi c0_i32_1791 v2957
  v2958.toNat
def k0_dev30 (d0 : Dev nD) : Nat :=
  let c0_i32_1803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.subi v2 c4_i32_11
  let c0_i32_12 : BitVec 32 := 0#32
  let v30 : BitVec 32 := Scalar.maxsi v29 c0_i32_12
  let c1_i32_1802 : BitVec 32 := 1#32
  let v2967 : BitVec 32 := Scalar.muli v30 c1_i32_1802
  let v2968 : BitVec 32 := Scalar.addi c0_i32_1803 v2967
  v2968.toNat
def k0_dev31 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1826 : BitVec 32 := 1#32
  let v2985 : BitVec 32 := Scalar.muli v24 c1_i32_1826
  let v2986 : BitVec 32 := Scalar.addi c0_i32_1827 v2985
  v2986.toNat
def k0_dev32 (d0 : Dev nD) : Nat :=
  let c0_i32_1839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1838 : BitVec 32 := 1#32
  let v2995 : BitVec 32 := Scalar.muli v28 c1_i32_1838
  let v2996 : BitVec 32 := Scalar.addi c0_i32_1839 v2995
  v2996.toNat
def k0_dev33 (d0 : Dev nD) : Nat :=
  let c0_i32_1851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.subi v2 c4_i32_11
  let c0_i32_12 : BitVec 32 := 0#32
  let v30 : BitVec 32 := Scalar.maxsi v29 c0_i32_12
  let c1_i32_1850 : BitVec 32 := 1#32
  let v3005 : BitVec 32 := Scalar.muli v30 c1_i32_1850
  let v3006 : BitVec 32 := Scalar.addi c0_i32_1851 v3005
  v3006.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_43 : BitVec 32 := 2#32
  let v77 : BitVec 1 := Scalar.cmpi .eq v19 c2_i32_43
  let v78 : BitVec 32 := Scalar.extui v77
  let c0_i32_44 : BitVec 32 := 0#32
  let v79 : BitVec 1 := Scalar.cmpi .ne v78 c0_i32_44
  v79

def k0_dev34 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1730 : BitVec 32 := 1#32
  let v2909 : BitVec 32 := Scalar.muli v24 c1_i32_1730
  let v2910 : BitVec 32 := Scalar.addi c0_i32_1731 v2909
  v2910.toNat
def k0_dev35 (d0 : Dev nD) : Nat :=
  let c0_i32_1743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1742 : BitVec 32 := 1#32
  let v2919 : BitVec 32 := Scalar.muli v28 c1_i32_1742
  let v2920 : BitVec 32 := Scalar.addi c0_i32_1743 v2919
  v2920.toNat
def k0_dev36 (d0 : Dev nD) : Nat :=
  let c0_i32_1767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1766 : BitVec 32 := 1#32
  let v2937 : BitVec 32 := Scalar.muli v24 c1_i32_1766
  let v2938 : BitVec 32 := Scalar.addi c0_i32_1767 v2937
  v2938.toNat
def k0_dev37 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1778 : BitVec 32 := 1#32
  let v2947 : BitVec 32 := Scalar.muli v28 c1_i32_1778
  let v2948 : BitVec 32 := Scalar.addi c0_i32_1779 v2947
  v2948.toNat
def k0_dev38 (d0 : Dev nD) : Nat :=
  let c0_i32_1791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_13 : BitVec 32 := 4#32
  let v31 : BitVec 32 := Scalar.addi v2 c4_i32_13
  let c15_i32 : BitVec 32 := 15#32
  let v32 : BitVec 32 := Scalar.minsi v31 c15_i32
  let c1_i32_1790 : BitVec 32 := 1#32
  let v2957 : BitVec 32 := Scalar.muli v32 c1_i32_1790
  let v2958 : BitVec 32 := Scalar.addi c0_i32_1791 v2957
  v2958.toNat
def k0_dev39 (d0 : Dev nD) : Nat :=
  let c0_i32_1803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.subi v2 c4_i32_11
  let c0_i32_12 : BitVec 32 := 0#32
  let v30 : BitVec 32 := Scalar.maxsi v29 c0_i32_12
  let c1_i32_1802 : BitVec 32 := 1#32
  let v2967 : BitVec 32 := Scalar.muli v30 c1_i32_1802
  let v2968 : BitVec 32 := Scalar.addi c0_i32_1803 v2967
  v2968.toNat
def k0_dev40 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1826 : BitVec 32 := 1#32
  let v2985 : BitVec 32 := Scalar.muli v24 c1_i32_1826
  let v2986 : BitVec 32 := Scalar.addi c0_i32_1827 v2985
  v2986.toNat
def k0_dev41 (d0 : Dev nD) : Nat :=
  let c0_i32_1839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1838 : BitVec 32 := 1#32
  let v2995 : BitVec 32 := Scalar.muli v28 c1_i32_1838
  let v2996 : BitVec 32 := Scalar.addi c0_i32_1839 v2995
  v2996.toNat
def k0_dev42 (d0 : Dev nD) : Nat :=
  let c0_i32_1851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_13 : BitVec 32 := 4#32
  let v31 : BitVec 32 := Scalar.addi v2 c4_i32_13
  let c15_i32 : BitVec 32 := 15#32
  let v32 : BitVec 32 := Scalar.minsi v31 c15_i32
  let c1_i32_1850 : BitVec 32 := 1#32
  let v3005 : BitVec 32 := Scalar.muli v32 c1_i32_1850
  let v3006 : BitVec 32 := Scalar.addi c0_i32_1851 v3005
  v3006.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_45 : BitVec 32 := 3#32
  let v80 : BitVec 1 := Scalar.cmpi .eq v19 c3_i32_45
  let v81 : BitVec 32 := Scalar.extui v80
  let c0_i32_46 : BitVec 32 := 0#32
  let v82 : BitVec 1 := Scalar.cmpi .ne v81 c0_i32_46
  v82

def k0_dev43 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1730 : BitVec 32 := 1#32
  let v2909 : BitVec 32 := Scalar.muli v24 c1_i32_1730
  let v2910 : BitVec 32 := Scalar.addi c0_i32_1731 v2909
  v2910.toNat
def k0_dev44 (d0 : Dev nD) : Nat :=
  let c0_i32_1743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1742 : BitVec 32 := 1#32
  let v2919 : BitVec 32 := Scalar.muli v28 c1_i32_1742
  let v2920 : BitVec 32 := Scalar.addi c0_i32_1743 v2919
  v2920.toNat
def k0_dev45 (d0 : Dev nD) : Nat :=
  let c0_i32_1767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1766 : BitVec 32 := 1#32
  let v2937 : BitVec 32 := Scalar.muli v24 c1_i32_1766
  let v2938 : BitVec 32 := Scalar.addi c0_i32_1767 v2937
  v2938.toNat
def k0_dev46 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1778 : BitVec 32 := 1#32
  let v2947 : BitVec 32 := Scalar.muli v28 c1_i32_1778
  let v2948 : BitVec 32 := Scalar.addi c0_i32_1779 v2947
  v2948.toNat
def k0_dev47 (d0 : Dev nD) : Nat :=
  let c0_i32_1803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1802 : BitVec 32 := 1#32
  let v2965 : BitVec 32 := Scalar.muli v24 c1_i32_1802
  let v2966 : BitVec 32 := Scalar.addi c0_i32_1803 v2965
  v2966.toNat
def k0_dev48 (d0 : Dev nD) : Nat :=
  let c0_i32_1815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1814 : BitVec 32 := 1#32
  let v2975 : BitVec 32 := Scalar.muli v28 c1_i32_1814
  let v2976 : BitVec 32 := Scalar.addi c0_i32_1815 v2975
  v2976.toNat
def k0_dev49 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_220 : BitVec 32 := 1#32
  let v415 : BitVec 32 := Scalar.muli v24 c1_i32_220
  let v416 : BitVec 32 := Scalar.addi c0_i32_221 v415
  v416.toNat
def k0_dev50 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_255 : BitVec 32 := 1#32
  let v441 : BitVec 32 := Scalar.muli v24 c1_i32_255
  let v442 : BitVec 32 := Scalar.addi c0_i32_256 v441
  v442.toNat
def k0_dev51 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_300 : BitVec 32 := 1#32
  let v475 : BitVec 32 := Scalar.muli v28 c1_i32_300
  let v476 : BitVec 32 := Scalar.addi c0_i32_301 v475
  v476.toNat
def k0_dev52 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_334 : BitVec 32 := 1#32
  let v501 : BitVec 32 := Scalar.muli v28 c1_i32_334
  let v502 : BitVec 32 := Scalar.addi c0_i32_335 v501
  v502.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 142
  | .vmem => 0
  | .smem => 0
  | _ => 0

abbrev hbmTy0_0 (i : Nat) : BufTy := match i % 128 with
  | 0 => ⟨S2x4096x512, .bf16⟩
  | 1 => ⟨S512x256, .bf16⟩
  | 2 => ⟨S2x4096x4x64, .bf16⟩
  | 3 => ⟨S2x4096x4x64, .bf16⟩
  | 4 => ⟨S256x512, .bf16⟩
  | 5 => ⟨S2x4096x256, .f32⟩
  | 6 => ⟨S2x4096x256, .bf16⟩
  | 7 => ⟨S2x4096x4x64, .bf16⟩
  | 8 => ⟨S4096, .i32⟩
  | 9 => ⟨S_, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S4096, .i32⟩
  | 29 => ⟨S_, .i32⟩
  | 30 => ⟨S_, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i1⟩
  | 37 => ⟨S4096, .i32⟩
  | 38 => ⟨S4096, .i32⟩
  | 39 => ⟨S_, .i32⟩
  | 40 => ⟨S4096, .i32⟩
  | 41 => ⟨S4096, .i1⟩
  | 42 => ⟨S4096, .i1⟩
  | 43 => ⟨S_, .i32⟩
  | 44 => ⟨S4096, .i32⟩
  | 45 => ⟨S4096, .i32⟩
  | 46 => ⟨S4096, .i32⟩
  | 47 => ⟨S1x4096, .i32⟩
  | 48 => ⟨S4096x4096, .i32⟩
  | 49 => ⟨S4096x4096, .i32⟩
  | 50 => ⟨S4096x4096, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x4096, .i32⟩
  | 58 => ⟨S1x4096, .i32⟩
  | 59 => ⟨S_, .i32⟩
  | 60 => ⟨S1x4096, .i32⟩
  | 61 => ⟨S1x4096, .i1⟩
  | 62 => ⟨S_, .i32⟩
  | 63 => ⟨S1x4096, .i32⟩
  | 64 => ⟨S1x4096, .i1⟩
  | 65 => ⟨S_, .i32⟩
  | 66 => ⟨S_, .i1⟩
  | 67 => ⟨S1x4096, .i1⟩
  | 68 => ⟨S1x4096, .i1⟩
  | 69 => ⟨S1x4096, .i1⟩
  | 70 => ⟨S1x4096, .i32⟩
  | 71 => ⟨S1x4096, .i32⟩
  | 72 => ⟨S1x4096, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S4096x1, .i32⟩
  | 80 => ⟨S4096x1, .i32⟩
  | 81 => ⟨S_, .i32⟩
  | 82 => ⟨S4096x1, .i32⟩
  | 83 => ⟨S4096x1, .i1⟩
  | 84 => ⟨S_, .i32⟩
  | 85 => ⟨S4096x1, .i32⟩
  | 86 => ⟨S4096x1, .i1⟩
  | 87 => ⟨S_, .i32⟩
  | 88 => ⟨S_, .i1⟩
  | 89 => ⟨S4096x1, .i1⟩
  | 90 => ⟨S4096x1, .i1⟩
  | 91 => ⟨S4096x1, .i1⟩
  | 92 => ⟨S4096x1, .i32⟩
  | 93 => ⟨S4096x1, .i32⟩
  | 94 => ⟨S4096x1, .i32⟩
  | 95 => ⟨S4096x4096, .i32⟩
  | 96 => ⟨S4096x4096, .i32⟩
  | 97 => ⟨S4096x4096, .i1⟩
  | 98 => ⟨S4096x4096, .i1⟩
  | 99 => ⟨S2x4x4096x4096, .f32⟩
  | 100 => ⟨S2x4x4096x4096, .bf16⟩
  | 101 => ⟨S2x4x4096x4096, .f32⟩
  | 102 => ⟨S_, .f32⟩
  | 103 => ⟨S2x4x4096x4096, .f32⟩
  | 104 => ⟨S2x4x4096x4096, .f32⟩
  | 105 => ⟨S1x1x4096x4096, .i1⟩
  | 106 => ⟨S_, .f32⟩
  | 107 => ⟨S_, .f32⟩
  | 108 => ⟨S2x4x4096x4096, .i1⟩
  | 109 => ⟨S2x4x4096x4096, .f32⟩
  | 110 => ⟨S2x4x4096x4096, .f32⟩
  | 111 => ⟨S_, .f32⟩
  | 112 => ⟨S2x4x4096, .f32⟩
  | 113 => ⟨S2x4x4096x1, .f32⟩
  | 114 => ⟨S2x4x4096x4096, .f32⟩
  | 115 => ⟨S2x4x4096x4096, .f32⟩
  | 116 => ⟨S2x4x4096x4096, .f32⟩
  | 117 => ⟨S_, .i1⟩
  | 118 => ⟨S4096, .i1⟩
  | 119 => ⟨S1x1x4096x1, .i1⟩
  | 120 => ⟨S_, .f32⟩
  | 121 => ⟨S2x4x4096, .f32⟩
  | 122 => ⟨S2x4x4096x1, .f32⟩
  | 123 => ⟨S_, .f32⟩
  | 124 => ⟨S_, .f32⟩
  | 125 => ⟨S2x4x4096x1, .i1⟩
  | 126 => ⟨S2x4x4096x1, .f32⟩
  | 127 => ⟨S2x4x4096x1, .f32⟩
  | _ => ⟨S2x4096x512, .bf16⟩

abbrev hbmTy0_1 (i : Nat) : BufTy := match i % 128 with
  | 0 => ⟨S2x4x4096x4096, .f32⟩
  | 1 => ⟨S2x4x4096x4096, .f32⟩
  | 2 => ⟨S1x1x4096x1, .i1⟩
  | 3 => ⟨S_, .f32⟩
  | 4 => ⟨S_, .f32⟩
  | 5 => ⟨S2x4x4096x4096, .i1⟩
  | 6 => ⟨S2x4x4096x4096, .f32⟩
  | 7 => ⟨S2x4x4096x4096, .f32⟩
  | 8 => ⟨S2x4096x4x64, .f32⟩
  | 9 => ⟨S2x4x64x4096, .f32⟩
  | 10 => ⟨S2x4096x4x64, .f32⟩
  | 11 => ⟨S2x4096x256, .f32⟩
  | 12 => ⟨S256x512, .f32⟩
  | 13 => ⟨S2x4096x512, .f32⟩
  | _ => ⟨S2x4096x512, .bf16⟩

abbrev hbmTy (i : Nat) : BufTy := match i / 128 with
  | 0 => hbmTy0_0 i
  | 1 => hbmTy0_1 i
  | _ => ⟨S2x4096x512, .bf16⟩

abbrev bufTy : (tb : Table) → Fin (tcTables nBuf tb) → BufTy
  | .hbm, ⟨i, _⟩ => hbmTy i
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Common.lean ====
/- The schedule of the kernel's remote copies: the devices' places, the eighteen channels by which a device sends its
   key/value block on, the contents the copies deliver, the semaphore cells with their duties and payloads, what each
   device owes at launch and the levels that order the waits.

   A device `c = 4·z + i` is place `i` of the ring of plane `z`. Along the planes (channels `dn h`, `up h`) it passes
   on the blocks of its own column, and around the ring (channels `a1`, `b1`, then `a2`, `b2`) the column it has
   collected to its right and left neighbours and, in a second hop, on to the place opposite. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Places -/

set_option backward.proofsInPublic true in
/-- The plane of a device. -/
def zs (c : Dev nD) : Fin 4 := ⟨c.val / 4, Nat.div_lt_of_lt_mul c.isLt⟩
set_option backward.proofsInPublic true in
/-- The ring place of a device. -/
def is (c : Dev nD) : Fin 4 := ⟨c.val % 4, Nat.mod_lt _ (by decide)⟩
set_option backward.proofsInPublic true in
/-- The device of plane `z` at ring place `i`. -/
def dv (z i : Fin 4) : Dev nD := ⟨4 * z.val + i.val, by have := z.isLt; have := i.isLt; show _ < 16; omega⟩

/-- The four neighbours: `0` the right and `1` the left one in the ring, `2` the next plane's and `3` the plane's
    before (around the ends of the planes for want of one, where nothing is sent). -/
def peer (δ : Fin 4) (c : Dev nD) : Dev nD :=
  match δ with
  | 0 => dv (zs c) (is c + 1)
  | 1 => dv (zs c) (is c + 3)
  | 2 => dv (zs c + 1) (is c)
  | 3 => dv (zs c + 3) (is c)

/-- The direction back. -/
def opp : Fin 4 → Fin 4 | 0 => 1 | 1 => 0 | 2 => 3 | 3 => 2

/-- The directions in which a device has a neighbour. -/
def dirs (c : Dev nD) : Finset (Fin 4) :=
  match zs c with
  | 0 => {0, 1, 2}
  | 1 => {0, 1, 2, 3}
  | 2 => {0, 1, 2, 3}
  | 3 => {0, 1, 3}

theorem opp_opp (δ : Fin 4) : opp (opp δ) = δ := by revert δ; decide
theorem peer_opp (δ : Fin 4) (c : Dev nD) : peer (opp δ) (peer δ c) = c := by revert δ c; decide
theorem opp_mem_dirs (δ : Fin 4) (c : Dev nD) (h : δ ∈ dirs c) : opp δ ∈ dirs (peer δ c) := by revert δ c; decide

/-! ## Channels -/

/-- The channels: along the planes downwards and upwards (`h` hops on), around the ring to the right and to the left,
    and the second hop to the right and to the left. -/
inductive Ch
  | dn (h : Fin 3) | up (h : Fin 3) | a1 (s : Fin 4) | b1 (s : Fin 4) | a2 (j : Fin 2) | b2 (j : Fin 2)
deriving DecidableEq

/-- The channels one by one. -/
def chs : List Ch := [.dn 0, .dn 1, .dn 2, .up 0, .up 1, .up 2, .a1 0, .a1 1, .a1 2, .a1 3, .b1 0, .b1 1, .b1 2, .b1 3, .a2 0, .a2 1, .b2 0, .b2 1]
instance : Fintype Ch := ⟨chs.toFinset, by intro k; cases k <;> (rename_i h; revert h; decide)⟩
theorem chs_univ : (Finset.univ : Finset Ch) = chs.toFinset := by decide
theorem chs_nodup : chs.Nodup := by decide

/-- The direction a channel leads. -/
def Ch.dir : Ch → Fin 4 | .dn _ => 2 | .up _ => 3 | .a1 _ => 0 | .b1 _ => 1 | .a2 _ => 0 | .b2 _ => 1

/-- The device a channel leads to. -/
abbrev tgt (c : Dev nD) (k : Ch) : Dev nD := peer k.dir c
/-- The device a channel leads from. -/
abbrev fro (c : Dev nD) (k : Ch) : Dev nD := peer (opp k.dir) c

/-- Whether device `c` sends by channel `k`: `h` hops down need a block of a plane `h` before and a plane after. -/
def act (c : Dev nD) : Ch → Bool
  | .dn h => decide (h.val ≤ (zs c).val ∧ (zs c).val ≤ 2)
  | .up h => decide (1 ≤ (zs c).val ∧ (zs c).val + h.val ≤ 3)
  | _ => true
/-- Whether device `c` receives by channel `k`. -/
def actR (c : Dev nD) : Ch → Bool
  | .dn h => decide (h.val < (zs c).val)
  | .up h => decide ((zs c).val + h.val < 3)
  | _ => true

theorem act_to (c : Dev nD) (k : Ch) (h : act c k = true) : actR (tgt c k) k = true := by revert c k; decide
theorem act_fro (c : Dev nD) (k : Ch) : act (fro c k) k = actR c k := by revert c k; decide
theorem actR_fro (c : Dev nD) (k : Ch) (h : actR c k = true) : act (fro c k) k = true := by revert c k; decide

/-! ## Slots: where the blocks lie -/

/-- A block's place in a device's memory: slot `s` of the column buffer (the block of plane `s`), or slot `s` of the
    ring buffer. -/
inductive Slot
  | z (s : Fin 4) | p (s : Fin 12)
deriving DecidableEq

instance : Fintype Slot := ⟨(List.ofFn Slot.z ++ List.ofFn Slot.p).toFinset, by intro k; cases k <;> (rename_i h; revert h; decide)⟩

abbrev zM : Memref sig .tc .vmem S4x2x256x512 .bf16 := Memref.whole cc0_scratch0
abbrev pM : Memref sig .tc .vmem S12x2x256x512 .bf16 := Memref.whole cc0_scratch1
abbrev sM : Memref sig .tc .vmem S2048x1024 .f32 := Memref.whole cc0_scratch2
abbrev cM : Memref sig .tc .vmem S512x256 .bf16 := Memref.whole cc0_scratch3

theorem inbZ (s : Fin 4) : ∀ a, (![s.val, 0, 0, 0] : Fin 4 → ℕ) a + (S1x2x256x512.size) a ≤ S4x2x256x512.size a := by
  revert s; decide
theorem inbP (s : Fin 12) : ∀ a, (![s.val, 0, 0, 0] : Fin 4 → ℕ) a + (S1x2x256x512.size) a ≤ S12x2x256x512.size a := by
  revert s; decide

set_option backward.proofsInPublic true in
abbrev rZ (s : Fin 4) : Rect S4x2x256x512 := Rect.unit (s := S4x2x256x512) ![s.val, 0, 0, 0] S1x2x256x512.size (inbZ s)
set_option backward.proofsInPublic true in
abbrev rP (s : Fin 12) : Rect S12x2x256x512 := Rect.unit (s := S12x2x256x512) ![s.val, 0, 0, 0] S1x2x256x512.size (inbP s)

set_option backward.proofsInPublic true in
/-- The memref of a slot, as the copies name it. -/
abbrev slotM : Slot → Memref sig .tc .vmem S2x256x512 .bf16
  | .z s => (zM.slice (rZ s) (fun _ => rfl)).squeeze S2x256x512 squeezes_S1x2x256x512_S2x256x512
  | .p s => (pM.slice (rP s) (fun _ => rfl)).squeeze S2x256x512 squeezes_S1x2x256x512_S2x256x512

set_option backward.proofsInPublic true in
/-- The slot a channel reads on the sender. -/
def srcSlot (c : Dev nD) : Ch → Slot
  | .dn h => .z (zs c - ⟨h.val, by have := h.isLt; omega⟩)
  | .up h => .z (zs c + ⟨h.val, by have := h.isLt; omega⟩)
  | .a1 s => .z s
  | .b1 s => .z s
  | .a2 j => .p ⟨j.val, by have := j.isLt; omega⟩
  | .b2 j => .p ⟨6 + j.val, by have := j.isLt; omega⟩
set_option backward.proofsInPublic true in
/-- The slot a channel writes on the receiver. -/
def dstSlot (c : Dev nD) : Ch → Slot
  | .dn h => .z (zs c - ⟨h.val + 1, by have := h.isLt; omega⟩)
  | .up h => .z (zs c + ⟨h.val + 1, by have := h.isLt; omega⟩)
  | .a1 s => .p ⟨s.val, by have := s.isLt; omega⟩
  | .b1 s => .p ⟨4 + s.val, by have := s.isLt; omega⟩
  | .a2 j => .p ⟨8 + j.val, by have := j.isLt; omega⟩
  | .b2 j => .p ⟨10 + j.val, by have := j.isLt; omega⟩

/-- The device whose block a slot is to hold. -/
def org (c : Dev nD) : Slot → Dev nD
  | .z s => dv s (is c)
  | .p s => dv ⟨s.val % 4, Nat.mod_lt _ (by decide)⟩ (is c + (if s.val < 4 then 3 else if s.val < 8 then 1 else 2))

/-- The slot a channel writes, from the sender's side. -/
def dstOf (c : Dev nD) : Ch → Slot
  | .dn h => srcSlot c (.dn h)
  | .up h => srcSlot c (.up h)
  | .a1 s => .p ⟨s.val, by have := s.isLt; omega⟩
  | .b1 s => .p ⟨4 + s.val, by have := s.isLt; omega⟩
  | .a2 j => .p ⟨8 + j.val, by have := j.isLt; omega⟩
  | .b2 j => .p ⟨10 + j.val, by have := j.isLt; omega⟩
theorem dstSlot_tgt (c : Dev nD) (k : Ch) : dstSlot (tgt c k) k = dstOf c k := by revert c k; decide

theorem org_to (c : Dev nD) (k : Ch) (h : act c k = true) : org (tgt c k) (dstSlot (tgt c k) k) = org c (srcSlot c k) := by
  revert c k; decide

/-! ## Semaphores -/

/-- The barrier's cell of a device. -/
abbrev barS : Sem sig := (SemArray.scalar (sig.barrier 0 rfl) : Sems sig S_).sem

/-- The semaphore a channel's sender waits on. -/
abbrev sndS : Ch → DmaSem sig
  | .dn 0 => ⟨6, by decide⟩ | .dn 1 => ⟨7, by decide⟩ | .dn 2 => ⟨8, by decide⟩
  | .up 0 => ⟨12, by decide⟩ | .up 1 => ⟨13, by decide⟩ | .up 2 => ⟨14, by decide⟩
  | .a1 0 => ⟨18, by decide⟩ | .a1 1 => ⟨19, by decide⟩ | .a1 2 => ⟨20, by decide⟩ | .a1 3 => ⟨21, by decide⟩
  | .b1 0 => ⟨26, by decide⟩ | .b1 1 => ⟨27, by decide⟩ | .b1 2 => ⟨28, by decide⟩ | .b1 3 => ⟨29, by decide⟩
  | .a2 0 => ⟨34, by decide⟩ | .a2 1 => ⟨35, by decide⟩
  | .b2 0 => ⟨38, by decide⟩ | .b2 1 => ⟨39, by decide⟩
/-- The semaphore a channel's receiver waits on. -/
abbrev rcvS : Ch → DmaSem sig
  | .dn 0 => ⟨9, by decide⟩ | .dn 1 => ⟨10, by decide⟩ | .dn 2 => ⟨11, by decide⟩
  | .up 0 => ⟨15, by decide⟩ | .up 1 => ⟨16, by decide⟩ | .up 2 => ⟨17, by decide⟩
  | .a1 0 => ⟨22, by decide⟩ | .a1 1 => ⟨23, by decide⟩ | .a1 2 => ⟨24, by decide⟩ | .a1 3 => ⟨25, by decide⟩
  | .b1 0 => ⟨30, by decide⟩ | .b1 1 => ⟨31, by decide⟩ | .b1 2 => ⟨32, by decide⟩ | .b1 3 => ⟨33, by decide⟩
  | .a2 0 => ⟨36, by decide⟩ | .a2 1 => ⟨37, by decide⟩
  | .b2 0 => ⟨40, by decide⟩ | .b2 1 => ⟨41, by decide⟩

/-- A device's cells: the barrier's and each channel's two. -/
inductive CI
  | bar | snd (k : Ch) | rcv (k : Ch)
deriving DecidableEq

def cis : List CI := .bar :: chs.map .snd ++ chs.map .rcv
instance : Fintype CI := ⟨cis.toFinset, by intro i; cases i with | bar => decide | snd k => revert k; decide | rcv k => revert k; decide⟩
theorem cis_univ : (Finset.univ : Finset CI) = cis.toFinset := by decide
theorem cis_nodup : cis.Nodup := by decide

/-- The semaphore of a cell. -/
abbrev csem : CI → SemLoc sig | .bar => .reg barS | .snd k => .dma (sndS k) | .rcv k => .dma (rcvS k)
theorem csem_injective : Function.Injective csem := by decide +kernel

/-- Which of the cells a semaphore is. -/
def dec (g : SemLoc sig) : Option CI := cis.find? fun i => decide (csem i = g)
theorem dec_csem (i : CI) : dec (csem i) = some i := by revert i; decide +kernel

abbrev kcell (ci : Dev nD × CI) : GSem nD τ sig := ((ci.1 : Thread nD τ), csem ci.2)
abbrev barCell (c : Dev nD) : GSem nD τ sig := kcell (c, .bar)
abbrev sndCell (c : Dev nD) (k : Ch) : GSem nD τ sig := kcell (c, .snd k)
abbrev rcvCell (c : Dev nD) (k : Ch) : GSem nD τ sig := kcell (c, .rcv k)

/-- The credit of one block's copy. -/
def N : ℕ := (slotM (.z 0)).view.dmaCredit
theorem N_pos : 0 < N := View.dmaCredit_pos _ (by decide)
theorem slot_credit (sl : Slot) (s : DmaSem sig) : (slotM sl).view.amount (.dma s) = N := by cases sl <;> rfl

/-! ## Contents -/

/-- Device `c`'s staged keys and values. -/
def Kst (c : Dev nD) : (cc0_stg2_0 : Ref sig .tc).ty.Contents (Elt F) := iblk m c 2 t0_0
def Vst (c : Dev nD) : (cc0_stg3_0 : Ref sig .tc).ty.Contents (Elt F) := iblk m c 3 t0_0

set_option backward.proofsInPublic true in
/-- A device's block: its keys beside its values. -/
def kv (c : Dev nD) : Vec F S2x256x512 .bf16 := fun i =>
  if h : (i 2).val < 256 then (k0_pay3 (Kst m c)) (ix4 (0 : Fin 1) (i 0) (i 1) (⟨(i 2).val, h⟩ : Fin 256))
  else (k0_pay4 (Vst m c)) (ix4 (0 : Fin 1) (i 0) (i 1) (⟨(i 2).val - 256, by have := (i 2).isLt; change _ < 512 at this; omega⟩ : Fin 256))

/-- The column buffer of device `c`, full. -/
def Zc (c : Dev nD) : S4x2x256x512.Idx → Elt F .bf16 := fun i => kv m (org c (.z (i 0))) (ix3 (i 1) (i 2) (i 3))
/-- The ring buffer of device `c`, full. -/
def Pc (c : Dev nD) : S12x2x256x512.Idx → Elt F .bf16 := fun i => kv m (org c (.p (i 0))) (ix3 (i 1) (i 2) (i 3))

/-- The contents a slot's buffer is to have. -/
def Cc (c : Dev nD) : (sl : Slot) → Buf (Elt F) ((slotM sl).view.loc (c : Thread nD τ))
  | .z _ => Zc m c
  | .p _ => Pc m c

theorem read_slot (c : Dev nD) (sl : Slot) : (slotM sl).view.read (Elt F) (Cc m c sl) = kv m (org c sl) := by
  funext x
  have hx : x = ix3 (x 0) (x 1) (x 2) := ValueIdx.eq_ix3 x
  cases sl with
  | z s =>
    show Zc m c ((rZ s).emb (Shape.reshapeEquiv _ x)) = _
    rw [Shape.reshapeEquiv_cons_one]
    have e : (rZ s).emb (Fin.cons (⟨0, Nat.one_pos⟩ : Fin 1) x) = ix4 s (x 0) (x 1) (x 2) := by
      funext a; apply Fin.ext; fin_cases a
      · show s.val + 1 * 0 = s.val; omega
      · show 0 + 1 * (x 0).val = (x 0).val; omega
      · show 0 + 1 * (x 1).val = (x 1).val; omega
      · show 0 + 1 * (x 2).val = (x 2).val; omega
    exact (congrArg (Zc m c) e).trans (congrArg (kv m (org c (.z s))) hx.symm)
  | p s =>
    show Pc m c ((rP s).emb (Shape.reshapeEquiv _ x)) = _
    rw [Shape.reshapeEquiv_cons_one]
    have e : (rP s).emb (Fin.cons (⟨0, Nat.one_pos⟩ : Fin 1) x) = ix4 s (x 0) (x 1) (x 2) := by
      funext a; apply Fin.ext; fin_cases a
      · show s.val + 1 * 0 = s.val; omega
      · show 0 + 1 * (x 0).val = (x 0).val; omega
      · show 0 + 1 * (x 1).val = (x 1).val; omega
      · show 0 + 1 * (x 2).val = (x 2).val; omega
    exact (congrArg (Pc m c) e).trans (congrArg (kv m (org c (.p s))) hx.symm)

/-- What a copy by channel `k` leaves in its destination, whatever was there, is the destination's part of the contents
    the receiver's buffer is to have. -/
theorem landed (c : Dev nD) (k : Ch) (h : act c k = true)
    (fd : Buf (Elt F) ((slotM (dstSlot (tgt c k) k)).view.loc (tgt c k : Thread nD τ))) :
    ∀ i ∈ (slotM (dstSlot (tgt c k) k)).view.set,
      (slotM (dstSlot (tgt c k) k)).view.write (Elt F) fd ((slotM (srcSlot c k)).view.read (Elt F) (Cc m c (srcSlot c k))) Finset.univ i
        = Cc m (tgt c k) (dstSlot (tgt c k) k) i := by
  intro i hi
  rw [read_slot, ← org_to c k h, ← read_slot, View.write_read_eq_piecewise]
  exact Finset.piecewise_eq_of_mem _ _ _ hi

/-! ## The assertions about slots -/

/-- Device `c` holds the share `q` of a slot, at its buffer's contents `f`; -/
def sF (c : Dev nD) (sl : Slot) (q : PosShare TreeShare) (f : Buf (Elt F) ((slotM sl).view.loc (c : Thread nD τ))) : sProp 𝕄 :=
  (slotM sl).view.loc (c : Thread nD τ) ↦[(slotM sl).view.set]{q} f
/-- at the contents it is to have. -/
def sC (c : Dev nD) (sl : Slot) (q : PosShare TreeShare) : sProp 𝕄 := sF c sl q (Cc m c sl)

omit [FloatOps F] in
instance sF_storable (c : Dev nD) (sl) (q) (f) : BI.Storable (upEmb : UEmb _ 𝕄) (sF (F := F) c sl q f) := by unfold sF; infer_instance
instance sC_storable (c : Dev nD) (sl) (q) : BI.Storable (upEmb : UEmb _ 𝕄) (sC (F := F) m c sl q) := by unfold sC; infer_instance

/-- The share of its source a channel's copy holds while it runs. -/
def shr : Ch → PosShare TreeShare
  | .a1 _ => fullShare.left.left
  | .b1 _ => fullShare.left.right
  | .dn _ => fullShare.right.left.left
  | .up _ => fullShare.right.left.right
  | .a2 _ => fullShare.left
  | .b2 _ => fullShare.left

/-! ## The schedule -/

/-- What the neighbour a channel leads to hands over for it: its slot the channel writes. -/
def hand (c : Dev nD) (k : Ch) : sProp 𝕄 :=
  if act c k then iprop(∃ f, sF (tgt c k) (dstSlot (tgt c k) k) fullShare f) else iprop(emp)

/-- What the barrier signal from direction `δ` hands over: the destinations of the channels that lead there. -/
def barPay (c : Dev nD) : Fin 4 → sProp 𝕄
  | 0 => iprop(hand c (.a1 0) ∗ hand c (.a1 1) ∗ hand c (.a1 2) ∗ hand c (.a1 3) ∗ hand c (.a2 0) ∗ hand c (.a2 1))
  | 1 => iprop(hand c (.b1 0) ∗ hand c (.b1 1) ∗ hand c (.b1 2) ∗ hand c (.b1 3) ∗ hand c (.b2 0) ∗ hand c (.b2 1))
  | 2 => iprop(hand c (.dn 0) ∗ hand c (.dn 1) ∗ hand c (.dn 2))
  | 3 => iprop(hand c (.up 0) ∗ hand c (.up 1) ∗ hand c (.up 2))
/-- What the departure of a channel's copy gives back, -/
def sndPay (c : Dev nD) (k : Ch) : sProp 𝕄 := sC m c (srcSlot c k) (shr k)
/-- and what its arrival gives. -/
def rcvPay (c : Dev nD) (k : Ch) : sProp 𝕄 := sC m c (dstSlot c k) fullShare

omit [FloatOps F] in
instance hand_storable (c : Dev nD) (k) : BI.Storable (upEmb : UEmb _ 𝕄) (hand (F := F) c k) := by
  unfold hand; split <;> infer_instance
omit [FloatOps F] in
instance barPay_storable (c : Dev nD) (δ) : BI.Storable (upEmb : UEmb _ 𝕄) (barPay (F := F) c δ) := by
  unfold barPay; split <;> infer_instance

def dutiesOf (c : Dev nD) : Option CI → Finset (Fin 4)
  | some .bar => dirs c
  | some (.snd k) => if act c k then {0} else ∅
  | some (.rcv k) => if actR c k then {0} else ∅
  | none => ∅
def amountOf' : Option CI → ℕ
  | some .bar => 1
  | _ => N
def payOf (c : Dev nD) (d : Fin 4) : Option CI → sProp 𝕄
  | some .bar => barPay c d
  | some (.snd k) => sndPay m c k
  | some (.rcv k) => rcvPay m c k
  | none => iprop(emp)

/-- One round: a barrier cell has one duty of one unit for each direction with a neighbour, a channel's two cells one
    duty of the block's credit each if the channel is used. -/
def Rd : Rounds.Schedule (GSem nD τ sig) (Fin 4) 𝕄 where
  duties g r := if r = 0 ∧ g.1.2 = .tc then dutiesOf g.1.1 (dec g.2) else ∅
  unitless _ := False
  amount g _ _ := amountOf' (dec g.2)
  payload g _ d := payOf m g.1.1 d (dec g.2)
  amount_pos g _ _ _ := by
    unfold amountOf'; split
    · exact Nat.one_pos
    · exact N_pos

instance Rd_payload_storable (g : GSem nD τ sig) (r : ℕ) (d : Fin 4) :
    BI.Storable (upEmb : UEmb _ 𝕄) ((Rd (F := F) m).payload g r d) := by
  show BI.Storable upEmb (payOf m g.1.1 d (dec g.2))
  unfold payOf sndPay rcvPay
  split <;> infer_instance

section Tables
variable (c : Dev nD) (k : Ch)

theorem duties_cell (i : CI) : (Rd (F := F) m).duties (kcell (c, i)) 0 = dutiesOf c (some i) := by
  show (if 0 = 0 ∧ ((c : Thread nD τ)).2 = .tc then dutiesOf c (dec (csem i)) else ∅) = _
  rw [if_pos ⟨rfl, rfl⟩, dec_csem]
theorem duties_later (g : GSem nD τ sig) : ∀ r, 1 ≤ r → (Rd (F := F) m).duties g r = ∅ :=
  fun r hr => by dsimp only [Rd]; rw [if_neg fun h => by omega]
theorem duties_snd (h : act c k = true) : (Rd (F := F) m).duties (sndCell c k) 0 = {0} := by
  rw [duties_cell]; exact if_pos h
theorem duties_rcv (h : actR c k = true) : (Rd (F := F) m).duties (rcvCell c k) 0 = {0} := by
  rw [duties_cell]; exact if_pos h
theorem duties_bar : (Rd (F := F) m).duties (barCell c) 0 = dirs c := duties_cell m c .bar
theorem amount_bar (d) : (Rd (F := F) m).amount (barCell c) 0 d = 1 := by
  show amountOf' (dec (csem .bar)) = 1; rw [dec_csem]; rfl
theorem amount_snd (d) : (Rd (F := F) m).amount (sndCell c k) 0 d = N := by
  show amountOf' (dec (csem (.snd k))) = N; rw [dec_csem]; rfl
theorem amount_rcv (d) : (Rd (F := F) m).amount (rcvCell c k) 0 d = N := by
  show amountOf' (dec (csem (.rcv k))) = N; rw [dec_csem]; rfl
theorem payload_bar (d) : (Rd (F := F) m).payload (barCell c) 0 d = barPay c d := by
  show payOf m c d (dec (csem .bar)) = _; rw [dec_csem]; rfl
theorem payload_snd (d) : (Rd (F := F) m).payload (sndCell c k) 0 d = sndPay m c k := by
  show payOf m c d (dec (csem (.snd k))) = _; rw [dec_csem]; rfl
theorem payload_rcv (d) : (Rd (F := F) m).payload (rcvCell c k) 0 d = rcvPay m c k := by
  show payOf m c d (dec (csem (.rcv k))) = _; rw [dec_csem]; rfl
theorem expect_bar : (Rd (F := F) m).expect (barCell c) 0 = (dirs c).card := by
  unfold Schedule.expect Schedule.amountOf
  rw [duties_bar, Finset.sum_congr rfl fun d _ => amount_bar m c d, Finset.sum_const, smul_eq_mul, Nat.mul_one]
theorem expect_snd (h : act c k = true) : (Rd (F := F) m).expect (sndCell c k) 0 = N := by
  unfold Schedule.expect Schedule.amountOf; rw [duties_snd m c k h, Finset.sum_singleton, amount_snd]
theorem expect_rcv (h : actR c k = true) : (Rd (F := F) m).expect (rcvCell c k) 0 = N := by
  unfold Schedule.expect Schedule.amountOf; rw [duties_rcv m c k h, Finset.sum_singleton, amount_rcv]
theorem rest_bar : bigSep ((Rd (F := F) m).duties (barCell c) 0 \ ∅) (fun d => (Rd (F := F) m).payload (barCell c) 0 d)
    = bigSep (dirs c) (barPay (F := F) c) := by
  rw [Finset.sdiff_empty, duties_bar]; exact congrArg _ (funext fun d => payload_bar m c d)
theorem rest_snd (h : act c k = true) : bigSep ((Rd (F := F) m).duties (sndCell c k) 0 \ ∅) (fun d => (Rd (F := F) m).payload (sndCell c k) 0 d)
    = sndPay m c k := by
  rw [Finset.sdiff_empty, duties_snd m c k h, bigSep_singleton, payload_snd]
theorem rest_rcv (h : actR c k = true) : bigSep ((Rd (F := F) m).duties (rcvCell c k) 0 \ ∅) (fun d => (Rd (F := F) m).payload (rcvCell c k) 0 d)
    = rcvPay m c k := by
  rw [Finset.sdiff_empty, duties_rcv m c k h, bigSep_singleton, payload_rcv]

end Tables

/-! ## What each device owes at launch, in the order it pays; the levels -/

/-- A payment: the barrier signal in a direction, or the copy by a channel. -/
inductive Ob
  | sig (δ : Fin 4) | cpy (k : Ch)
deriving DecidableEq

/-- The device and the cell a payment goes to, -/
abbrev Ob.at (c : Dev nD) : Ob → Dev nD × CI
  | .sig δ => (peer δ c, .bar)
  | .cpy k => (tgt c k, .rcv k)
/-- its amount, -/
def amt : CI → ℕ | .bar => 1 | _ => N
/-- and the payments of a list as dues: the head is the last summand. -/
def OL (c : Dev nD) : List Ob → CellTallies nD τ sig Unit
  | [] => 0
  | o :: l => OL c l + tallyAt (kcell (o.at c)) () (amt (o.at c).2)

/-- A device's payments in program order, by its plane: the signals, then the copies. -/
def order : Fin 4 → List Ob
  | 0 => [.sig 1, .sig 0, .sig 2, .cpy (.a1 0), .cpy (.b1 0), .cpy (.dn 0), .cpy (.a1 1), .cpy (.b1 1), .cpy (.a1 2), .cpy (.b1 2), .cpy (.a1 3), .cpy (.b1 3),
      .cpy (.a2 0), .cpy (.a2 1), .cpy (.b2 0), .cpy (.b2 1)]
  | 1 => [.sig 1, .sig 0, .sig 3, .sig 2, .cpy (.a1 1), .cpy (.b1 1), .cpy (.dn 0), .cpy (.up 0), .cpy (.a1 0), .cpy (.b1 0), .cpy (.a1 2), .cpy (.b1 2),
      .cpy (.dn 1), .cpy (.up 1), .cpy (.a1 3), .cpy (.b1 3), .cpy (.up 2), .cpy (.a2 0), .cpy (.a2 1), .cpy (.b2 0), .cpy (.b2 1)]
  | 2 => [.sig 1, .sig 0, .sig 3, .sig 2, .cpy (.a1 2), .cpy (.b1 2), .cpy (.dn 0), .cpy (.up 0), .cpy (.a1 1), .cpy (.b1 1), .cpy (.a1 3), .cpy (.b1 3),
      .cpy (.dn 1), .cpy (.up 1), .cpy (.a1 0), .cpy (.b1 0), .cpy (.dn 2), .cpy (.a2 0), .cpy (.a2 1), .cpy (.b2 0), .cpy (.b2 1)]
  | 3 => [.sig 1, .sig 0, .sig 3, .cpy (.a1 3), .cpy (.b1 3), .cpy (.up 0), .cpy (.a1 2), .cpy (.b1 2), .cpy (.a1 1), .cpy (.b1 1), .cpy (.a1 0), .cpy (.b1 0),
      .cpy (.a2 0), .cpy (.a2 1), .cpy (.b2 0), .cpy (.b2 1)]

def O₀ (c : Dev nD) : CellTallies nD τ sig Unit := OL c (order (zs c))

def L (g : GSem nD τ sig) : Finset Unit := if g.1.2 = .tc then {()} else ∅
/-- The level of a cell: the barrier's first, then the hops along the planes, the first and the second hop around the
    ring; the senders' cells, on which nothing else waits, lowest. -/
def lev : CI → ℕ
  | .bar => 1
  | .snd _ => 0
  | .rcv (.dn h) => 2 + h.val
  | .rcv (.up h) => 2 + h.val
  | .rcv (.a1 _) => 5
  | .rcv (.b1 _) => 5
  | .rcv _ => 6
def lv (g : GSem nD τ sig) (_ : Unit) : ℕ := match dec g.2 with | some i => lev i | none => 0

/-- The level of the cell a payment goes to. -/
def levO : Ob → ℕ | .sig _ => 1 | .cpy k => lev (.rcv k)
theorem lev_at (c : Dev nD) (o : Ob) : lev (o.at c).2 = levO o := by cases o <;> rfl

theorem L_of_ne (g : GSem nD τ sig) (h : g.1.2 ≠ .tc) : L g = ∅ := if_neg h
theorem L_tc (c : Dev nD) (sm : SemLoc sig) : L ((c : Thread nD τ), sm) = {()} := if_pos rfl
theorem lv_cell (ci : Dev nD × CI) (u : Unit) : lv (kcell ci) u = lev ci.2 := by
  show (match dec (csem ci.2) with | some i => lev i | none => 0) = _; rw [dec_csem]

theorem OL_pos {c : Dev nD} {g : GSem nD τ sig} {u : Unit} : ∀ {l : List Ob}, 0 < OL c l g u → ∃ o ∈ l, g = kcell (o.at c)
  | [], h => absurd h (Nat.lt_irrefl 0)
  | o :: l, h => by
    unfold OL at h
    rw [Pi.add_apply, Finsupp.add_apply, tallyAt_apply] at h
    by_cases hg : g = kcell (o.at c) ∧ u = ()
    · exact ⟨o, List.mem_cons_self, hg.1⟩
    · rw [if_neg hg, Nat.add_zero] at h
      obtain ⟨o', ho, e⟩ := OL_pos h
      exact ⟨o', List.mem_cons_of_mem _ ho, e⟩

omit [FloatOps F] in
/-- A device may wait at a level below those of all it still owes. -/
theorem mayWait_OL (c : Dev nD) (sm : SemLoc sig) (n : ℕ) (hn : lv ((c : Thread nD τ), sm) () = n) (l : List Ob) (hl : ∀ o ∈ l, n < levO o) :
    (levAts L lv : sProp 𝕄) ⊢ MayWait (c : Thread nD τ) sm () (OL c l) :=
  MayOwe.of_cut (L := L) (lev := lv) n (fun p hp => by rw [Finset.mem_singleton.mp hp, L_tc]; exact Finset.mem_singleton_self _)
    (fun g u hg => by obtain ⟨o, _, rfl⟩ := OL_pos hg; rw [L_tc]; exact Finset.mem_singleton_self _)
    (fun p hp => by rw [Finset.mem_singleton.mp hp]; exact hn.le)
    (fun g u hg => by obtain ⟨o, ho, rfl⟩ := OL_pos hg; rw [lv_cell, lev_at]; exact hl o ho)

theorem order_lev (c : Dev nD) : ∀ o ∈ order (zs c), 0 < levO o := by generalize zs c = z; revert z; decide +kernel

omit [FloatOps F] in
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact mayWait_OL c _ 0 hq _ (order_lev c)
  · rw [MayWait_zero]; iintro -; iempintro

end Cert.AttnProof
-- ==== Proof.Steps.lean ====
/- One rule per effect of the exchange: a barrier signal, a copy sent by a channel, the wait for a copy's arrival, the
   wait for its departure, and the closing of a cell; the rules about slots (their shares, the buffers cut into them). -/
module

public import proofs.«01_k».proof.Proof.Common

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

abbrev 𝒱₀ : Variants := Variants.none

/-! ## What a device holds of the protocol -/

/-- The invariants of all cells, that each is at its first round, and the levels. -/
def recs : sProp 𝕄 :=
  iprop(bigSep Finset.univ (fun ci => iprop(cellInv ER (Rd m) (K ci) (kcell ci) ∗ reached ER (kcell ci) 0)) ∗ levAts L lv)

instance recs_persistent : BI.Persistent (recs (F := F) m K) := by unfold recs; infer_instance

theorem recs_both (ci : Dev nD × CI) : recs (F := F) m K ⊢ iprop(cellInv ER (Rd m) (K ci) (kcell ci) ∗ reached ER (kcell ci) 0) := by
  unfold recs
  rw [bigSep_univ_at _ ci]
  iintro ⟨⟨H, -⟩, -⟩
  iexact H
theorem recs_inv (ci : Dev nD × CI) : recs (F := F) m K ⊢ cellInv ER (Rd m) (K ci) (kcell ci) := by
  refine (recs_both m K ci).trans ?_
  iintro ⟨H, -⟩
  iexact H
theorem recs_reached (ci : Dev nD × CI) : recs (F := F) m K ⊢ reached ER (kcell ci) 0 := by
  refine (recs_both m K ci).trans ?_
  iintro ⟨-, H⟩
  iexact H
omit [FloatOps F] in
theorem mayWait_cell (c : Dev nD) (i : CI) (l : List Ob) (hl : ∀ o ∈ l, lev i < levO o) :
    (levAts L lv : sProp 𝕄) ⊢ MayWait (c : Thread nD τ) (csem i) () (OL c l) := mayWait_OL c (csem i) (lev i) (lv_cell (c, i) ()) l hl

theorem recs_wait (c : Dev nD) (i : CI) (l : List Ob) (hl : ∀ o ∈ l, lev i < levO o) :
    recs (F := F) m K ⊢ MayWait (c : Thread nD τ) (csem i) () (OL c l) := by
  unfold recs
  iintro ⟨-, H⟩
  iapply (mayWait_cell c i l hl)
  iexact H

/-- The right to signal in a direction; -/
def sigTok (c : Dev nD) (δ : Fin 4) : sProp 𝕄 := dutyTok ER (barCell (peer δ c)) 0 (opp δ)
/-- to send by a channel; -/
def sendTok (c : Dev nD) (k : Ch) : sProp 𝕄 := iprop(dutyTok ER (sndCell c k) 0 0 ∗ dutyTok ER (rcvCell (tgt c k) k) 0 0)
/-- a cell not yet waited on; -/
def posn (c : Dev nD) (i : CI) : sProp 𝕄 := atPos ER (kcell (c, i)) 0 ∅ 0
/-- a cell at zero for good; -/
def fin (c : Dev nD) (i : CI) : sProp 𝕄 := semVal (kcell (c, i)) 0
/-- the right to wait for the amount due on a cell; -/
def crd (c : Dev nD) (i : CI) : sProp 𝕄 := cred (tallyAt (kcell (c, i)) () (amt i))
/-- A channel ready to send by but for the neighbour's hand-over, -/
def pre (c : Dev nD) (k : Ch) : sProp 𝕄 := iprop(sendTok c k ∗ posn c (.snd k))
/-- ready, -/
def rdy (c : Dev nD) (k : Ch) : sProp 𝕄 := iprop(sendTok c k ∗ posn c (.snd k) ∗ hand c k)
/-- or on its way; -/
def sent (c : Dev nD) (k : Ch) : sProp 𝕄 := iprop(posn c (.snd k) ∗ crd c (.snd k))
/-- a channel by which a block is to arrive. -/
def due (c : Dev nD) (k : Ch) : sProp 𝕄 := iprop(posn c (.rcv k) ∗ crd c (.rcv k))
/-- The payments still due. -/
def ow (c : Dev nD) (l : List Ob) : sProp 𝕄 := iprop(∃ W, owes (c : Thread nD τ) (OL c l) W)

/-! ## The rules -/

theorem sig_step (c : Dev nD) (δ : Fin 4) (hδ : δ ∈ dirs c) {n : Dev nD} (hn : n = peer δ c) (l : List Ob)
    {α : Type} {Q : α → sProp 𝕄} {k : PUnit → Prog (TpuEff nD τ sig (Elt F) Λ₀ .tc) α} :
    recs m K ⊢ iprop(sigTok c δ -∗ barPay (peer δ c) (opp δ) -∗ ow c (.sig δ :: l)
      -∗ (ow c l -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n) barS 1) k) Q) := by
  subst hn
  iintro #HR Ht Hp Ho Hk
  unfold ow
  icases Ho with ⟨%W, HO⟩
  iapply (Rounds.wp_signal 𝒱₀ ER (Rd m) (c : Thread nD τ) none (dst := (peer δ c : Thread nD τ)) (κ := K (peer δ c, .bar))
      (d := opp δ) (by rw [duties_bar]; exact opp_mem_dirs δ c hδ) (amount_bar m (peer δ c) (opp δ)) () (OL c l) rfl) $$ [HO Ht Hp]
  · isplitr; · iapply (recs_inv m K (peer δ c, .bar)); iexact HR
    isplitl [HO]; · iexact HO
    isplitl [Ht]; · unfold sigTok; iexact Ht
    isplitl [Hp]; · rw [payload_bar]; iexact Hp
    iapply (recs_reached m K (peer δ c, .bar)); iexact HR
  iintro HO
  iapply Hk
  iexists W
  iexact HO

omit [FloatOps F] in
theorem hand_take (c : Dev nD) (k : Ch) (h : act c k = true) : hand (F := F) c k ⊢ iprop(∃ f, sF (tgt c k) (dstSlot (tgt c k) k) fullShare f) := by
  unfold hand; rw [if_pos h]

theorem send_step (c : Dev nD) (k : Ch) (ha : act c k = true) {n : Dev nD} (hn : n = tgt c k) (l : List Ob)
    {src dst : Memref sig .tc .vmem S2x256x512 .bf16} {sS sR : DmaSem sig}
    {ss ds : Slot} (hss : srcSlot c k = ss) (hds : dstOf c k = ds) {q : PosShare TreeShare} (hq : shr k = q) (hsrc : src = slotM ss) (hdst : dst = slotM ds) (hS : sS = sndS k) (hR : sR = rcvS k)
    {hsc : (dst : Memref sig (Dev.tc n : Thread nD τ).2.kind .vmem S2x256x512 .bf16).view.ref.isScScratch = false}
    {hs : src.view.WordExact} {hd : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α} :
    recs m K ⊢ iprop(rdy c k -∗ sC m c ss q -∗ ow c (.cpy k :: l)
      -∗ ((sent c k ∗ ow c l) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (Dev.tc n : Thread nD τ) dst (.dma sS) hsc) (.dma sR) hs hd hsem) kk) Q) := by
  subst hn hss hq
  rw [← dstSlot_tgt] at hds
  subst hds
  subst hsrc hdst hS hR
  iintro #HR Ht Hs Ho Hk
  unfold rdy
  icases Ht with ⟨Ht, Hpos, Hh⟩
  ihave Hh := (hand_take c k ha) $$ Hh
  unfold ow sendTok
  icases Ho with ⟨%W, HO⟩
  icases Hh with ⟨%fd, Hd⟩
  icases Ht with ⟨Ht1, Ht2⟩
  unfold sC sF
  iapply (Rounds.wp_send_pointsTo 𝒱₀ ER (Rd m) (c : Thread nD τ) none (κ₁ := K (c, .snd k)) (κ₂ := K (tgt c k, .rcv k))
    (r₁ := 0) (r₂ := 0) (d₁ := 0) (d₂ := 0) (fd := fd)
    (by rw [duties_snd m c k ha]; exact Finset.mem_singleton_self _) (by rw [duties_rcv m _ k (act_to c k ha)]; exact Finset.mem_singleton_self _)
    () () N (slot_credit _ _) (amount_snd m c k 0) (amount_rcv m (tgt c k) k 0) (OL c l) rfl (W := W)
    (by rw [payload_snd]; unfold sndPay sC sF; exact BI.Entails.refl _)
    (by rw [payload_rcv]; unfold rcvPay sC sF; exact Entails.of_eq (pointsTo_congr (landed m c k ha fd)))) $$ [Hs Hd HO Ht1 Ht2]
  · isplitr; · iapply (recs_inv m K (c, .snd k)); iexact HR
    isplitr; · iapply (recs_inv m K (tgt c k, .rcv k)); iexact HR
    isplitl [Hs]; · iexact Hs
    isplitl [Hd]; · iexact Hd
    isplitl [HO]; · iexact HO
    isplitl [Ht1]; · iexact Ht1
    isplitr; · iapply (recs_reached m K (c, .snd k)); iexact HR
    isplitl [Ht2]; · iexact Ht2
    iapply (recs_reached m K (tgt c k, .rcv k)); iexact HR
  iintro ⟨Hc, HO⟩
  iapply Hk
  isplitl [Hc Hpos]
  · unfold sent crd
    isplitl [Hpos]; · iexact Hpos
    iexact Hc
  iexists W
  iexact HO

/-- The wait for the arrival by channel `k`: the block, and the cell at zero for good. -/
theorem rcv_step (c : Dev nD) (k : Ch) (ha : actR c k = true) (l : List Ob) (hl : ∀ o ∈ l, lev (.rcv k) < levO o)
    {sR : DmaSem sig} (hR : sR = rcvS k) {src dst : Memref sig .tc .vmem S2x256x512 .bf16} (hdst : dst.view.dmaCredit = N) {ds : Slot} (hds : dstSlot c k = ds)
    {h1 : src.view.WordExact} {h2 : dst.view.WordExact}
    {α : Type} {Q : α → sProp 𝕄} {kk : PUnit → Prog (TpuEff nD τ sig (Elt F) Λ₀ .tc) α} :
    recs m K ⊢ iprop(due c k -∗ ow c l
      -∗ ((sC m c ds fullShare ∗ fin c (.rcv k) ∗ ow c l) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sR src dst h1 h2) kk) Q) := by
  subst hR hds
  iintro #HR Hd Ho Hk
  unfold ow due posn crd
  icases Hd with ⟨Hat, Hc⟩
  icases Ho with ⟨%W, HO⟩
  iapply (Rounds.wp_wait_rest_token 𝒱₀ ER (Rd m) (c : Thread nD τ) none (κ := K (c, .rcv k))
      (wpE_waitDma2_eq 𝒱₀ (c : Thread nD τ) none Set.univ) (Set.mem_univ _) () (O := OL c l) (W := W) (R := 0) (m := 0) (T := ∅)
      (by rw [Nat.zero_add]; exact hdst.trans (expect_rcv m c k ha).symm)) $$ [Hc HO Hat]
  · isplitr; · iapply (recs_inv m K (c, .rcv k)); iexact HR
    isplitl [Hc]; · rw [hdst]; iexact Hc
    isplitl [HO]; · iexact HO
    isplitr; · iapply (recs_wait m K c (.rcv k) l hl); iexact HR
    iexact Hat
  iintro ⟨HO, Hat, -, Hp⟩
  ihave Hp := (Entails.of_eq (rest_rcv m c k ha)) $$ Hp
  imod (Rounds.cell_close ER (Rd m) (Set.mem_univ (K (c, .rcv k))) (fun h => h) (R := 0 + 1) (duties_later m (rcvCell c k))) $$ [Hat] with Hz
  · isplitr; · iapply (recs_inv m K (c, .rcv k)); iexact HR
    iexact Hat
  iapply Hk
  isplitl [Hp]; · unfold rcvPay; iexact Hp
  isplitl [Hz]; · unfold fin; iexact Hz
  iexists _
  iexact HO

/-- The wait for the departure by channel `k`, nothing due but at higher levels: the share of the source back, and the
    cell at zero for good. -/
theorem snd_step (c : Dev nD) (k : Ch) (ha : act c k = true)
    {sS : DmaSem sig} (hS : sS = sndS k) {src dst : Memref sig .tc .vmem S2x256x512 .bf16} (hdst : dst.view.dmaCredit = N) {ss : Slot} (hss : srcSlot c k = ss)
    {h1 : src.view.WordExact} {h2 : dst.view.WordExact}
    {α : Type} {Q : α → sProp 𝕄} {kk : PUnit → Prog (TpuEff nD τ sig (Elt F) Λ₀ .tc) α} :
    recs m K ⊢ iprop(sent c k -∗ ow c []
      -∗ ((sC m c ss (shr k) ∗ fin c (.snd k) ∗ ow c []) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sS src dst h1 h2) kk) Q) := by
  subst hS hss
  iintro #HR Hd Ho Hk
  unfold ow sent posn crd
  icases Hd with ⟨Hat, Hc⟩
  icases Ho with ⟨%W, HO⟩
  iapply (Rounds.wp_wait_rest_token 𝒱₀ ER (Rd m) (c : Thread nD τ) none (κ := K (c, .snd k))
      (wpE_waitDma2_eq 𝒱₀ (c : Thread nD τ) none Set.univ) (Set.mem_univ _) () (O := OL c []) (W := W) (R := 0) (m := 0) (T := ∅)
      (by rw [Nat.zero_add]; exact hdst.trans (expect_snd m c k ha).symm)) $$ [Hc HO Hat]
  · isplitr; · iapply (recs_inv m K (c, .snd k)); iexact HR
    isplitl [Hc]; · rw [hdst]; iexact Hc
    isplitl [HO]; · iexact HO
    isplitr; · rw [show OL c [] = 0 from rfl, MayWait_zero]; iempintro
    iexact Hat
  iintro ⟨HO, Hat, -, Hp⟩
  ihave Hp := (Entails.of_eq (rest_snd m c k ha)) $$ Hp
  imod (Rounds.cell_close ER (Rd m) (Set.mem_univ (K (c, .snd k))) (fun h => h) (R := 0 + 1) (duties_later m (sndCell c k))) $$ [Hat] with Hz
  · isplitr; · iapply (recs_inv m K (c, .snd k)); iexact HR
    iexact Hat
  iapply Hk
  isplitl [Hp]; · unfold sndPay; iexact Hp
  isplitl [Hz]; · unfold fin; iexact Hz
  iexists _
  iexact HO

/-- The wait at the barrier for all neighbours: the destinations of the channels that lead to them. -/
theorem bar_step (c : Dev nD) (l : List Ob) (hl : ∀ o ∈ l, 1 < levO o) {n : ℕ} (hn : n = (dirs c).card)
    {α : Type} {Q : α → sProp 𝕄} {kk : PUnit → Prog (TpuEff nD τ sig (Elt F) Λ₀ .tc) α} :
    recs m K ⊢ iprop(posn c .bar -∗ cred (tallyAt (barCell c) () (dirs c).card) -∗ ow c l
      -∗ ((bigSep (dirs c) (barPay (F := F) c) ∗ fin c .bar ∗ ow c l) -∗ wp frame (wpE (defs₀ (F := F)) 𝒱₀ (c : Thread nD τ) none) Set.univ (kk ⟨⟩) Q)
      -∗ wp frame (wpE (defs₀ (F := F)) 𝒱₀ (c : Thread nD τ) none) Set.univ (.op (.semWait barS n) kk) Q) := by
  subst hn
  iintro #HR Hat Hc Ho Hk
  unfold ow posn
  icases Ho with ⟨%W, HO⟩
  iapply (Rounds.wp_wait_rest_token 𝒱₀ ER (Rd m) (c : Thread nD τ) none (κ := K (c, .bar))
      (wpE_semWait_eq 𝒱₀ (c : Thread nD τ) none Set.univ) (Set.mem_univ _) () (O := OL c l) (W := W) (R := 0) (m := 0) (T := ∅)
      (by rw [Nat.zero_add]; exact (expect_bar m c).symm)) $$ [Hc HO Hat]
  · isplitr; · iapply (recs_inv m K (c, .bar)); iexact HR
    isplitl [Hc]; · iexact Hc
    isplitl [HO]; · iexact HO
    isplitr; · iapply (recs_wait m K c .bar l hl); iexact HR
    iexact Hat
  iintro ⟨HO, Hat, -, Hp⟩
  ihave Hp := (Entails.of_eq (rest_bar m c)) $$ Hp
  imod (Rounds.cell_close ER (Rd m) (Set.mem_univ (K (c, .bar))) (fun h => h) (R := 0 + 1) (duties_later m (barCell c))) $$ [Hat] with Hz
  · isplitr; · iapply (recs_inv m K (c, .bar)); iexact HR
    iexact Hat
  iapply Hk
  isplitl [Hp]; · iexact Hp
  isplitl [Hz]; · unfold fin; iexact Hz
  iexists _
  iexact HO

/-- A cell without a duty closes at once. -/
theorem idle_close (c : Dev nD) (i : CI) (h : dutiesOf c (some i) = ∅) :
    recs (F := F) m K ⊢ iprop(posn c i -∗ |={Set.univ}=> fin c i) := by
  iintro #HR Hat
  unfold posn fin
  iapply (Rounds.cell_close ER (Rd m) (Set.mem_univ (K (c, i))) (fun h => h) (R := 0) (fun r _ => by
    rcases Nat.eq_zero_or_pos r with rfl | hr
    · rw [duties_cell, h]
    · exact duties_later m _ r hr))
  isplitr; · iapply (recs_inv m K (c, i)); iexact HR
  iexact Hat

/-! ## Slots -/

/-- A slot's set is its rectangle. -/
theorem set_z (s : Fin 4) : (slotM (.z s)).view.set = (rZ s).set := by
  show ((zM.view.slice (rZ s)).reshape _ _).set = _
  rw [View.set_reshape]; exact View.set_slice_whole _ _
theorem set_p (s : Fin 12) : (slotM (.p s)).view.set = (rP s).set := by
  show ((pM.view.slice (rP s)).reshape _ _).set = _
  rw [View.set_reshape]; exact View.set_slice_whole _ _

theorem disj_z {s s' : Fin 4} (h : s ≠ s') : Disjoint (rZ s).set (rZ s').set :=
  Rect.unit_disjoint 0 (by
    show s.val + 1 ≤ s'.val ∨ s'.val + 1 ≤ s.val
    have : s.val ≠ s'.val := fun e => h (Fin.ext e)
    omega)
theorem disj_p {s s' : Fin 12} (h : s ≠ s') : Disjoint (rP s).set (rP s').set :=
  Rect.unit_disjoint 0 (by
    show s.val + 1 ≤ s'.val ∨ s'.val + 1 ≤ s.val
    have : s.val ≠ s'.val := fun e => h (Fin.ext e)
    omega)
theorem cover_z : (Finset.univ : Finset (Fin 4)).biUnion (fun s => (rZ s).set) = Finset.univ := by
  ext i
  simp only [Finset.mem_biUnion, Finset.mem_univ, true_and, iff_true]
  refine ⟨i 0, Rect.mem_set_unit.mpr fun a => ?_⟩
  have := (i a).isLt
  fin_cases a
  · exact ⟨Nat.le_refl _, Nat.lt_succ_self _⟩
  · exact ⟨Nat.zero_le _, by simpa using this⟩
  · exact ⟨Nat.zero_le _, by simpa using this⟩
  · exact ⟨Nat.zero_le _, by simpa using this⟩
theorem cover_p : (Finset.univ : Finset (Fin 12)).biUnion (fun s => (rP s).set) = Finset.univ := by
  ext i
  simp only [Finset.mem_biUnion, Finset.mem_univ, true_and, iff_true]
  refine ⟨i 0, Rect.mem_set_unit.mpr fun a => ?_⟩
  have := (i a).isLt
  fin_cases a
  · exact ⟨Nat.le_refl _, Nat.lt_succ_self _⟩
  · exact ⟨Nat.zero_le _, by simpa using this⟩
  · exact ⟨Nat.zero_le _, by simpa using this⟩
  · exact ⟨Nat.zero_le _, by simpa using this⟩

omit [FloatOps F] in
/-- The column buffer is its four slots, -/
theorem cut_z (c : Dev nD) (q : PosShare TreeShare) (f : Buf (Elt F) ((c : Thread nD τ).loc cc0_scratch0)) :
    ((((c : Thread nD τ).loc cc0_scratch0) ↦{q} f : sProp 𝕄)) = iprop(sF c (.z 0) q f ∗ sF c (.z 1) q f ∗ sF c (.z 2) q f ∗ sF c (.z 3) q f) := by
  have h := pointsTo_biUnion (Finset.univ : Finset (Fin 4)) (fun s => (rZ s).set) (q := q) (f := f) (ℓ := (c : Thread nD τ).loc cc0_scratch0)
    (fun _ _ _ _ h => disj_z h) (Ix := Unit) (Name := ℕ) (U := UU) (Lvl := ℕ)
  rw [cover_z] at h
  rw [h, bigSep_univ_eq_bigSepL [0, 1, 2, 3] (by decide) (by decide)]
  simp only [bigSepL_cons_cons, bigSepL_singleton]
  unfold sF
  rw [set_z, set_z, set_z, set_z]
  rfl
omit [FloatOps F] in
/-- and the ring buffer its twelve. -/
theorem cut_p (c : Dev nD) (q : PosShare TreeShare) (f : Buf (Elt F) ((c : Thread nD τ).loc cc0_scratch1)) :
    ((((c : Thread nD τ).loc cc0_scratch1) ↦{q} f : sProp 𝕄)) = iprop(sF c (.p 0) q f ∗ sF c (.p 1) q f ∗ sF c (.p 2) q f ∗ sF c (.p 3) q f
      ∗ sF c (.p 4) q f ∗ sF c (.p 5) q f ∗ sF c (.p 6) q f ∗ sF c (.p 7) q f ∗ sF c (.p 8) q f ∗ sF c (.p 9) q f ∗ sF c (.p 10) q f ∗ sF c (.p 11) q f) := by
  have h := pointsTo_biUnion (Finset.univ : Finset (Fin 12)) (fun s => (rP s).set) (q := q) (f := f) (ℓ := (c : Thread nD τ).loc cc0_scratch1)
    (fun _ _ _ _ h => disj_p h) (Ix := Unit) (Name := ℕ) (U := UU) (Lvl := ℕ)
  rw [cover_p] at h
  rw [h, bigSep_univ_eq_bigSepL [0, 1, 2, 3, 4, 5, 6, 7, 8, 9, 10, 11] (by decide) (by decide)]
  simp only [bigSepL_cons_cons, bigSepL_singleton]
  unfold sF
  rw [set_p, set_p, set_p, set_p, set_p, set_p, set_p, set_p, set_p, set_p, set_p, set_p]
  rfl

/-- The share a device keeps of a column slot for its own loads. -/
abbrev qld : PosShare TreeShare := fullShare.right.right

/-- A slot cut in two shares. -/
theorem two (c : Dev nD) (sl : Slot) (q : PosShare TreeShare) : sC (F := F) m c sl q = iprop(sC m c sl q.left ∗ sC m c sl q.right) := by
  unfold sC sF
  have h := pointsTo_share (ℓ := (slotM sl).view.loc (c : Thread nD τ)) (I := (slotM sl).view.set) (f := Cc m c sl) (PosShare.mem_left_op_right q)
    (Ix := Unit) (Name := ℕ) (U := UU) (Lvl := ℕ)
  exact BI.Entails.antisymm h.1 h.2
/-- A column slot cut in five: two for the ring, two for the planes, one kept. -/
theorem five (c : Dev nD) (s : Fin 4) : sC (F := F) m c (.z s) fullShare
    = iprop((sC m c (.z s) (shr (.a1 s)) ∗ sC m c (.z s) (shr (.b1 s))) ∗ (sC m c (.z s) (shr (.dn 0)) ∗ sC m c (.z s) (shr (.up 0))) ∗ sC m c (.z s) qld) := by
  rw [two, two m c _ fullShare.left, two m c _ fullShare.right, two m c _ fullShare.right.left]
  rfl

/-- Giving a slot to the neighbour that writes it by channel `k`. -/
theorem hand_give (c : Dev nD) (k : Ch) (f) : sF (F := F) c (dstSlot c k) fullShare f ⊢ hand (fro c k) k := by
  have key : ∀ c' : Dev nD, ∀ f, sF (F := F) (tgt c' k) (dstSlot (tgt c' k) k) fullShare f ⊢ hand c' k := by
    intro c' f
    unfold hand
    split
    · iintro H; iexists f; iexact H
    · iintro -; iempintro
  have h1 : c = tgt (fro c k) k := by clear key f; revert c k; decide
  have h2 : ∀ c' : Dev nD, c' = tgt (fro c k) k → ∀ f, sF (F := F) c' (dstSlot c' k) fullShare f ⊢ hand (fro c k) k := by
    rintro _ rfl f; exact key _ f
  exact h2 c h1 f

omit [FloatOps F] in
theorem hand_idle (c : Dev nD) (k : Ch) (h : actR c k = false) : (iprop(emp) : sProp 𝕄) ⊢ hand (fro c k) k := by
  unfold hand; rw [act_fro, h]; iintro -; iempintro

theorem ready (c : Dev nD) (k : Ch) : iprop(pre (F := F) c k ∗ hand c k) ⊢ rdy c k := by
  unfold pre rdy
  iintro ⟨⟨H1, H2⟩, H3⟩
  isplitl [H1]; · iexact H1
  isplitl [H2] <;> iassumption

/-- What a device hands its left neighbour: the slots written from the left; -/
theorem give_right (c : Dev nD) (f : Buf (Elt F) ((c : Thread nD τ).loc cc0_scratch1)) :
    iprop(sF c (.p 0) fullShare f ∗ sF c (.p 1) fullShare f ∗ sF c (.p 2) fullShare f ∗ sF c (.p 3) fullShare f ∗ sF c (.p 8) fullShare f ∗ sF c (.p 9) fullShare f)
      ⊢ barPay (peer 1 c) (opp 1) := by
  iintro ⟨H0, H1, H2, H3, H8, H9⟩
  iapply (show iprop(hand (F := F) (fro c (.a1 0)) (.a1 0) ∗ hand (fro c (.a1 1)) (.a1 1) ∗ hand (fro c (.a1 2)) (.a1 2) ∗ hand (fro c (.a1 3)) (.a1 3)
    ∗ hand (fro c (.a2 0)) (.a2 0) ∗ hand (fro c (.a2 1)) (.a2 1)) ⊢ barPay (peer 1 c) (opp 1) from BI.Entails.refl _)
  isplitl [H0]; · iapply (hand_give c (.a1 0) f); iexact H0
  isplitl [H1]; · iapply (hand_give c (.a1 1) f); iexact H1
  isplitl [H2]; · iapply (hand_give c (.a1 2) f); iexact H2
  isplitl [H3]; · iapply (hand_give c (.a1 3) f); iexact H3
  isplitl [H8]; · iapply (hand_give c (.a2 0) f); iexact H8
  iapply (hand_give c (.a2 1) f); iexact H9
/-- its right neighbour: the slots written from the right. -/
theorem give_left (c : Dev nD) (f : Buf (Elt F) ((c : Thread nD τ).loc cc0_scratch1)) :
    iprop(sF c (.p 4) fullShare f ∗ sF c (.p 5) fullShare f ∗ sF c (.p 6) fullShare f ∗ sF c (.p 7) fullShare f ∗ sF c (.p 10) fullShare f ∗ sF c (.p 11) fullShare f)
      ⊢ barPay (peer 0 c) (opp 0) := by
  iintro ⟨H0, H1, H2, H3, H8, H9⟩
  iapply (show iprop(hand (F := F) (fro c (.b1 0)) (.b1 0) ∗ hand (fro c (.b1 1)) (.b1 1) ∗ hand (fro c (.b1 2)) (.b1 2) ∗ hand (fro c (.b1 3)) (.b1 3)
    ∗ hand (fro c (.b2 0)) (.b2 0) ∗ hand (fro c (.b2 1)) (.b2 1)) ⊢ barPay (peer 0 c) (opp 0) from BI.Entails.refl _)
  isplitl [H0]; · iapply (hand_give c (.b1 0) f); iexact H0
  isplitl [H1]; · iapply (hand_give c (.b1 1) f); iexact H1
  isplitl [H2]; · iapply (hand_give c (.b1 2) f); iexact H2
  isplitl [H3]; · iapply (hand_give c (.b1 3) f); iexact H3
  isplitl [H8]; · iapply (hand_give c (.b2 0) f); iexact H8
  iapply (hand_give c (.b2 1) f); iexact H9

end Cert.AttnProof
-- ==== Proof.Own.lean ====
/- A device's own block: the stores of its keys and values into its slot of the column buffer. -/
module

public import proofs.«01_k».proof.Proof.Steps

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

theorem inbO (s : Fin 4) (x : ℕ) (hx : x + 256 ≤ 512) : ∀ a, (![s.val, 0, 0, x] : Fin 4 → Nat) a + S1x2x256x256.size a ≤ S4x2x256x512.size a := by
  have := s.isLt
  intro a
  fin_cases a
  · show s.val + 1 ≤ 4; omega
  · show 0 + 2 ≤ 2; omega
  · show 0 + 256 ≤ 256; omega
  · exact hx
/-- The half of slot `s` from column `x`. -/
abbrev rO (s : Fin 4) (x : ℕ) (hx : x + 256 ≤ 512) : Rect S4x2x256x512 := Rect.unit (s := S4x2x256x512) ![s.val, 0, 0, x] S1x2x256x256.size (inbO s x hx)

theorem le0 : 0 + 256 ≤ 512 := by decide
theorem le256 : 256 + 256 ≤ 512 := by decide

theorem rO_emb (s : Fin 4) (x : ℕ) (hx : x + 256 ≤ 512) (i : S4x2x256x512.Idx) (h0 : i 0 = s) (h3 : x ≤ (i 3).val) (h3' : (i 3).val < x + 256) :
    (rO s x hx).emb (ix4 (0 : Fin 1) (i 1) (i 2) (⟨(i 3).val - x, by omega⟩ : Fin 256)) = i := by
  funext a
  fin_cases a
  · refine Fin.ext ?_
    show s.val + 1 * 0 = (i 0).val
    rw [h0]; omega
  · refine Fin.ext ?_
    show 0 + 1 * (i 1).val = (i 1).val
    omega
  · refine Fin.ext ?_
    show 0 + 1 * (i 2).val = (i 2).val
    omega
  · refine Fin.ext ?_
    show x + 1 * ((i 3).val - x) = (i 3).val
    omega

theorem rO_not (s : Fin 4) (x : ℕ) (hx : x + 256 ≤ 512) (i : S4x2x256x512.Idx) (h3 : (i 3).val < x) :
    i ∉ (zM.access (rO s x hx)).setOn Finset.univ := by
  intro h
  have h' : i ∈ (rO s x hx).set := by
    have e : (zM.access (rO s x hx)).setOn Finset.univ = (rO s x hx).set := View.set_slice_whole _ _
    rwa [e] at h
  have := (Rect.mem_set_unit.mp h') 3
  have h2 : x ≤ (i 3).val := this.1
  omega

/-- After the two stores slot `z` holds the device's block. -/
theorem own_content (c : Dev nD) (f : S4x2x256x512.Idx → Elt F .bf16) (i : S4x2x256x512.Idx) (hi : i ∈ (rZ (zs c)).set) :
    (zM.access (rO (zs c) 256 le256)).write (Elt F) ((zM.access (rO (zs c) 0 le0)).write (Elt F) f (k0_pay3 (Kst m c)) Finset.univ) (k0_pay4 (Vst m c)) Finset.univ i
      = Zc m c i := by
  have h0 : i 0 = zs c := by
    have := (Rect.mem_set_unit.mp hi) 0
    have h1 : (zs c).val ≤ (i 0).val := this.1
    have h2 : (i 0).val < (zs c).val + 1 := this.2
    exact Fin.ext (by omega)
  have ho : org c (.z (i 0)) = c := by rw [h0]; exact (by decide : ∀ c : Dev nD, org c (.z (zs c)) = c) c
  unfold Zc
  rw [ho]
  unfold kv
  by_cases h : (i 3).val < 256
  · rw [View.write_of_not_mem _ _ _ (rO_not (zs c) 256 le256 i h), dif_pos (show ((ix3 (i 1) (i 2) (i 3) : S2x256x512.Idx) 2).val < 256 from h)]
    have e := rO_emb (zs c) 0 le0 i h0 (Nat.zero_le _) (by omega)
    have := View.write_emb_of_mem (v := zM.access (rO (zs c) 0 le0)) (Val := Elt F) f (k0_pay3 (Kst m c)) (M := Finset.univ)
      (x := ix4 (0 : Fin 1) (i 1) (i 2) (⟨(i 3).val - 0, by omega⟩ : Fin 256)) (Finset.mem_univ _)
    rw [show (zM.access (rO (zs c) 0 le0)).emb (ix4 (0 : Fin 1) (i 1) (i 2) (⟨(i 3).val - 0, by omega⟩ : Fin 256)) = i from e] at this
    exact this
  · have h5 : (i 3).val < 512 := (i 3).isLt
    rw [dif_neg (show ¬ ((ix3 (i 1) (i 2) (i 3) : S2x256x512.Idx) 2).val < 256 from h)]
    have e := rO_emb (zs c) 256 le256 i h0 (by omega) (by omega)
    have := View.write_emb_of_mem (v := zM.access (rO (zs c) 256 le256)) (Val := Elt F) ((zM.access (rO (zs c) 0 le0)).write (Elt F) f (k0_pay3 (Kst m c)) Finset.univ)
      (k0_pay4 (Vst m c)) (M := Finset.univ)
      (x := ix4 (0 : Fin 1) (i 1) (i 2) (⟨(i 3).val - 256, by omega⟩ : Fin 256)) (Finset.mem_univ _)
    rw [show (zM.access (rO (zs c) 256 le256)).emb (ix4 (0 : Fin 1) (i 1) (i 2) (⟨(i 3).val - 256, by omega⟩ : Fin 256)) = i from e] at this
    exact this

theorem rO_sub (s : Fin 4) (x : ℕ) (hx : x + 256 ≤ 512) : (rO s x hx).set ⊆ (rZ s).set := by
  intro i hi
  have h := Rect.mem_set_unit.mp hi
  refine Rect.mem_set_unit.mpr fun a => ?_
  have := h a
  have h3 := (i 3).isLt
  fin_cases a
  · exact h 0
  · exact h 1
  · exact h 2
  · exact ⟨Nat.zero_le _, by show (i 3).val < 0 + 512; change _ < 512 at h3; omega⟩

/-- The keys and the values as staged. -/
abbrev stgK (c : Dev nD) : sProp 𝕄 := ((c : Thread nD τ).loc cc0_stg2_0) ↦{fullShare} (Kst m c)
abbrev stgV (c : Dev nD) : sProp 𝕄 := ((c : Thread nD τ).loc cc0_stg3_0) ↦{fullShare} (Vst m c)

/-- The stores of a device's own block. -/
theorem own_step (c : Dev nD) {z : Fin 4} (hz : zs c = z) (f)
    {o2 : Fin 4 → ℕ} (ho : o2 = fun _ => 0) {i2 : ∀ a, o2 a + S2x256x4x64.size a ≤ S2x256x4x64.size a}
    {h1 : (Memref.whole cc0_stg2_0 : Memref sig .tc .vmem S2x256x4x64 .bf16).view.LoadsAt (Rect.unit o2 S2x256x4x64.size i2).toLoadRect}
    {h2 : zM.view.LoadsAt (rO z 0 le0).toLoadRect} {h3 : (zM.access (rO z 0 le0)).Stores Finset.univ} {h3' : Finset.univ = Finset.univ ∨ ∀ a, (rO z 0 le0).stride a = 1}
    {h4 : (Memref.whole cc0_stg3_0 : Memref sig .tc .vmem S2x256x4x64 .bf16).view.LoadsAt (Rect.unit o2 S2x256x4x64.size i2).toLoadRect}
    {h5 : zM.view.LoadsAt (rO z 256 le256).toLoadRect} {h6 : (zM.access (rO z 256 le256)).Stores Finset.univ} {h6' : Finset.univ = Finset.univ ∨ ∀ a, (rO z 256 le256).stride a = 1}
    {α : Type} {Q : α → sProp 𝕄} {kk : PUnit → Prog (TpuEff nD τ sig (Elt F) Λ₀ .tc) α} :
    (iprop(sF c (.z z) fullShare f ∗ stgK m c ∗ stgV m c
      ∗ ((sC m c (.z z) fullShare ∗ stgK m c ∗ stgV m c) -∗ wp frame (wpE (defs₀ (F := F)) 𝒱₀ (c : Thread nD τ) none) Set.univ (kk ⟨⟩) Q)) : sProp 𝕄)
      ⊢ wp frame (wpE (defs₀ (F := F)) 𝒱₀ (c : Thread nD τ) none) Set.univ
        (.op (.load (Memref.whole cc0_stg2_0 : Memref sig .tc .vmem S2x256x4x64 .bf16) (Rect.unit o2 S2x256x4x64.size i2).toLoadRect h1) fun x =>
          .op (.load zM (rO z 0 le0).toLoadRect h2) fun _ => .op (.store zM (rO z 0 le0) (k0_pay3 x) Finset.univ h3 h3') fun _ =>
          .op (.load (Memref.whole cc0_stg3_0 : Memref sig .tc .vmem S2x256x4x64 .bf16) (Rect.unit o2 S2x256x4x64.size i2).toLoadRect h4) fun y =>
          .op (.load zM (rO z 256 le256).toLoadRect h5) fun _ => .op (.store zM (rO z 256 le256) (k0_pay4 y) Finset.univ h6 h6') kk) Q := by
  subst hz
  have hs : (slotM (.z (zs c))).view.set = (rZ (zs c)).set := set_z _
  have e0 : zM.view.setOn (rO (zs c) 0 le0).toLoadRect.set ⊆ (rZ (zs c)).set := by
    refine Finset.Subset.trans (Eq.subset ?_) (rO_sub (zs c) 0 le0)
    exact Finset.map_refl
  have e1 : zM.view.setOn (rO (zs c) 256 le256).toLoadRect.set ⊆ (rZ (zs c)).set := by
    refine Finset.Subset.trans (Eq.subset ?_) (rO_sub (zs c) 256 le256)
    exact Finset.map_refl
  have e0' : (zM.access (rO (zs c) 0 le0)).setOn Finset.univ ⊆ (rZ (zs c)).set := by
    refine Finset.Subset.trans (Eq.subset ?_) (rO_sub (zs c) 0 le0)
    exact View.set_slice_whole _ _
  have e1' : (zM.access (rO (zs c) 256 le256)).setOn Finset.univ ⊆ (rZ (zs c)).set := by
    refine Finset.Subset.trans (Eq.subset ?_) (rO_sub (zs c) 256 le256)
    exact View.set_slice_whole _ _
  unfold sC sF
  rw [hs]
  iintro ⟨Hz, Hk, Hv, Hq⟩
  iapply (wp_load (defs := defs₀ (F := F)) 𝒱₀ (c : Thread nD τ) none Set.univ (m := (Memref.whole cc0_stg2_0 : Memref sig .tc .vmem S2x256x4x64 .bf16)) (Finset.subset_univ _)) $$ Hk
  iintro Hk
  rw [show (Memref.whole cc0_stg2_0 : Memref sig .tc .vmem S2x256x4x64 .bf16).view.readAt (Elt F) (Rect.unit o2 S2x256x4x64.size i2).toLoadRect (Kst m c) = Kst m c from
    Memref.readAt_unit_zero (Elt F) cc0_stg2_0 ho i2 _]
  iapply (wp_load (defs := defs₀ (F := F)) 𝒱₀ (c : Thread nD τ) none Set.univ (m := zM) (S := (rZ (zs c)).set) e0) $$ Hz
  iintro Hz
  iapply (wp_store (defs := defs₀ (F := F)) 𝒱₀ (c : Thread nD τ) none Set.univ (m := zM) (r := rO (zs c) 0 le0) (Mk := Finset.univ) (S := (rZ (zs c)).set) e0') $$ Hz
  iintro Hz
  iapply (wp_load (defs := defs₀ (F := F)) 𝒱₀ (c : Thread nD τ) none Set.univ (m := (Memref.whole cc0_stg3_0 : Memref sig .tc .vmem S2x256x4x64 .bf16)) (Finset.subset_univ _)) $$ Hv
  iintro Hv
  rw [show (Memref.whole cc0_stg3_0 : Memref sig .tc .vmem S2x256x4x64 .bf16).view.readAt (Elt F) (Rect.unit o2 S2x256x4x64.size i2).toLoadRect (Vst m c) = Vst m c from
    Memref.readAt_unit_zero (Elt F) cc0_stg3_0 ho i2 _]
  iapply (wp_load (defs := defs₀ (F := F)) 𝒱₀ (c : Thread nD τ) none Set.univ (m := zM) (S := (rZ (zs c)).set) e1) $$ Hz
  iintro Hz
  iapply (wp_store (defs := defs₀ (F := F)) 𝒱₀ (c : Thread nD τ) none Set.univ (m := zM) (r := rO (zs c) 256 le256) (Mk := Finset.univ) (S := (rZ (zs c)).set) e1') $$ Hz
  iintro Hz
  iapply Hq
  isplitl [Hz]
  · rw [pointsTo_congr (f := Cc m c (.z (zs c))) (fun i hi => (own_content m c f i hi).symm)]
    iexact Hz
  isplitl [Hk] <;> iassumption

end Cert.AttnProof
-- ==== Proof.Comm.lean ====
/- What a device holds before the exchange inside the column, and after it. -/
module

public import proofs.«01_k».proof.Proof.Own

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- The shares of a column slot that go up and down the planes. -/
abbrev qdn : PosShare TreeShare := fullShare.right.left.left
abbrev qup : PosShare TreeShare := fullShare.right.left.right

/-- A vertical channel's arrival: due if the channel is used. -/
def vdue (c : Dev nD) (k : Ch) : sProp 𝕄 := iprop(posn c (.rcv k) ∗ if actR c k then crd c (.rcv k) else iprop(emp))
/-- A vertical channel's departure: on its way if the channel is used, else closed. -/
def vsent (c : Dev nD) (k : Ch) : sProp 𝕄 := if act c k then sent c k else fin c (.snd k)
/-- The shares of a column slot that no copy takes. -/
def spDn (c : Dev nD) (s : Fin 4) : sProp 𝕄 := if s ≤ zs c ∧ zs c ≠ 3 then iprop(emp) else sC m c (.z s) qdn
def spUp (c : Dev nD) (s : Fin 4) : sProp 𝕄 := if zs c ≤ s ∧ zs c ≠ 0 then iprop(emp) else sC m c (.z s) qup

/-- One assertion for each vertical channel, -/
abbrev six (Φ : Ch → sProp 𝕄) : sProp 𝕄 := iprop(Φ (.dn 0) ∗ Φ (.dn 1) ∗ Φ (.dn 2) ∗ Φ (.up 0) ∗ Φ (.up 1) ∗ Φ (.up 2))
/-- for each channel of the ring's first exchange, -/
abbrev eight (Φ : Ch → sProp 𝕄) : sProp 𝕄 :=
  iprop(Φ (.a1 0) ∗ Φ (.a1 1) ∗ Φ (.a1 2) ∗ Φ (.a1 3) ∗ Φ (.b1 0) ∗ Φ (.b1 1) ∗ Φ (.b1 2) ∗ Φ (.b1 3))
/-- for each of its second. -/
abbrev four (Φ : Ch → sProp 𝕄) : sProp 𝕄 := iprop(Φ (.a2 0) ∗ Φ (.a2 1) ∗ Φ (.b2 0) ∗ Φ (.b2 1))

/-- Before the exchange inside the column; -/
def before (c : Dev nD) : sProp 𝕄 :=
  iprop((sigTok c 0 ∗ sigTok c 1 ∗ sigTok c 2 ∗ sigTok c 3) ∗ (posn c .bar ∗ cred (tallyAt (barCell c) () (dirs c).card))
    ∗ six (pre c) ∗ eight (pre c) ∗ four (pre c) ∗ six (vdue c)
    ∗ (∃ f, ((c : Thread nD τ).loc cc0_scratch0) ↦{fullShare} f) ∗ (∃ f, ((c : Thread nD τ).loc cc0_scratch1) ↦{fullShare} f)
    ∗ ow c (order (zs c)))
/-- what the vertical channels leave; -/
def vert (c : Dev nD) : sProp 𝕄 :=
  iprop(six (vsent c) ∗ (spDn m c 0 ∗ spDn m c 1 ∗ spDn m c 2 ∗ spDn m c 3) ∗ (spUp m c 0 ∗ spUp m c 1 ∗ spUp m c 2 ∗ spUp m c 3)
    ∗ six (fun k => fin c (.rcv k)))
/-- after it. -/
def after (c : Dev nD) : sProp 𝕄 :=
  iprop(eight (sent c) ∗ four (rdy c) ∗ vert m c ∗ fin c .bar
    ∗ (((c : Thread nD τ).loc cc0_scratch0) ↦{qld} (Zc m c))
    ∗ ow c [.cpy (.a2 0), .cpy (.a2 1), .cpy (.b2 0), .cpy (.b2 1)])

/-- A column buffer in its four slots, a ring buffer in its twelve. -/
theorem colC (c : Dev nD) (q : PosShare TreeShare) : ((((c : Thread nD τ).loc cc0_scratch0) ↦{q} (Zc m c) : sProp 𝕄))
    = iprop(sC m c (.z 0) q ∗ sC m c (.z 1) q ∗ sC m c (.z 2) q ∗ sC m c (.z 3) q) := cut_z c q (Zc m c)
theorem ringC (c : Dev nD) (q : PosShare TreeShare) : ((((c : Thread nD τ).loc cc0_scratch1) ↦{q} (Pc m c) : sProp 𝕄))
    = iprop(sC m c (.p 0) q ∗ sC m c (.p 1) q ∗ sC m c (.p 2) q ∗ sC m c (.p 3) q ∗ sC m c (.p 4) q ∗ sC m c (.p 5) q ∗ sC m c (.p 6) q ∗ sC m c (.p 7) q
      ∗ sC m c (.p 8) q ∗ sC m c (.p 9) q ∗ sC m c (.p 10) q ∗ sC m c (.p 11) q) := cut_p c q (Pc m c)
theorem ofEq {P Q : sProp 𝕄} (h : P = Q) : P ⊢ Q := by rw [h]

variable {m K}
theorem vdue_y {c : Dev nD} {k : Ch} (h : actR c k = true) : vdue (F := F) c k ⊢ due c k := by
  unfold vdue due; rw [h]; exact BI.Entails.refl _
theorem vsent_y {c : Dev nD} {k : Ch} (h : act c k = true) : sent (F := F) c k ⊢ vsent c k := by
  unfold vsent; rw [h]; exact BI.Entails.refl _
/-- The cells of an unused channel are closed at once. -/
theorem vdue_n {c : Dev nD} {k : Ch} (h : actR c k = false) : iprop(recs (F := F) m K ∗ vdue c k) ⊢ |={Set.univ}=> fin c (.rcv k) := by
  unfold vdue
  iintro ⟨#HR, Hp, -⟩
  iapply (idle_close m K c (.rcv k) (if_neg (by rw [h]; decide))) $$ HR Hp
theorem vsent_n {c : Dev nD} {k : Ch} (h : act c k = false) : iprop(recs (F := F) m K ∗ pre c k ∗ hand c k) ⊢ |={Set.univ}=> vsent c k := by
  unfold vsent pre
  rw [h]
  iintro ⟨#HR, ⟨-, Hp⟩, -⟩
  iapply (idle_close m K c (.snd k) (if_neg (by rw [h]; decide))) $$ HR Hp
theorem vsent_n' {c : Dev nD} {k : Ch} (h : act c k = false) : iprop(recs (F := F) m K ∗ pre c k) ⊢ |={Set.univ}=> vsent c k := by
  unfold vsent pre
  rw [h]
  iintro ⟨#HR, -, Hp⟩
  iapply (idle_close m K c (.snd k) (if_neg (by rw [h]; decide))) $$ HR Hp
theorem spDn_y {c : Dev nD} {s : Fin 4} (h : ¬ (s ≤ zs c ∧ zs c ≠ 3)) : sC (F := F) m c (.z s) qdn ⊢ spDn m c s := by
  unfold spDn; rw [if_neg h]
theorem spUp_y {c : Dev nD} {s : Fin 4} (h : ¬ (zs c ≤ s ∧ zs c ≠ 0)) : sC (F := F) m c (.z s) qup ⊢ spUp m c s := by
  unfold spUp; rw [if_neg h]
theorem spDn_n {c : Dev nD} {s : Fin 4} (h : s ≤ zs c ∧ zs c ≠ 3) : (iprop(emp) : sProp 𝕄) ⊢ spDn m c s := by
  unfold spDn; rw [if_pos h]
theorem spUp_n {c : Dev nD} {s : Fin 4} (h : zs c ≤ s ∧ zs c ≠ 0) : (iprop(emp) : sProp 𝕄) ⊢ spUp m c s := by
  unfold spUp; rw [if_pos h]

theorem hand_give' {c : Dev nD} {k : Ch} {ds : Slot} (h : dstSlot c k = ds) (f) : sF (F := F) c ds fullShare f ⊢ hand (fro c k) k := by
  subst h; exact hand_give c k f
/-- What a device hands the plane above: the slots written from above; -/
theorem give_up (c : Dev nD) : (iprop(hand (F := F) (fro c (.up 0)) (.up 0) ∗ hand (fro c (.up 1)) (.up 1) ∗ hand (fro c (.up 2)) (.up 2)) : sProp 𝕄)
    ⊢ barPay (peer 2 c) (opp 2) := BI.Entails.refl _
/-- and the plane below. -/
theorem give_dn (c : Dev nD) : (iprop(hand (F := F) (fro c (.dn 0)) (.dn 0) ∗ hand (fro c (.dn 1)) (.dn 1) ∗ hand (fro c (.dn 2)) (.dn 2)) : sProp 𝕄)
    ⊢ barPay (peer 3 c) (opp 3) := BI.Entails.refl _

theorem devEq {a : ℕ} {b : Dev nD} (e : a = b.val) {h : a < nD} : (⟨a, h⟩ : Dev nD) = b := Fin.ext e

/-- What the barrier brings, by plane. -/
theorem bars_0 {c : Dev nD} (hz : zs c = 0) : (bigSep (dirs c) (barPay c) : sProp 𝕄) = iprop((hand c (.a1 0) ∗ hand c (.a1 1) ∗ hand c (.a1 2) ∗ hand c (.a1 3) ∗ hand c (.a2 0) ∗ hand c (.a2 1)) ∗ (hand c (.b1 0) ∗ hand c (.b1 1) ∗ hand c (.b1 2) ∗ hand c (.b1 3) ∗ hand c (.b2 0) ∗ hand c (.b2 1)) ∗ (hand c (.dn 0) ∗ hand c (.dn 1) ∗ hand c (.dn 2))) := by
  rw [show dirs c = {0, 1, 2} by unfold dirs; rw [hz]]
  rw [bigSep_insert (by decide), bigSep_insert (by decide), bigSep_singleton]
  rfl
theorem bars_1 {c : Dev nD} (hz : zs c = 1 ∨ zs c = 2) : (bigSep (dirs c) (barPay c) : sProp 𝕄) = iprop((hand c (.a1 0) ∗ hand c (.a1 1) ∗ hand c (.a1 2) ∗ hand c (.a1 3) ∗ hand c (.a2 0) ∗ hand c (.a2 1)) ∗ (hand c (.b1 0) ∗ hand c (.b1 1) ∗ hand c (.b1 2) ∗ hand c (.b1 3) ∗ hand c (.b2 0) ∗ hand c (.b2 1)) ∗ (hand c (.dn 0) ∗ hand c (.dn 1) ∗ hand c (.dn 2)) ∗ (hand c (.up 0) ∗ hand c (.up 1) ∗ hand c (.up 2))) := by
  rw [show dirs c = {0, 1, 2, 3} by unfold dirs; rcases hz with hz | hz <;> rw [hz]]
  rw [bigSep_insert (by decide), bigSep_insert (by decide), bigSep_insert (by decide), bigSep_singleton]
  rfl
theorem bars_3 {c : Dev nD} (hz : zs c = 3) : (bigSep (dirs c) (barPay c) : sProp 𝕄) = iprop((hand c (.a1 0) ∗ hand c (.a1 1) ∗ hand c (.a1 2) ∗ hand c (.a1 3) ∗ hand c (.a2 0) ∗ hand c (.a2 1)) ∗ (hand c (.b1 0) ∗ hand c (.b1 1) ∗ hand c (.b1 2) ∗ hand c (.b1 3) ∗ hand c (.b2 0) ∗ hand c (.b2 1)) ∗ (hand c (.up 0) ∗ hand c (.up 1) ∗ hand c (.up 2))) := by
  rw [show dirs c = {0, 1, 3} by unfold dirs; rw [hz]]
  rw [bigSep_insert (by decide), bigSep_insert (by decide), bigSep_singleton]
  rfl

end Cert.AttnProof
-- ==== Proof.Values.lean ====
/- What the kernel computes on a device, as whole arrays: the score buffer, the context buffer, the result. -/
module

public import proofs.«01_k».proof.Proof.Comm

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- The input block and the weights as staged. -/
def Xst (c : Dev nD) : (cc0_stg0_0 : Ref sig .tc).ty.Contents (Elt F) := iblk m c 0 t0_0
def Wq (c : Dev nD) : (cc0_stg1_0 : Ref sig .tc).ty.Contents (Elt F) := iblk m c 1 t0_0
def Wo (c : Dev nD) : (cc0_stg4_0 : Ref sig .tc).ty.Contents (Elt F) := iblk m c 4 t0_0

/-! ## Row blocks of the keys and of the values, the four pieces of a column group side by side -/

theorem inbK (s r : Fin 4) (h : Fin 2) : ∀ a, (![s.val, 0, r.val * 64, h.val * 256] : Fin 4 → Nat) a + S1x2x64x256.size a ≤ S4x2x256x512.size a := by
  have := s.isLt; have := r.isLt; have := h.isLt
  intro a
  fin_cases a
  · show s.val + 1 ≤ 4; omega
  · show 0 + 2 ≤ 2; omega
  · show r.val * 64 + 64 ≤ 256; omega
  · show h.val * 256 + 256 ≤ 512; omega
theorem inbL (s : Fin 12) (r : Fin 4) (h : Fin 2) : ∀ a, (![s.val, 0, r.val * 64, h.val * 256] : Fin 4 → Nat) a + S1x2x64x256.size a ≤ S12x2x256x512.size a := by
  have := s.isLt; have := r.isLt; have := h.isLt
  intro a
  fin_cases a
  · show s.val + 1 ≤ 12; omega
  · show 0 + 2 ≤ 2; omega
  · show r.val * 64 + 64 ≤ 256; omega
  · show h.val * 256 + 256 ≤ 512; omega
/-- Row block `r` of slot `s` of the column buffer: its keys (`h = 0`) or its values. -/
abbrev rK (s r : Fin 4) (h : Fin 2) : Rect S4x2x256x512 := Rect.unit (s := S4x2x256x512) ![s.val, 0, r.val * 64, h.val * 256] S1x2x64x256.size (inbK s r h)
/-- The same of the ring buffer. -/
abbrev rL (s : Fin 12) (r : Fin 4) (h : Fin 2) : Rect S12x2x256x512 := Rect.unit (s := S12x2x256x512) ![s.val, 0, r.val * 64, h.val * 256] S1x2x64x256.size (inbL s r h)

/-- Row block `r` of the device `s` planes down in column group `g`: group 0 is the device's own column. -/
def piece (c : Dev nD) (g s r : Fin 4) (h : Fin 2) : Vec F S1x2x64x256 .bf16 :=
  match g with
  | 0 => zM.view.readAt (Elt F) (rK s r h).toLoadRect (Zc m c)
  | 1 => pM.view.readAt (Elt F) (rL ⟨s.val, by have := s.isLt; omega⟩ r h).toLoadRect (Pc m c)
  | 2 => pM.view.readAt (Elt F) (rL ⟨4 + s.val, by have := s.isLt; omega⟩ r h).toLoadRect (Pc m c)
  | 3 => pM.view.readAt (Elt F) (rL ⟨8 + s.val, by have := s.isLt; omega⟩ r h).toLoadRect (Pc m c)
/-- The four of a group. -/
def half (c : Dev nD) (g r : Fin 4) (h : Fin 2) : FVec F S2x256x256 .bf16 :=
  concatenate S2x256x256 1 [⟨S2x64x256, shapeCast S2x64x256 (piece m c g 0 r h) shapeCasts_S1x2x64x256_S2x64x256⟩,
    ⟨S2x64x256, shapeCast S2x64x256 (piece m c g 1 r h) shapeCasts_S1x2x64x256_S2x64x256⟩,
    ⟨S2x64x256, shapeCast S2x64x256 (piece m c g 2 r h) shapeCasts_S1x2x64x256_S2x64x256⟩,
    ⟨S2x64x256, shapeCast S2x64x256 (piece m c g 3 r h) shapeCasts_S1x2x64x256_S2x64x256⟩] concatenates_S2x64x256_S2x64x256_S2x64x256_S2x64x256_S2x256x256_d1

/-! ## Scores -/

/-- The queries. -/
def qv (c : Dev nD) : FVec F S512x256 .bf16 := k0_pay11 (Xst m c) (Wq m c)

theorem slQ (r : Fin 4) (b : Fin 2) (h : Fin 4) : S512x256.Slices (![b.val * 256 + r.val * 64, h.val * 64] : Fin 2 → ℕ) S64x64 := by
  revert r b h; decide
theorem slK (b : Fin 2) (h : Fin 4) : S2x256x256.Slices (![b.val, 0, h.val * 64] : Fin 3 → ℕ) S1x256x64 := by
  revert b h; decide
theorem slW (g : Fin 4) : S64x1024.Slices (![0, g.val * 256] : Fin 2 → ℕ) S64x256 := by
  revert g; decide

/-- Head `h` of the keys (or values) of one batch. -/
def headOf (b : Fin 2) (h : Fin 4) (k : FVec F S2x256x256 .bf16) : FVec F S256x64 .bf16 :=
  shapeCast S256x64 (extractStridedSlice S1x256x64 ![b.val, 0, h.val * 64] k (slK b h)) shapeCasts_S1x256x64_S256x64

/-- The scores of row block `r`, batch `b`, head `h` against group `g`. -/
def Sblk (c : Dev nD) (g r : Fin 4) (b : Fin 2) (h : Fin 4) : FVec F S64x256 .f32 :=
  shapeCast S64x256 (mulf (matmul dot_S64x64_S256x64_S64x256_1_1_0_0_n_n none
      (extractStridedSlice S64x64 ![b.val * 256 + r.val * 64, h.val * 64] (qv m c) (slQ r b h)) (headOf b h (half m c g r 0)) (constant S64x256 .f32 0x00000000#32))
    (broadcast S64x256 (Scalar.ofBits .f32 0x3E000000#32))) shapeCasts_S64x256_S64x256

/-- The coordinates of the `n`-th block of scores, in the order they are stored. -/
abbrev gN (n : ℕ) : Fin 4 := ⟨n / 32 % 4, Nat.mod_lt _ (by decide)⟩
abbrev rN (n : ℕ) : Fin 4 := ⟨n / 8 % 4, Nat.mod_lt _ (by decide)⟩
abbrev bN (n : ℕ) : Fin 2 := ⟨n / 4 % 2, Nat.mod_lt _ (by decide)⟩
abbrev hN (n : ℕ) : Fin 4 := ⟨n % 4, Nat.mod_lt _ (by decide)⟩
def SblkN (c : Dev nD) (n : ℕ) : FVec F S64x256 .f32 := Sblk m c (gN n) (rN n) (bN n) (hN n)

/-- The block an element of the score buffer lies in. -/
def posS (i : S2048x1024.Idx) : ℕ := (i 1).val / 256 * 32 + (i 0).val / 64
/-- The score buffer. -/
def Sf (c : Dev nD) : S2048x1024.Idx → Elt F .f32 := fun i =>
  SblkN m c (posS i) (ix2 (⟨(i 0).val % 64, Nat.mod_lt _ (by decide)⟩ : Fin 64) (⟨(i 1).val % 256, Nat.mod_lt _ (by decide)⟩ : Fin 256))

theorem inbS (n : ℕ) : ∀ a, (![n % 32 * 64, n / 32 % 4 * 256] : Fin 2 → Nat) a + S64x256.size a ≤ S2048x1024.size a := by
  intro a
  fin_cases a
  · show n % 32 * 64 + 64 ≤ 2048; omega
  · show n / 32 % 4 * 256 + 256 ≤ 1024; omega
/-- The place of the `n`-th block. -/
abbrev rS (n : ℕ) : Rect S2048x1024 := Rect.unit (s := S2048x1024) ![n % 32 * 64, n / 32 % 4 * 256] S64x256.size (inbS n)

/-! ## Weights and contexts -/

theorem inbR (n : ℕ) : ∀ a, (![n % 32 * 64, 0] : Fin 2 → Nat) a + S64x1024.size a ≤ S2048x1024.size a := by
  intro a
  fin_cases a
  · show n % 32 * 64 + 64 ≤ 2048; omega
  · show 0 + 1024 ≤ 1024; omega
/-- The scores of one row block, batch and head against all groups. -/
def srow (c : Dev nD) (n : ℕ) : Vec F S64x1024 .f32 :=
  sM.view.readAt (Elt F) (Rect.unit (s := S2048x1024) ![n % 32 * 64, 0] S64x1024.size (inbR n)).toLoadRect (Sf m c)
/-- Their weights. -/
def wgt (s : Vec F S64x1024 .f32) : FVec F S64x1024 .bf16 :=
  truncf .bf16 (divf (exp (subf s (broadcastTo S64x1024 (shapeCast S64x1 (multiReduction .maximumf [1] S64 s 0xFF800000#32 reduces_S64x1024_S64 (.inl rfl) rfl) shapeCasts_S64_S64x1) broadcasts_S64x1_S64x1024)))
    (broadcastTo S64x1024 (shapeCast S64x1 (multiReduction .add [1] S64 (exp (subf s (broadcastTo S64x1024 (shapeCast S64x1 (multiReduction .maximumf [1] S64 s 0xFF800000#32 reduces_S64x1024_S64 (.inl rfl) rfl) shapeCasts_S64_S64x1) broadcasts_S64x1_S64x1024))) 0x00000000#32 reduces_S64x1024_S64 (.inl rfl) rfl) shapeCasts_S64_S64x1) broadcasts_S64x1_S64x1024)) bitsLt_bf16_f32
/-- The part of a context that one group contributes. -/
def part (b : Fin 2) (h g : Fin 4) (w : FVec F S64x1024 .bf16) (v : FVec F S2x256x256 .bf16) : FVec F S64x64 .f32 :=
  matmul dot_S64x256_S256x64_S64x64_1_0_0_1_n_n none (extractStridedSlice S64x256 ![0, g.val * 256] w (slW g)) (headOf b h v) (constant S64x64 .f32 0x00000000#32)
/-- The context of one row block, batch and head. -/
def Cblk (c : Dev nD) (r : Fin 4) (b : Fin 2) (h : Fin 4) (s : Vec F S64x1024 .f32) : FVec F S64x64 .bf16 :=
  shapeCast S64x64 (truncf .bf16 (addf (addf (addf (addf (broadcast S64x64 (Scalar.ofBits .f32 0x00000000#32)) (part b h 0 (wgt s) (half m c 0 r 1)))
    (part b h 1 (wgt s) (half m c 1 r 1))) (part b h 2 (wgt s) (half m c 2 r 1))) (part b h 3 (wgt s) (half m c 3 r 1))) bitsLt_bf16_f32) shapeCasts_S64x64_S64x64
def CblkN (c : Dev nD) (n : ℕ) : FVec F S64x64 .bf16 := Cblk m c (rN n) (bN n) (hN n) (srow m c n)

/-- The block an element of the context buffer lies in. -/
def posC (i : S512x256.Idx) : ℕ := (i 0).val % 256 / 64 * 8 + (i 0).val / 256 * 4 + (i 1).val / 64
/-- The context buffer. -/
def Cf (c : Dev nD) : S512x256.Idx → Elt F .bf16 := fun i =>
  CblkN m c (posC i) (ix2 (⟨(i 0).val % 64, Nat.mod_lt _ (by decide)⟩ : Fin 64) (⟨(i 1).val % 64, Nat.mod_lt _ (by decide)⟩ : Fin 64))
theorem inbC (n : ℕ) : ∀ a, (![n / 4 % 2 * 256 + n / 8 % 4 * 64, n % 4 * 64] : Fin 2 → Nat) a + S64x64.size a ≤ S512x256.size a := by
  intro a
  fin_cases a
  · show n / 4 % 2 * 256 + n / 8 % 4 * 64 + 64 ≤ 512; omega
  · show n % 4 * 64 + 64 ≤ 256; omega
abbrev rC (n : ℕ) : Rect S512x256 := Rect.unit (s := S512x256) ![n / 4 % 2 * 256 + n / 8 % 4 * 64, n % 4 * 64] S64x64.size (inbC n)

/-- The result of the kernel on a device. -/
def outF (c : Dev nD) : FVec F S2x256x512 .f32 := k0_pay2 (Wo m c) (Cf m c)

/-! ## The two buffers while they are filled -/

/-- The score buffer with its first `n` blocks stored. -/
def sb (c : Dev nD) (n : ℕ) : sProp 𝕄 :=
  iprop(∃ f : S2048x1024.Idx → Elt F .f32, ⌜∀ i, posS i < n → f i = Sf m c i⌝ ∗ (((c : Thread nD τ).loc cc0_scratch2) ↦{fullShare} f))
/-- The context buffer likewise. -/
def cb (c : Dev nD) (n : ℕ) : sProp 𝕄 :=
  iprop(∃ f : S512x256.Idx → Elt F .bf16, ⌜∀ i, posC i < n → f i = Cf m c i⌝ ∗ (((c : Thread nD τ).loc cc0_scratch3) ↦{fullShare} f))

theorem posS_lt (i : S2048x1024.Idx) : posS i < 128 := by
  have h0 : (i 0).val < 2048 := (i 0).isLt
  have h1 : (i 1).val < 1024 := (i 1).isLt
  unfold posS; omega
theorem posC_lt (i : S512x256.Idx) : posC i < 32 := by
  have h0 : (i 0).val < 512 := (i 0).isLt
  have h1 : (i 1).val < 256 := (i 1).isLt
  unfold posC; omega

theorem sb_next (c : Dev nD) (n : ℕ) (hn : n < 128) (f : S2048x1024.Idx → Elt F .f32) (hf : ∀ i, posS i < n → f i = Sf m c i) (i : S2048x1024.Idx) (hi : posS i < n + 1) :
    (sM.access (rS n)).write (Elt F) f (SblkN m c n) Finset.univ i = Sf m c i := by
  have h0 : (i 0).val < 2048 := (i 0).isLt
  have h1 : (i 1).val < 1024 := (i 1).isLt
  by_cases h : posS i = n
  · subst h
    have e : (sM.access (rS (posS i))).emb (ix2 (⟨(i 0).val % 64, Nat.mod_lt _ (by decide)⟩ : Fin 64) (⟨(i 1).val % 256, Nat.mod_lt _ (by decide)⟩ : Fin 256)) = i := by
      funext a
      fin_cases a
      · refine Fin.ext ?_
        show posS i % 32 * 64 + 1 * ((i 0).val % 64) = (i 0).val
        unfold posS; omega
      · refine Fin.ext ?_
        show posS i / 32 % 4 * 256 + 1 * ((i 1).val % 256) = (i 1).val
        unfold posS; omega
    have := View.write_emb_of_mem (v := sM.access (rS (posS i))) (Val := Elt F) f (SblkN m c (posS i)) (M := Finset.univ)
      (x := ix2 (⟨(i 0).val % 64, Nat.mod_lt _ (by decide)⟩ : Fin 64) (⟨(i 1).val % 256, Nat.mod_lt _ (by decide)⟩ : Fin 256)) (Finset.mem_univ _)
    rw [e] at this
    exact this
  · rw [View.write_of_not_mem, hf i (by omega)]
    intro hm
    have hm' : i ∈ (rS n).set := by
      have e : (sM.access (rS n)).setOn Finset.univ = (rS n).set := View.set_slice_whole _ _
      rwa [e] at hm
    have k0 := (Rect.mem_set_unit.mp hm') 0
    have k1 := (Rect.mem_set_unit.mp hm') 1
    have a0 : n % 32 * 64 ≤ (i 0).val := k0.1
    have a1 : (i 0).val < n % 32 * 64 + 64 := k0.2
    have b0 : n / 32 % 4 * 256 ≤ (i 1).val := k1.1
    have b1 : (i 1).val < n / 32 % 4 * 256 + 256 := k1.2
    unfold posS at h
    omega

theorem posC_parts (a b : ℕ) (ha : a < 512) (hb : b < 256) : (a % 256 / 64 * 8 + a / 256 * 4 + b / 64) / 4 % 2 = a / 256 ∧ (a % 256 / 64 * 8 + a / 256 * 4 + b / 64) / 8 % 4 = a % 256 / 64
    ∧ (a % 256 / 64 * 8 + a / 256 * 4 + b / 64) % 4 = b / 64 := by
  have h1 : a % 256 / 64 < 4 := by omega
  have h2 : a / 256 < 2 := by omega
  have h3 : b / 64 < 4 := by omega
  generalize a % 256 / 64 = R at *
  generalize a / 256 = B at *
  generalize b / 64 = H at *
  omega

theorem posC_out (a b n : ℕ) (hn : n < 32) (a0 : n / 4 % 2 * 256 + n / 8 % 4 * 64 ≤ a) (a1 : a < n / 4 % 2 * 256 + n / 8 % 4 * 64 + 64)
    (b0 : n % 4 * 64 ≤ b) (b1 : b < n % 4 * 64 + 64) : a % 256 / 64 * 8 + a / 256 * 4 + b / 64 = n := by
  have e1 : a / 256 = n / 4 % 2 := by omega
  have e3 : b / 64 = n % 4 := by omega
  have e2 : a % 256 / 64 = n / 8 % 4 := by
    have h8 : n / 8 % 4 < 4 := Nat.mod_lt _ (by decide)
    have h4 : n / 4 % 2 < 2 := Nat.mod_lt _ (by decide)
    generalize n / 8 % 4 = R at *
    generalize n / 4 % 2 = B at *
    omega
  rw [e1, e2, e3]
  omega

theorem cb_next (c : Dev nD) (n : ℕ) (hn : n < 32) (f : S512x256.Idx → Elt F .bf16) (hf : ∀ i, posC i < n → f i = Cf m c i) (i : S512x256.Idx) (hi : posC i < n + 1) :
    (cM.access (rC n)).write (Elt F) f (CblkN m c n) Finset.univ i = Cf m c i := by
  have h0 : (i 0).val < 512 := (i 0).isLt
  have h1 : (i 1).val < 256 := (i 1).isLt
  by_cases h : posC i = n
  · subst h
    have e : (cM.access (rC (posC i))).emb (ix2 (⟨(i 0).val % 64, Nat.mod_lt _ (by decide)⟩ : Fin 64) (⟨(i 1).val % 64, Nat.mod_lt _ (by decide)⟩ : Fin 64)) = i := by
      funext a
      fin_cases a
      · refine Fin.ext ?_
        show posC i / 4 % 2 * 256 + posC i / 8 % 4 * 64 + 1 * ((i 0).val % 64) = (i 0).val
        have e1 : posC i / 4 % 2 = (i 0).val / 256 := (posC_parts _ _ h0 h1).1
        have e2 : posC i / 8 % 4 = (i 0).val % 256 / 64 := (posC_parts _ _ h0 h1).2.1
        omega
      · refine Fin.ext ?_
        show posC i % 4 * 64 + 1 * ((i 1).val % 64) = (i 1).val
        have e3 : posC i % 4 = (i 1).val / 64 := (posC_parts _ _ h0 h1).2.2
        omega
    have := View.write_emb_of_mem (v := cM.access (rC (posC i))) (Val := Elt F) f (CblkN m c (posC i)) (M := Finset.univ)
      (x := ix2 (⟨(i 0).val % 64, Nat.mod_lt _ (by decide)⟩ : Fin 64) (⟨(i 1).val % 64, Nat.mod_lt _ (by decide)⟩ : Fin 64)) (Finset.mem_univ _)
    rw [e] at this
    exact this
  · rw [View.write_of_not_mem, hf i (by omega)]
    intro hm
    have hm' : i ∈ (rC n).set := by
      have e : (cM.access (rC n)).setOn Finset.univ = (rC n).set := View.set_slice_whole _ _
      rwa [e] at hm
    have k0 := (Rect.mem_set_unit.mp hm') 0
    have k1 := (Rect.mem_set_unit.mp hm') 1
    have a0 : n / 4 % 2 * 256 + n / 8 % 4 * 64 ≤ (i 0).val := k0.1
    have a1 : (i 0).val < n / 4 % 2 * 256 + n / 8 % 4 * 64 + 64 := k0.2
    have b0 : n % 4 * 64 ≤ (i 1).val := k1.1
    have b1 : (i 1).val < n % 4 * 64 + 64 := k1.2
    exact h (posC_out _ _ n hn a0 a1 b0 b1)

variable {m}

/-- A read of the score buffer whose value is not used. -/
theorem sb_load {c : Dev nD} {n : ℕ} {r : LoadRect S2048x1024} {hl : sM.view.LoadsAt r}
    {α : Type} {Q : α → sProp 𝕄} {kk : (r.shape.Idx → Elt F .f32) → Prog (TpuEff nD τ sig (Elt F) Λ₀ .tc) α} :
    sb m c n ⊢ iprop((∀ v, sb m c n -∗ wp frame (wpE (defs₀ (F := F)) 𝒱₀ (c : Thread nD τ) none) Set.univ (kk v) Q) -∗ wp frame (wpE (defs₀ (F := F)) 𝒱₀ (c : Thread nD τ) none) Set.univ (.op (.load sM r hl) kk) Q) := by
  unfold sb
  iintro ⟨%f, %hf, H⟩ Hk
  iapply (wp_load (defs := defs₀ (F := F)) 𝒱₀ (c : Thread nD τ) none Set.univ (m := sM) (Finset.subset_univ _)) $$ H
  iintro H
  iapply Hk $$ [H]
  iexists f
  isplitr; · ipureintro; exact hf
  iexact H
/-- The store of the next block of the score buffer. -/
theorem sb_store {c : Dev nD} {n : ℕ} (hn : n < 128) {w : (rS n).shape.Idx → Elt F .f32} (hw : w = SblkN m c n)
    {hx : (sM.access (rS n)).Stores Finset.univ} {hm : Finset.univ = Finset.univ ∨ ∀ a, (rS n).stride a = 1}
    {α : Type} {Q : α → sProp 𝕄} {kk : PUnit → Prog (TpuEff nD τ sig (Elt F) Λ₀ .tc) α} :
    sb m c n ⊢ iprop((sb m c (n + 1) -∗ wp frame (wpE (defs₀ (F := F)) 𝒱₀ (c : Thread nD τ) none) Set.univ (kk ⟨⟩) Q) -∗ wp frame (wpE (defs₀ (F := F)) 𝒱₀ (c : Thread nD τ) none) Set.univ (.op (.store sM (rS n) w Finset.univ hx hm) kk) Q) := by
  subst hw
  unfold sb
  iintro ⟨%f, %hf, H⟩ Hk
  iapply (wp_store (defs := defs₀ (F := F)) 𝒱₀ (c : Thread nD τ) none Set.univ (m := sM) (r := rS n) (Mk := Finset.univ) (Finset.subset_univ _)) $$ H
  iintro H
  iapply Hk
  iexists ((sM.access (rS n)).write (Elt F) f (SblkN m c n) Finset.univ)
  isplitr; · ipureintro; exact sb_next m c n hn f hf
  iexact H
theorem sb_full (c : Dev nD) : sb (F := F) m c 128 ⊢ iprop(((c : Thread nD τ).loc cc0_scratch2) ↦{fullShare} (Sf m c)) := by
  unfold sb
  iintro ⟨%f, %hf, H⟩
  have e : f = Sf m c := funext fun i => hf i (posS_lt i)
  subst e
  iexact H
theorem sb_zero (c : Dev nD) (f : S2048x1024.Idx → Elt F .f32) : iprop(((c : Thread nD τ).loc cc0_scratch2) ↦{fullShare} f) ⊢ sb (F := F) m c 0 := by
  unfold sb
  iintro H
  iexists f
  isplitr; · ipureintro; exact fun i hi => absurd hi (Nat.not_lt_zero _)
  iexact H
/-- A read of the context buffer whose value is not used. -/
theorem cb_load {c : Dev nD} {n : ℕ} {r : LoadRect S512x256} {hl : cM.view.LoadsAt r}
    {α : Type} {Q : α → sProp 𝕄} {kk : (r.shape.Idx → Elt F .bf16) → Prog (TpuEff nD τ sig (Elt F) Λ₀ .tc) α} :
    cb m c n ⊢ iprop((∀ v, cb m c n -∗ wp frame (wpE (defs₀ (F := F)) 𝒱₀ (c : Thread nD τ) none) Set.univ (kk v) Q) -∗ wp frame (wpE (defs₀ (F := F)) 𝒱₀ (c : Thread nD τ) none) Set.univ (.op (.load cM r hl) kk) Q) := by
  unfold cb
  iintro ⟨%f, %hf, H⟩ Hk
  iapply (wp_load (defs := defs₀ (F := F)) 𝒱₀ (c : Thread nD τ) none Set.univ (m := cM) (Finset.subset_univ _)) $$ H
  iintro H
  iapply Hk $$ [H]
  iexists f
  isplitr; · ipureintro; exact hf
  iexact H
/-- The store of the next block of the context buffer. -/
theorem cb_store {c : Dev nD} {n : ℕ} (hn : n < 32) {w : (rC n).shape.Idx → Elt F .bf16} (hw : w = CblkN m c n)
    {hx : (cM.access (rC n)).Stores Finset.univ} {hm : Finset.univ = Finset.univ ∨ ∀ a, (rC n).stride a = 1}
    {α : Type} {Q : α → sProp 𝕄} {kk : PUnit → Prog (TpuEff nD τ sig (Elt F) Λ₀ .tc) α} :
    cb m c n ⊢ iprop((cb m c (n + 1) -∗ wp frame (wpE (defs₀ (F := F)) 𝒱₀ (c : Thread nD τ) none) Set.univ (kk ⟨⟩) Q) -∗ wp frame (wpE (defs₀ (F := F)) 𝒱₀ (c : Thread nD τ) none) Set.univ (.op (.store cM (rC n) w Finset.univ hx hm) kk) Q) := by
  subst hw
  unfold cb
  iintro ⟨%f, %hf, H⟩ Hk
  iapply (wp_store (defs := defs₀ (F := F)) 𝒱₀ (c : Thread nD τ) none Set.univ (m := cM) (r := rC n) (Mk := Finset.univ) (Finset.subset_univ _)) $$ H
  iintro H
  iapply Hk
  iexists ((cM.access (rC n)).write (Elt F) f (CblkN m c n) Finset.univ)
  isplitr; · ipureintro; exact cb_next m c n hn f hf
  iexact H
theorem cb_full (c : Dev nD) : cb (F := F) m c 32 ⊢ iprop(((c : Thread nD τ).loc cc0_scratch3) ↦{fullShare} (Cf m c)) := by
  unfold cb
  iintro ⟨%f, %hf, H⟩
  have e : f = Cf m c := funext fun i => hf i (posC_lt i)
  subst e
  iexact H
theorem cb_zero (c : Dev nD) (f : S512x256.Idx → Elt F .bf16) : iprop(((c : Thread nD τ).loc cc0_scratch3) ↦{fullShare} f) ⊢ cb (F := F) m c 0 := by
  unfold cb
  iintro H
  iexists f
  isplitr; · ipureintro; exact fun i hi => absurd hi (Nat.not_lt_zero _)
  iexact H

end Cert.AttnProof
-- ==== Proof.Column.lean ====
/- The exchange inside the column: the program and what it starts from. -/
module

public import proofs.«01_k».proof.Proof.Values

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- All the staged inputs. -/
def stgs (c : Dev nD) : sProp 𝕄 :=
  iprop((((c : Thread nD τ).loc cc0_stg0_0) ↦{fullShare} (Xst m c)) ∗ (((c : Thread nD τ).loc cc0_stg1_0) ↦{fullShare} (Wq m c))
    ∗ stgK m c ∗ stgV m c ∗ (((c : Thread nD τ).loc cc0_stg4_0) ↦{fullShare} (Wo m c)))

/-- What the program of the exchange returns: the queries, and the keys of the column. -/
def qk (c : Dev nD) : Σ' (_ : FVec F S512x256 .bf16), FVec F S2x256x256 .bf16 :=
  ⟨k0_pay11 (Xst m c) (Wq m c), k0_pay12
    (zM.view.readAt (Elt F) (Rect.unit (s := S4x2x256x512) ![0, 0, 0, 0] S1x2x64x256.size inb_S4x2x256x512_S1x2x64x256_0_0_0_0).toLoadRect (Zc m c))
    (zM.view.readAt (Elt F) (Rect.unit (s := S4x2x256x512) ![1, 0, 0, 0] S1x2x64x256.size inb_S4x2x256x512_S1x2x64x256_1_0_0_0).toLoadRect (Zc m c))
    (zM.view.readAt (Elt F) (Rect.unit (s := S4x2x256x512) ![2, 0, 0, 0] S1x2x64x256.size inb_S4x2x256x512_S1x2x64x256_2_0_0_0).toLoadRect (Zc m c))
    (zM.view.readAt (Elt F) (Rect.unit (s := S4x2x256x512) ![3, 0, 0, 0] S1x2x64x256.size inb_S4x2x256x512_S1x2x64x256_3_0_0_0).toLoadRect (Zc m c))⟩

/-- The program of the exchange inside the column, before what follows it. -/
def colProg (c : Dev nD) (v19 v24 v28 v30 v32 : BitVec 32) {α : Type} (kk : (Σ' (_ : FVec F S512x256 .bf16), FVec F S2x256x256 .bf16) → Prog (TpuEff nD τ sig (Elt F) Λ₀ .tc) α) :
    Prog (TpuEff nD τ sig (Elt F) Λ₀ .tc) α :=
  k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v19 v24 v28 v30 v32 (SemArray.scalar (sig.barrier 0 rfl)) >>= fun _ =>
    k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v19 v24 v28 v30 v32 >>= kk

end Cert.AttnProof
-- ==== Proof.Score1.lean ====
/- The second exchange in the ring, and the scores against the two neighbouring columns. -/
module

public import proofs.«01_k».proof.Proof.Column

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

theorem row_subset {o sz : Fin 4 → ℕ} {inb : ∀ a, o a + sz a ≤ S12x2x256x512.size a} {s : Fin 12} (h0 : o 0 = s.val) (h1 : sz 0 = 1) :
    (Rect.unit (s := S12x2x256x512) o sz inb).set ⊆ (rP s).set := by
  intro i hi
  have h := (Rect.mem_set_unit.mp hi) 0
  rw [h0, h1] at h
  refine Rect.mem_set_unit.mpr fun a => ?_
  fin_cases a
  · exact h
  · exact ⟨Nat.zero_le _, (i 1).isLt⟩
  · exact ⟨Nat.zero_le _, (i 2).isLt⟩
  · exact ⟨Nat.zero_le _, (i 3).isLt⟩

/-- A read inside one slot of the ring buffer. -/
theorem slot_load {c : Dev nD} (s : Fin 12) {q : PosShare TreeShare} {o sz : Fin 4 → ℕ} {inb : ∀ a, o a + sz a ≤ S12x2x256x512.size a} (h0 : o 0 = s.val) (h1 : sz 0 = 1)
    {hl : pM.view.LoadsAt (Rect.unit (s := S12x2x256x512) o sz inb).toLoadRect}
    {α : Type} {Q : α → sProp 𝕄} {kk : ((Rect.unit (s := S12x2x256x512) o sz inb).toLoadRect.shape.Idx → Elt F .bf16) → Prog (TpuEff nD τ sig (Elt F) Λ₀ .tc) α} :
    sC m c (.p s) q ⊢ iprop((sC m c (.p s) q -∗ wp frame (wpE (defs₀ (F := F)) 𝒱₀ (c : Thread nD τ) none) Set.univ (kk (pM.view.readAt (Elt F) (Rect.unit (s := S12x2x256x512) o sz inb).toLoadRect (Pc m c))) Q)
      -∗ wp frame (wpE (defs₀ (F := F)) 𝒱₀ (c : Thread nD τ) none) Set.univ (.op (.load pM (Rect.unit (s := S12x2x256x512) o sz inb).toLoadRect hl) kk) Q) := by
  unfold sC sF
  rw [set_p]
  iintro H Hk
  iapply (wp_load (defs := defs₀ (F := F)) 𝒱₀ (c : Thread nD τ) none Set.univ (m := pM) (S := (rP s).set) (by
    have e : pM.view.setOn (Rect.unit (s := S12x2x256x512) o sz inb).toLoadRect.set = (Rect.unit (s := S12x2x256x512) o sz inb).set := Finset.map_refl
    rw [e]; exact row_subset h0 h1)) $$ H
  iintro H
  iapply Hk
  iexact H

/-- What the ring holds before its second exchange, -/
def ring0 (c : Dev nD) : sProp 𝕄 :=
  iprop(eight (due c) ∗ four (due c) ∗ four (rdy c) ∗ ow c [.cpy (.a2 0), .cpy (.a2 1), .cpy (.b2 0), .cpy (.b2 1)])
/-- while the scores against the neighbours are computed, -/
def ring1 (c : Dev nD) : sProp 𝕄 :=
  iprop(eight (fun k => fin c (.rcv k)) ∗ (fin c (.rcv (.a2 0)) ∗ due c (.a2 1) ∗ due c (.b2 0) ∗ due c (.b2 1)) ∗ four (sent c) ∗ ow c []
    ∗ (sC m c (.p 0) fullShare.right ∗ sC m c (.p 1) fullShare.right ∗ sC m c (.p 2) fullShare ∗ sC m c (.p 3) fullShare
    ∗ sC m c (.p 4) fullShare ∗ sC m c (.p 5) fullShare ∗ sC m c (.p 6) fullShare.right ∗ sC m c (.p 7) fullShare.right) ∗ sC m c (.p 8) fullShare)
/-- and after the whole exchange. -/
def ring2 (c : Dev nD) : sProp 𝕄 :=
  iprop(eight (fun k => fin c (.rcv k)) ∗ four (fun k => fin c (.rcv k)) ∗ four (sent c) ∗ ow c []
    ∗ (sC m c (.p 0) fullShare.right ∗ sC m c (.p 1) fullShare.right ∗ sC m c (.p 2) fullShare ∗ sC m c (.p 3) fullShare
    ∗ sC m c (.p 4) fullShare ∗ sC m c (.p 5) fullShare ∗ sC m c (.p 6) fullShare.right ∗ sC m c (.p 7) fullShare.right)
    ∗ sC m c (.p 8) fullShare ∗ sC m c (.p 9) fullShare ∗ sC m c (.p 10) fullShare ∗ sC m c (.p 11) fullShare)

/-- The program of the second exchange and of the scores against the neighbours, before what follows it. -/
def score1 (d0 : Dev nD) (v24 v28 : BitVec 32) (v70 : FVec F S512x256 .bf16) {α : Type} (kk : PUnit → Prog (TpuEff nD τ sig (Elt F) Λ₀ .tc) α) : Prog (TpuEff nD τ sig (Elt F) Λ₀ .tc) α := do
  k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 d0 v24 v28
  let ⟨v459, c0_i32_279⟩ : Σ' (v459 : BitVec 32), BitVec 32 ← k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 d0 v24 v28
  k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 d0 v28 v459 c0_i32_279
  k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v24 v28
  let ⟨v519, v539, v540, cst_366⟩ : Σ' (v519 : FVec F S2x256x256 .bf16) (v539 : FVec F S256x64 .bf16) (v540 : FVec F S64x64 .bf16), FVec F S64x256 .f32 ← k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 d0 v70
  let v579 : FVec F S64x256 .f32 ← k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v519 v539 v540 cst_366
  let ⟨v600, v610⟩ : Σ' (v600 : FVec F S2x256x256 .bf16), FVec F S1x256x64 .bf16 ← k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v519 v579
  let v649 : FVec F S64x256 .f32 ← k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v600 v610
  let ⟨v674, v676, v678, v679⟩ : Σ' (v674 : FVec F S2x64x256 .bf16) (v676 : FVec F S2x64x256 .bf16) (v678 : FVec F S2x64x256 .bf16), Vec F S1x2x64x256 .bf16 ← k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v600 v649
  let ⟨v681, v719⟩ : Σ' (v681 : FVec F S2x256x256 .bf16), FVec F S256x64 .bf16 ← k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v674 v676 v678 v679
  let v755 : FVec F S2x64x256 .bf16 ← k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v681 v719
  let ⟨v762, v789⟩ : Σ' (v762 : FVec F S2x256x256 .bf16), FVec F S64x256 .f32 ← k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v755
  let ⟨v827, v828⟩ : Σ' (v827 : FVec F S256x64 .bf16), FVec F S64x64 .bf16 ← k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v762 v789
  let ⟨v843, v858⟩ : Σ' (v843 : FVec F S2x256x256 .bf16), FVec F S64x256 .f32 ← k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v827 v828
  k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v843 v858
  let ⟨v924, v928, v929⟩ : Σ' (v924 : FVec F S2x256x256 .bf16) (v928 : FVec F S64x256 .f32), FVec F S64x256 .f32 ← k0_part50 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v843
  let ⟨v966, v967⟩ : Σ' (v966 : FVec F S64x256 .f32), Vec F S64x256 .f32 ← k0_part51 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v924 v928 v929
  let ⟨v998, v1000⟩ : Σ' (v998 : FVec F S2x64x256 .bf16), FVec F S2x64x256 .bf16 ← k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v924 v966 v967
  let ⟨v1005, v1038⟩ : Σ' (v1005 : FVec F S2x256x256 .bf16), FVec F S64x256 .f32 ← k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v998 v1000
  let v1074 : FVec F S64x256 .f32 ← k0_part54 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1005 v1038
  let ⟨v1086, v1108⟩ : Σ' (v1086 : FVec F S2x256x256 .bf16), FVec F S64x256 .f32 ← k0_part55 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1074
  let v1146 : FVec F S64x256 .f32 ← k0_part56 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1086 v1108
  k0_part57 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v24 v28 v70 v1086 v1146 >>= kk

set_option maxHeartbeats 1000000 in
/-- It makes the second exchange and stores 64 more blocks of scores. -/
theorem score1_spec (c : Dev nD) (v24 v28 : BitVec 32) {α : Type} {Q : α → sProp 𝕄} {kk : PUnit → Prog (TpuEff nD τ sig (Elt F) Λ₀ .tc) α} :
    recs m K ⊢ iprop(ring0 c -∗ sb m c 32 -∗ ((ring1 m c ∗ sb m c 96) -∗ wp frame (wpE (defs₀ (F := F)) 𝒱₀ (c : Thread nD τ) none) Set.univ (kk ⟨⟩) Q)
      -∗ wp frame (wpE (defs₀ (F := F)) 𝒱₀ (c : Thread nD τ) none) Set.univ (score1 c v24 v28 (qv m c) kk) Q) := by
  have d49 := (by decide +kernel : ∀ c : Dev nD, k0_dev49 c = (tgt c (.a2 0)).val) c
  have d50 := (by decide +kernel : ∀ c : Dev nD, k0_dev50 c = (tgt c (.a2 1)).val) c
  have d51 := (by decide +kernel : ∀ c : Dev nD, k0_dev51 c = (tgt c (.b2 0)).val) c
  have d52 := (by decide +kernel : ∀ c : Dev nD, k0_dev52 c = (tgt c (.b2 1)).val) c
  unfold score1
  simp only [k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, Prog.lift, Prog.bind_op, Prog.bind_ret, Prog.pure_eq_ret]
  unfold ring0 ring1
  dsimp only [eight, four]
  iintro #HR ⟨⟨WA0, WA1, WA2, WA3, WB0, WB1, WB2, WB3⟩, ⟨WC0, WC1, WD0, WD1⟩, ⟨RC0, RC1, RD0, RD1⟩, Ho⟩ HS Hk
  iapply (rcv_step m K c (.a1 0) (ds := .p 0) rfl _ (by decide) rfl (slot_credit (.p 0) (rcvS (.a1 0))) rfl) $$ HR WA0 Ho
  iintro ⟨P0, FA0, Ho⟩
  ihave P0 := (ofEq (two m c (.p 0) fullShare)) $$ P0
  icases P0 with ⟨LP0, P0⟩
  iapply (send_step m K c (.a2 0) (ss := .p 0) (ds := .p 8) (q := fullShare.left) rfl (devEq d49) _ rfl rfl rfl rfl rfl rfl rfl) $$ HR RC0 LP0 Ho
  iintro ⟨SC0, Ho⟩
  iapply (rcv_step m K c (.b1 0) (ds := .p 4) rfl _ (by decide) rfl (slot_credit (.p 4) (rcvS (.b1 0))) rfl) $$ HR WB0 Ho
  iintro ⟨P4, FB0, Ho⟩
  iapply (rcv_step m K c (.a1 1) (ds := .p 1) rfl _ (by decide) rfl (slot_credit (.p 1) (rcvS (.a1 1))) rfl) $$ HR WA1 Ho
  iintro ⟨P1, FA1, Ho⟩
  ihave P1 := (ofEq (two m c (.p 1) fullShare)) $$ P1
  icases P1 with ⟨LP1, P1⟩
  iapply (send_step m K c (.a2 1) (ss := .p 1) (ds := .p 9) (q := fullShare.left) rfl (devEq d50) _ rfl rfl rfl rfl rfl rfl rfl) $$ HR RC1 LP1 Ho
  iintro ⟨SC1, Ho⟩
  iapply (rcv_step m K c (.b1 1) (ds := .p 5) rfl _ (by decide) rfl (slot_credit (.p 5) (rcvS (.b1 1))) rfl) $$ HR WB1 Ho
  iintro ⟨P5, FB1, Ho⟩
  iapply (rcv_step m K c (.a1 2) (ds := .p 2) rfl _ (by decide) rfl (slot_credit (.p 2) (rcvS (.a1 2))) rfl) $$ HR WA2 Ho
  iintro ⟨P2, FA2, Ho⟩
  iapply (rcv_step m K c (.b1 2) (ds := .p 6) rfl _ (by decide) rfl (slot_credit (.p 6) (rcvS (.b1 2))) rfl) $$ HR WB2 Ho
  iintro ⟨P6, FB2, Ho⟩
  ihave P6 := (ofEq (two m c (.p 6) fullShare)) $$ P6
  icases P6 with ⟨LP6, P6⟩
  iapply (send_step m K c (.b2 0) (ss := .p 6) (ds := .p 10) (q := fullShare.left) rfl (devEq d51) _ rfl rfl rfl rfl rfl rfl rfl) $$ HR RD0 LP6 Ho
  iintro ⟨SD0, Ho⟩
  iapply (rcv_step m K c (.a1 3) (ds := .p 3) rfl _ (by decide) rfl (slot_credit (.p 3) (rcvS (.a1 3))) rfl) $$ HR WA3 Ho
  iintro ⟨P3, FA3, Ho⟩
  iapply (rcv_step m K c (.b1 3) (ds := .p 7) rfl _ (by decide) rfl (slot_credit (.p 7) (rcvS (.b1 3))) rfl) $$ HR WB3 Ho
  iintro ⟨P7, FB3, Ho⟩
  ihave P7 := (ofEq (two m c (.p 7) fullShare)) $$ P7
  icases P7 with ⟨LP7, P7⟩
  iapply (send_step m K c (.b2 1) (ss := .p 7) (ds := .p 11) (q := fullShare.left) rfl (devEq d52) _ rfl rfl rfl rfl rfl rfl rfl) $$ HR RD1 LP7 Ho
  iintro ⟨SD1, Ho⟩
  iterate 4
    iapply (slot_load (m := m) (c := c) 0 rfl rfl) $$ P0; iintro P0
    iapply (slot_load (m := m) (c := c) 1 rfl rfl) $$ P1; iintro P1
    iapply (slot_load (m := m) (c := c) 2 rfl rfl) $$ P2; iintro P2
    iapply (slot_load (m := m) (c := c) 3 rfl rfl) $$ P3; iintro P3
    iterate 8
      iapply (sb_load (m := m) (c := c)) $$ HS; iintro %v HS
      iapply (sb_store (m := m) (c := c) (by decide) (by rfl)) $$ HS; iintro HS
  iterate 4
    iapply (slot_load (m := m) (c := c) 4 rfl rfl) $$ P4; iintro P4
    iapply (slot_load (m := m) (c := c) 5 rfl rfl) $$ P5; iintro P5
    iapply (slot_load (m := m) (c := c) 6 rfl rfl) $$ P6; iintro P6
    iapply (slot_load (m := m) (c := c) 7 rfl rfl) $$ P7; iintro P7
    iterate 8
      iapply (sb_load (m := m) (c := c)) $$ HS; iintro %v HS
      iapply (sb_store (m := m) (c := c) (by decide) (by rfl)) $$ HS; iintro HS
  iapply (rcv_step m K c (.a2 0) (ds := .p 8) rfl _ (by decide) rfl (slot_credit (.p 8) (rcvS (.a2 0))) rfl) $$ HR WC0 Ho
  iintro ⟨P8, FC0, Ho⟩
  iapply Hk
  iframe

end Cert.AttnProof
-- ==== Proof.Score3.lean ====
/- The scores against the opposite column. -/
module

public import proofs.«01_k».proof.Proof.Score1

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- The program of the scores against the opposite column, before what follows it. -/
def score3 (v24 v28 : BitVec 32) (v70 : FVec F S512x256 .bf16) {α : Type} (kk : PUnit → Prog (TpuEff nD τ sig (Elt F) Λ₀ .tc) α) : Prog (TpuEff nD τ sig (Elt F) Λ₀ .tc) α := do
  let ⟨v1192, v1194, v1195⟩ : Σ' (v1192 : FVec F S2x64x256 .bf16) (v1194 : FVec F S2x64x256 .bf16), Vec F S1x2x64x256 .bf16 ← k0_part58 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v24 v28
  let ⟨v1199, v1232⟩ : Σ' (v1199 : FVec F S2x256x256 .bf16), FVec F S64x256 .f32 ← k0_part59 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1192 v1194 v1195
  k0_part60 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1199 v1232
  let ⟨v1280, v1302, v1303⟩ : Σ' (v1280 : FVec F S2x256x256 .bf16) (v1302 : FVec F S64x256 .f32), FVec F S64x256 .f32 ← k0_part61 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70
  let ⟨v1340, v1341⟩ : Σ' (v1340 : FVec F S64x256 .f32), Vec F S64x256 .f32 ← k0_part62 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1280 v1302 v1303
  let ⟨v1361, v1372, v1373, cst_882⟩ : Σ' (v1361 : FVec F S2x256x256 .bf16) (v1372 : FVec F S256x64 .bf16) (v1373 : FVec F S64x64 .bf16), FVec F S64x256 .f32 ← k0_part63 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1280 v1340 v1341
  let v1412 : FVec F S64x256 .f32 ← k0_part64 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1361 v1372 v1373 cst_882
  let ⟨v1442, v1443⟩ : Σ' (v1442 : FVec F S2x256x256 .bf16), FVec F S1x256x64 .bf16 ← k0_part65 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1361 v1412
  let v1482 : FVec F S64x256 .f32 ← k0_part66 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1442 v1443
  k0_part67 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v1442 v1482 >>= kk

set_option maxHeartbeats 1000000 in
/-- It stores the last 32 blocks of scores. -/
theorem score3_spec (c : Dev nD) (v24 v28 : BitVec 32) {α : Type} {Q : α → sProp 𝕄} {kk : PUnit → Prog (TpuEff nD τ sig (Elt F) Λ₀ .tc) α} :
    recs m K ⊢ iprop(ring1 m c -∗ sb m c 96 -∗ ((ring2 m c ∗ sb m c 128) -∗ wp frame (wpE (defs₀ (F := F)) 𝒱₀ (c : Thread nD τ) none) Set.univ (kk ⟨⟩) Q)
      -∗ wp frame (wpE (defs₀ (F := F)) 𝒱₀ (c : Thread nD τ) none) Set.univ (score3 v24 v28 (qv m c) kk) Q) := by
  unfold score3
  simp only [k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, Prog.lift, Prog.bind_op, Prog.bind_ret, Prog.pure_eq_ret]
  unfold ring1 ring2
  dsimp only [eight, four]
  iintro #HR ⟨HF, ⟨FC0, WC1, WD0, WD1⟩, HT, Ho, HP, P8⟩ HS Hk
  iapply (rcv_step m K c (.b2 0) (ds := .p 10) rfl _ (by decide) rfl (slot_credit (.p 10) (rcvS (.b2 0))) rfl) $$ HR WD0 Ho
  iintro ⟨P10, FD0, Ho⟩
  iapply (rcv_step m K c (.a2 1) (ds := .p 9) rfl _ (by decide) rfl (slot_credit (.p 9) (rcvS (.a2 1))) rfl) $$ HR WC1 Ho
  iintro ⟨P9, FC1, Ho⟩
  iapply (rcv_step m K c (.b2 1) (ds := .p 11) rfl _ (by decide) rfl (slot_credit (.p 11) (rcvS (.b2 1))) rfl) $$ HR WD1 Ho
  iintro ⟨P11, FD1, Ho⟩
  iterate 4
    iapply (slot_load (m := m) (c := c) 8 rfl rfl) $$ P8; iintro P8
    iapply (slot_load (m := m) (c := c) 9 rfl rfl) $$ P9; iintro P9
    iapply (slot_load (m := m) (c := c) 10 rfl rfl) $$ P10; iintro P10
    iapply (slot_load (m := m) (c := c) 11 rfl rfl) $$ P11; iintro P11
    iterate 8
      iapply (sb_load (m := m) (c := c)) $$ HS; iintro %v HS
      iapply (sb_store (m := m) (c := c) (by decide) (by rfl)) $$ HS; iintro HS
  iapply Hk
  iframe

end Cert.AttnProof
-- ==== Proof.Sends.lean ====
/- The waits for all departures: every buffer whole again, every semaphore at zero. -/
module

public import proofs.«01_k».proof.Proof.Score3

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- Every semaphore cell of the device at zero. -/
def closed (c : Dev nD) : sProp 𝕄 :=
  iprop(six (fun k => fin (F := F) c (.snd k)) ∗ six (fun k => fin c (.rcv k)) ∗ eight (fun k => fin c (.snd k)) ∗ eight (fun k => fin c (.rcv k))
    ∗ four (fun k => fin c (.snd k)) ∗ four (fun k => fin c (.rcv k)) ∗ fin c .bar)

/-- The word of a plane against each number. -/
theorem plane_0 (z : Fin 4) : (Scalar.cmpi .ne (Scalar.extui (Scalar.cmpi .eq (BitVec.ofNat 32 z.val) 0#32) : BitVec 32) 0#32 = 1#1) = (z = 0) := by revert z; decide
theorem plane_1 (z : Fin 4) : (Scalar.cmpi .ne (Scalar.extui (Scalar.cmpi .eq (BitVec.ofNat 32 z.val) 1#32) : BitVec 32) 0#32 = 1#1) = (z = 1) := by revert z; decide
theorem plane_2 (z : Fin 4) : (Scalar.cmpi .ne (Scalar.extui (Scalar.cmpi .eq (BitVec.ofNat 32 z.val) 2#32) : BitVec 32) 0#32 = 1#1) = (z = 2) := by revert z; decide
theorem plane_3 (z : Fin 4) : (Scalar.cmpi .ne (Scalar.extui (Scalar.cmpi .eq (BitVec.ofNat 32 z.val) 3#32) : BitVec 32) 0#32 = 1#1) = (z = 3) := by revert z; decide

theorem vsent_on {c : Dev nD} {k : Ch} (h : act c k = true) : vsent (F := F) c k ⊢ sent c k := by unfold vsent; rw [if_pos h]
theorem vsent_off {c : Dev nD} {k : Ch} (h : act c k = false) : vsent (F := F) c k ⊢ fin c (.snd k) := by unfold vsent; rw [if_neg (by rw [h]; decide)]
theorem spDn_on {c : Dev nD} {s : Fin 4} (h : ¬ (s ≤ zs c ∧ zs c ≠ 3)) : spDn m c s ⊢ sC (F := F) m c (.z s) qdn := by unfold spDn; rw [if_neg h]
theorem spUp_on {c : Dev nD} {s : Fin 4} (h : ¬ (zs c ≤ s ∧ zs c ≠ 0)) : spUp m c s ⊢ sC (F := F) m c (.z s) qup := by unfold spUp; rw [if_neg h]

/-- The five shares of a column slot. -/
theorem five' (c : Dev nD) (s : Fin 4) : sC (F := F) m c (.z s) fullShare
    = iprop((sC m c (.z s) (shr (.a1 s)) ∗ sC m c (.z s) (shr (.b1 s))) ∗ (sC m c (.z s) qdn ∗ sC m c (.z s) qup) ∗ sC m c (.z s) qld) := five m c s

/-- The wait for a departure with the slot and the share by name. -/
theorem snd_step' (c : Dev nD) (k : Ch) (ha : act c k = true) {q : PosShare TreeShare} (hq : shr k = q)
    {sS : DmaSem sig} (hS : sS = sndS k) {src dst : Memref sig .tc .vmem S2x256x512 .bf16} (hdst : dst.view.dmaCredit = N) {ss : Slot} (hss : srcSlot c k = ss)
    {h1 : src.view.WordExact} {h2 : dst.view.WordExact}
    {α : Type} {Q : α → sProp 𝕄} {kk : PUnit → Prog (TpuEff nD τ sig (Elt F) Λ₀ .tc) α} :
    recs m K ⊢ iprop(sent c k -∗ ow c [] -∗ ((sC m c ss q ∗ fin c (.snd k) ∗ ow c []) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sS src dst h1 h2) kk) Q) := by
  subst hq
  exact snd_step m K c k ha hS hdst hss

/-- The five shares of each column slot back together. -/
theorem col_whole (c : Dev nD) : iprop((sC (F := F) m c (.z 0) (shr (.a1 0)) ∗ sC m c (.z 0) (shr (.b1 0)) ∗ sC m c (.z 0) qdn ∗ sC m c (.z 0) qup)
      ∗ (sC m c (.z 1) (shr (.a1 1)) ∗ sC m c (.z 1) (shr (.b1 1)) ∗ sC m c (.z 1) qdn ∗ sC m c (.z 1) qup)
      ∗ (sC m c (.z 2) (shr (.a1 2)) ∗ sC m c (.z 2) (shr (.b1 2)) ∗ sC m c (.z 2) qdn ∗ sC m c (.z 2) qup)
      ∗ (sC m c (.z 3) (shr (.a1 3)) ∗ sC m c (.z 3) (shr (.b1 3)) ∗ sC m c (.z 3) qdn ∗ sC m c (.z 3) qup)
      ∗ (((c : Thread nD τ).loc cc0_scratch0) ↦{qld} (Zc m c)))
    ⊢ (((c : Thread nD τ).loc cc0_scratch0) ↦{fullShare} (Zc m c)) := by
  rw [colC, colC, five', five', five', five']
  iintro ⟨⟨A0, B0, D0, U0⟩, ⟨A1, B1, D1, U1⟩, ⟨A2, B2, D2, U2⟩, ⟨A3, B3, D3, U3⟩, Q0, Q1, Q2, Q3⟩
  iframe
/-- The ring buffer back together. -/
theorem ring_whole (c : Dev nD) : iprop((sC (F := F) m c (.p 0) fullShare.left ∗ sC m c (.p 1) fullShare.left ∗ sC m c (.p 6) fullShare.left ∗ sC m c (.p 7) fullShare.left)
      ∗ (sC m c (.p 0) fullShare.right ∗ sC m c (.p 1) fullShare.right ∗ sC m c (.p 2) fullShare ∗ sC m c (.p 3) fullShare
        ∗ sC m c (.p 4) fullShare ∗ sC m c (.p 5) fullShare ∗ sC m c (.p 6) fullShare.right ∗ sC m c (.p 7) fullShare.right)
      ∗ sC m c (.p 8) fullShare ∗ sC m c (.p 9) fullShare ∗ sC m c (.p 10) fullShare ∗ sC m c (.p 11) fullShare)
    ⊢ (((c : Thread nD τ).loc cc0_scratch1) ↦{fullShare} (Pc m c)) := by
  rw [ringC, two m c (.p 0) fullShare, two m c (.p 1) fullShare, two m c (.p 6) fullShare, two m c (.p 7) fullShare]
  iintro ⟨⟨L0, L1, L6, L7⟩, ⟨P0, P1, P2, P3, P4, P5, P6, P7⟩, P8, P9, P10, P11⟩
  iframe

/-- The program of the waits for all departures, before what follows it. -/
def sends (v19 : BitVec 32) {α : Type} (kk : FVec F S2x64x256 .bf16 → Prog (TpuEff nD τ sig (Elt F) Λ₀ .tc) α) : Prog (TpuEff nD τ sig (Elt F) Λ₀ .tc) α := do
  k0_part68 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15
  k0_part69 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15
  k0_part70 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15
  let v1600 : FVec F S2x64x256 .bf16 ← k0_part71 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v19
  kk v1600

set_option maxHeartbeats 2000000 in
/-- They give all shares back, and close the departures' cells. -/
theorem sends_spec (c : Dev nD) {α : Type} {Q : α → sProp 𝕄} {kk : FVec F S2x64x256 .bf16 → Prog (TpuEff nD τ sig (Elt F) Λ₀ .tc) α} :
    recs m K ⊢ iprop(eight (sent c) -∗ vert m c -∗ (((c : Thread nD τ).loc cc0_scratch0) ↦{qld} (Zc m c)) -∗ fin c .bar -∗ ring2 m c
      -∗ ((closed c ∗ ow c [] ∗ (((c : Thread nD τ).loc cc0_scratch0) ↦{fullShare} (Zc m c)) ∗ (((c : Thread nD τ).loc cc0_scratch1) ↦{fullShare} (Pc m c)))
        -∗ wp frame (wpE (defs₀ (F := F)) 𝒱₀ (c : Thread nD τ) none) Set.univ (kk (k0_pay197 (piece m c 0 0 0 1))) Q)
      -∗ wp frame (wpE (defs₀ (F := F)) 𝒱₀ (c : Thread nD τ) none) Set.univ (sends (BitVec.ofNat 32 (zs c).val) kk) Q) := by
  have hz : zs c = 0 ∨ zs c = 1 ∨ zs c = 2 ∨ zs c = 3 := by generalize zs c = z; revert z; decide
  unfold sends
  simp only [k0_part68_eq_skeleton, k0_part68_skel, k0_part69_eq_skeleton, k0_part69_skel, k0_part70_eq_skeleton, k0_part70_skel, Prog.lift, Prog.bind_op, Prog.bind_ret, Prog.pure_eq_ret]
  simp only [k0_part71_eq_skeleton, k0_part71_skel, Prog.lift, Prog.bind_op, Prog.bind_ret, Prog.pure_eq_ret, plane_0, plane_1, plane_2, plane_3]
  unfold vert ring2 closed
  dsimp only [six, eight, four]
  iintro #HR ⟨SA0, SA1, SA2, SA3, SB0, SB1, SB2, SB3⟩ ⟨⟨VD0, VD1, VD2, VU0, VU1, VU2⟩, ⟨D0, D1, D2, D3⟩, ⟨U0, U1, U2, U3⟩, GR⟩ HZ GB ⟨GA, GC, ⟨SC0, SC1, SD0, SD1⟩, Ho, HP, HP'⟩ Hk
  iapply (snd_step' m K c (.a1 0) rfl (q := shr (.a1 0)) rfl (ss := .z 0) rfl (slot_credit (.z 0) (sndS (.a1 0))) rfl) $$ HR SA0 Ho
  iintro ⟨A0, FA0, Ho⟩
  iapply (snd_step' m K c (.b1 0) rfl (q := shr (.b1 0)) rfl (ss := .z 0) rfl (slot_credit (.z 0) (sndS (.b1 0))) rfl) $$ HR SB0 Ho
  iintro ⟨B0, FB0, Ho⟩
  iapply (snd_step' m K c (.a1 1) rfl (q := shr (.a1 1)) rfl (ss := .z 1) rfl (slot_credit (.z 1) (sndS (.a1 1))) rfl) $$ HR SA1 Ho
  iintro ⟨A1, FA1, Ho⟩
  iapply (snd_step' m K c (.b1 1) rfl (q := shr (.b1 1)) rfl (ss := .z 1) rfl (slot_credit (.z 1) (sndS (.b1 1))) rfl) $$ HR SB1 Ho
  iintro ⟨B1, FB1, Ho⟩
  iapply (snd_step' m K c (.a1 2) rfl (q := shr (.a1 2)) rfl (ss := .z 2) rfl (slot_credit (.z 2) (sndS (.a1 2))) rfl) $$ HR SA2 Ho
  iintro ⟨A2, FA2, Ho⟩
  iapply (snd_step' m K c (.b1 2) rfl (q := shr (.b1 2)) rfl (ss := .z 2) rfl (slot_credit (.z 2) (sndS (.b1 2))) rfl) $$ HR SB2 Ho
  iintro ⟨B2, FB2, Ho⟩
  iapply (snd_step' m K c (.a1 3) rfl (q := shr (.a1 3)) rfl (ss := .z 3) rfl (slot_credit (.z 3) (sndS (.a1 3))) rfl) $$ HR SA3 Ho
  iintro ⟨A3, FA3, Ho⟩
  iapply (snd_step' m K c (.b1 3) rfl (q := shr (.b1 3)) rfl (ss := .z 3) rfl (slot_credit (.z 3) (sndS (.b1 3))) rfl) $$ HR SB3 Ho
  iintro ⟨B3, FB3, Ho⟩
  iapply (snd_step' m K c (.a2 0) rfl (q := fullShare.left) rfl (ss := .p 0) rfl (slot_credit (.p 0) (sndS (.a2 0))) rfl) $$ HR SC0 Ho
  iintro ⟨LC0, FC0, Ho⟩
  iapply (snd_step' m K c (.b2 0) rfl (q := fullShare.left) rfl (ss := .p 6) rfl (slot_credit (.p 6) (sndS (.b2 0))) rfl) $$ HR SD0 Ho
  iintro ⟨LD0, FD0, Ho⟩
  iapply (snd_step' m K c (.a2 1) rfl (q := fullShare.left) rfl (ss := .p 1) rfl (slot_credit (.p 1) (sndS (.a2 1))) rfl) $$ HR SC1 Ho
  iintro ⟨LC1, FC1, Ho⟩
  iapply (snd_step' m K c (.b2 1) rfl (q := fullShare.left) rfl (ss := .p 7) rfl (slot_credit (.p 7) (sndS (.b2 1))) rfl) $$ HR SD1 Ho
  iintro ⟨LD1, FD1, Ho⟩
  ihave HP := (ring_whole m c) $$ [LC0 LC1 LD0 LD1 HP HP']
  · iframe
  rcases hz with hz | hz | hz | hz
  · have h0 : zs c = 0 := hz
    have h1 : ¬ zs c = 1 := by rw [hz]; decide
    have h2 : ¬ zs c = 2 := by rw [hz]; decide
    have h3 : ¬ zs c = 3 := by rw [hz]; decide
    simp only [dif_pos h0, dif_neg h1, dif_neg h2, dif_neg h3, Prog.lift, Prog.bind_op, Prog.bind_ret, Prog.pure_eq_ret]
    have adn0 := (by decide : ∀ c : Dev nD, zs c = 0 → act c (.dn 0) = true) c hz
    ihave VD0 := (vsent_on adn0) $$ VD0
    have adn1 := (by decide : ∀ c : Dev nD, zs c = 0 → act c (.dn 1) = false) c hz
    ihave VD1 := (vsent_off adn1) $$ VD1
    have adn2 := (by decide : ∀ c : Dev nD, zs c = 0 → act c (.dn 2) = false) c hz
    ihave VD2 := (vsent_off adn2) $$ VD2
    have aup0 := (by decide : ∀ c : Dev nD, zs c = 0 → act c (.up 0) = false) c hz
    ihave VU0 := (vsent_off aup0) $$ VU0
    have aup1 := (by decide : ∀ c : Dev nD, zs c = 0 → act c (.up 1) = false) c hz
    ihave VU1 := (vsent_off aup1) $$ VU1
    have aup2 := (by decide : ∀ c : Dev nD, zs c = 0 → act c (.up 2) = false) c hz
    ihave VU2 := (vsent_off aup2) $$ VU2
    iclear D0
    iapply (snd_step' m K c (.dn 0) adn0 (q := qdn) rfl (ss := .z 0) rfl (slot_credit (.z 0) (sndS (.dn 0))) ((by decide : ∀ c : Dev nD, zs c = 0 → srcSlot c (.dn 0) = .z 0) c hz)) $$ HR VD0 Ho
    iintro ⟨D0, VD0, Ho⟩
    ihave U0 := (spUp_on (m := m) (c := c) (s := 0) (by rw [hz]; decide)) $$ U0
    ihave D1 := (spDn_on (m := m) (c := c) (s := 1) (by rw [hz]; decide)) $$ D1
    ihave U1 := (spUp_on (m := m) (c := c) (s := 1) (by rw [hz]; decide)) $$ U1
    ihave D2 := (spDn_on (m := m) (c := c) (s := 2) (by rw [hz]; decide)) $$ D2
    ihave U2 := (spUp_on (m := m) (c := c) (s := 2) (by rw [hz]; decide)) $$ U2
    ihave D3 := (spDn_on (m := m) (c := c) (s := 3) (by rw [hz]; decide)) $$ D3
    ihave U3 := (spUp_on (m := m) (c := c) (s := 3) (by rw [hz]; decide)) $$ U3
    ihave HZ := (col_whole m c) $$ [A0 A1 A2 A3 B0 B1 B2 B3 D0 D1 D2 D3 U0 U1 U2 U3 HZ]
    · iframe
    iapply (wp_load (defs := defs₀ (F := F)) 𝒱₀ (c : Thread nD τ) none Set.univ (m := zM) (Finset.subset_univ _)) $$ HZ; iintro HZ
    iapply Hk
    iframe
  · have h0 : ¬ zs c = 0 := by rw [hz]; decide
    have h1 : zs c = 1 := hz
    have h2 : ¬ zs c = 2 := by rw [hz]; decide
    have h3 : ¬ zs c = 3 := by rw [hz]; decide
    simp only [dif_neg h0, dif_pos h1, dif_neg h2, dif_neg h3, k0_part21_eq_skeleton, k0_part21_skel, Prog.lift, Prog.bind_op, Prog.bind_ret, Prog.pure_eq_ret]
    have adn0 := (by decide : ∀ c : Dev nD, zs c = 1 → act c (.dn 0) = true) c hz
    ihave VD0 := (vsent_on adn0) $$ VD0
    have adn1 := (by decide : ∀ c : Dev nD, zs c = 1 → act c (.dn 1) = true) c hz
    ihave VD1 := (vsent_on adn1) $$ VD1
    have adn2 := (by decide : ∀ c : Dev nD, zs c = 1 → act c (.dn 2) = false) c hz
    ihave VD2 := (vsent_off adn2) $$ VD2
    have aup0 := (by decide : ∀ c : Dev nD, zs c = 1 → act c (.up 0) = true) c hz
    ihave VU0 := (vsent_on aup0) $$ VU0
    have aup1 := (by decide : ∀ c : Dev nD, zs c = 1 → act c (.up 1) = true) c hz
    ihave VU1 := (vsent_on aup1) $$ VU1
    have aup2 := (by decide : ∀ c : Dev nD, zs c = 1 → act c (.up 2) = true) c hz
    ihave VU2 := (vsent_on aup2) $$ VU2
    iclear D1
    iapply (snd_step' m K c (.dn 0) adn0 (q := qdn) rfl (ss := .z 1) rfl (slot_credit (.z 1) (sndS (.dn 0))) ((by decide : ∀ c : Dev nD, zs c = 1 → srcSlot c (.dn 0) = .z 1) c hz)) $$ HR VD0 Ho
    iintro ⟨D1, VD0, Ho⟩
    iclear U1
    iapply (snd_step' m K c (.up 0) aup0 (q := qup) rfl (ss := .z 1) rfl (slot_credit (.z 1) (sndS (.up 0))) ((by decide : ∀ c : Dev nD, zs c = 1 → srcSlot c (.up 0) = .z 1) c hz)) $$ HR VU0 Ho
    iintro ⟨U1, VU0, Ho⟩
    iclear D0
    iapply (snd_step' m K c (.dn 1) adn1 (q := qdn) rfl (ss := .z 0) rfl (slot_credit (.z 0) (sndS (.dn 1))) ((by decide : ∀ c : Dev nD, zs c = 1 → srcSlot c (.dn 1) = .z 0) c hz)) $$ HR VD1 Ho
    iintro ⟨D0, VD1, Ho⟩
    iclear U2
    iapply (snd_step' m K c (.up 1) aup1 (q := qup) rfl (ss := .z 2) rfl (slot_credit (.z 2) (sndS (.up 1))) ((by decide : ∀ c : Dev nD, zs c = 1 → srcSlot c (.up 1) = .z 2) c hz)) $$ HR VU1 Ho
    iintro ⟨U2, VU1, Ho⟩
    iclear U3
    iapply (snd_step' m K c (.up 2) aup2 (q := qup) rfl (ss := .z 3) rfl (slot_credit (.z 3) (sndS (.up 2))) ((by decide : ∀ c : Dev nD, zs c = 1 → srcSlot c (.up 2) = .z 3) c hz)) $$ HR VU2 Ho
    iintro ⟨U3, VU2, Ho⟩
    ihave U0 := (spUp_on (m := m) (c := c) (s := 0) (by rw [hz]; decide)) $$ U0
    ihave D2 := (spDn_on (m := m) (c := c) (s := 2) (by rw [hz]; decide)) $$ D2
    ihave D3 := (spDn_on (m := m) (c := c) (s := 3) (by rw [hz]; decide)) $$ D3
    ihave HZ := (col_whole m c) $$ [A0 A1 A2 A3 B0 B1 B2 B3 D0 D1 D2 D3 U0 U1 U2 U3 HZ]
    · iframe
    iapply (wp_load (defs := defs₀ (F := F)) 𝒱₀ (c : Thread nD τ) none Set.univ (m := zM) (Finset.subset_univ _)) $$ HZ; iintro HZ
    iapply Hk
    iframe
  · have h0 : ¬ zs c = 0 := by rw [hz]; decide
    have h1 : ¬ zs c = 1 := by rw [hz]; decide
    have h2 : zs c = 2 := hz
    have h3 : ¬ zs c = 3 := by rw [hz]; decide
    simp only [dif_neg h0, dif_neg h1, dif_pos h2, dif_neg h3, k0_part22_eq_skeleton, k0_part22_skel, Prog.lift, Prog.bind_op, Prog.bind_ret, Prog.pure_eq_ret]
    have adn0 := (by decide : ∀ c : Dev nD, zs c = 2 → act c (.dn 0) = true) c hz
    ihave VD0 := (vsent_on adn0) $$ VD0
    have adn1 := (by decide : ∀ c : Dev nD, zs c = 2 → act c (.dn 1) = true) c hz
    ihave VD1 := (vsent_on adn1) $$ VD1
    have adn2 := (by decide : ∀ c : Dev nD, zs c = 2 → act c (.dn 2) = true) c hz
    ihave VD2 := (vsent_on adn2) $$ VD2
    have aup0 := (by decide : ∀ c : Dev nD, zs c = 2 → act c (.up 0) = true) c hz
    ihave VU0 := (vsent_on aup0) $$ VU0
    have aup1 := (by decide : ∀ c : Dev nD, zs c = 2 → act c (.up 1) = true) c hz
    ihave VU1 := (vsent_on aup1) $$ VU1
    have aup2 := (by decide : ∀ c : Dev nD, zs c = 2 → act c (.up 2) = false) c hz
    ihave VU2 := (vsent_off aup2) $$ VU2
    iclear D2
    iapply (snd_step' m K c (.dn 0) adn0 (q := qdn) rfl (ss := .z 2) rfl (slot_credit (.z 2) (sndS (.dn 0))) ((by decide : ∀ c : Dev nD, zs c = 2 → srcSlot c (.dn 0) = .z 2) c hz)) $$ HR VD0 Ho
    iintro ⟨D2, VD0, Ho⟩
    iclear U2
    iapply (snd_step' m K c (.up 0) aup0 (q := qup) rfl (ss := .z 2) rfl (slot_credit (.z 2) (sndS (.up 0))) ((by decide : ∀ c : Dev nD, zs c = 2 → srcSlot c (.up 0) = .z 2) c hz)) $$ HR VU0 Ho
    iintro ⟨U2, VU0, Ho⟩
    iclear D1
    iapply (snd_step' m K c (.dn 1) adn1 (q := qdn) rfl (ss := .z 1) rfl (slot_credit (.z 1) (sndS (.dn 1))) ((by decide : ∀ c : Dev nD, zs c = 2 → srcSlot c (.dn 1) = .z 1) c hz)) $$ HR VD1 Ho
    iintro ⟨D1, VD1, Ho⟩
    iclear U3
    iapply (snd_step' m K c (.up 1) aup1 (q := qup) rfl (ss := .z 3) rfl (slot_credit (.z 3) (sndS (.up 1))) ((by decide : ∀ c : Dev nD, zs c = 2 → srcSlot c (.up 1) = .z 3) c hz)) $$ HR VU1 Ho
    iintro ⟨U3, VU1, Ho⟩
    iclear D0
    iapply (snd_step' m K c (.dn 2) adn2 (q := qdn) rfl (ss := .z 0) rfl (slot_credit (.z 0) (sndS (.dn 2))) ((by decide : ∀ c : Dev nD, zs c = 2 → srcSlot c (.dn 2) = .z 0) c hz)) $$ HR VD2 Ho
    iintro ⟨D0, VD2, Ho⟩
    ihave U0 := (spUp_on (m := m) (c := c) (s := 0) (by rw [hz]; decide)) $$ U0
    ihave U1 := (spUp_on (m := m) (c := c) (s := 1) (by rw [hz]; decide)) $$ U1
    ihave D3 := (spDn_on (m := m) (c := c) (s := 3) (by rw [hz]; decide)) $$ D3
    ihave HZ := (col_whole m c) $$ [A0 A1 A2 A3 B0 B1 B2 B3 D0 D1 D2 D3 U0 U1 U2 U3 HZ]
    · iframe
    iapply (wp_load (defs := defs₀ (F := F)) 𝒱₀ (c : Thread nD τ) none Set.univ (m := zM) (Finset.subset_univ _)) $$ HZ; iintro HZ
    iapply Hk
    iframe
  · have h0 : ¬ zs c = 0 := by rw [hz]; decide
    have h1 : ¬ zs c = 1 := by rw [hz]; decide
    have h2 : ¬ zs c = 2 := by rw [hz]; decide
    have h3 : zs c = 3 := hz
    simp only [dif_neg h0, dif_neg h1, dif_neg h2, dif_pos h3, Prog.lift, Prog.bind_op, Prog.bind_ret, Prog.pure_eq_ret]
    have adn0 := (by decide : ∀ c : Dev nD, zs c = 3 → act c (.dn 0) = false) c hz
    ihave VD0 := (vsent_off adn0) $$ VD0
    have adn1 := (by decide : ∀ c : Dev nD, zs c = 3 → act c (.dn 1) = false) c hz
    ihave VD1 := (vsent_off adn1) $$ VD1
    have adn2 := (by decide : ∀ c : Dev nD, zs c = 3 → act c (.dn 2) = false) c hz
    ihave VD2 := (vsent_off adn2) $$ VD2
    have aup0 := (by decide : ∀ c : Dev nD, zs c = 3 → act c (.up 0) = true) c hz
    ihave VU0 := (vsent_on aup0) $$ VU0
    have aup1 := (by decide : ∀ c : Dev nD, zs c = 3 → act c (.up 1) = false) c hz
    ihave VU1 := (vsent_off aup1) $$ VU1
    have aup2 := (by decide : ∀ c : Dev nD, zs c = 3 → act c (.up 2) = false) c hz
    ihave VU2 := (vsent_off aup2) $$ VU2
    iclear U3
    iapply (snd_step' m K c (.up 0) aup0 (q := qup) rfl (ss := .z 3) rfl (slot_credit (.z 3) (sndS (.up 0))) ((by decide : ∀ c : Dev nD, zs c = 3 → srcSlot c (.up 0) = .z 3) c hz)) $$ HR VU0 Ho
    iintro ⟨U3, VU0, Ho⟩
    ihave D0 := (spDn_on (m := m) (c := c) (s := 0) (by rw [hz]; decide)) $$ D0
    ihave U0 := (spUp_on (m := m) (c := c) (s := 0) (by rw [hz]; decide)) $$ U0
    ihave D1 := (spDn_on (m := m) (c := c) (s := 1) (by rw [hz]; decide)) $$ D1
    ihave U1 := (spUp_on (m := m) (c := c) (s := 1) (by rw [hz]; decide)) $$ U1
    ihave D2 := (spDn_on (m := m) (c := c) (s := 2) (by rw [hz]; decide)) $$ D2
    ihave U2 := (spUp_on (m := m) (c := c) (s := 2) (by rw [hz]; decide)) $$ U2
    ihave D3 := (spDn_on (m := m) (c := c) (s := 3) (by rw [hz]; decide)) $$ D3
    ihave HZ := (col_whole m c) $$ [A0 A1 A2 A3 B0 B1 B2 B3 D0 D1 D2 D3 U0 U1 U2 U3 HZ]
    · iframe
    iapply (wp_load (defs := defs₀ (F := F)) 𝒱₀ (c : Thread nD τ) none Set.univ (m := zM) (Finset.subset_univ _)) $$ HZ; iintro HZ
    iapply Hk
    iframe

end Cert.AttnProof
-- ==== Proof.Score0.lean ====
/- The scores against the device's own column. -/
module

public import proofs.«01_k».proof.Proof.Column

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- The program of the scores against the device's own column, before what follows it. -/
def score0 (v24 : BitVec 32) (v70 : FVec F S512x256 .bf16) (v91 : FVec F S2x256x256 .bf16) {α : Type} (kk : PUnit → Prog (TpuEff nD τ sig (Elt F) Λ₀ .tc) α) : Prog (TpuEff nD τ sig (Elt F) Λ₀ .tc) α := do
  let ⟨v129, v130, cst_73⟩ : Σ' (v129 : FVec F S256x64 .bf16) (v130 : FVec F S64x64 .bf16), FVec F S64x256 .f32 ← k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v91
  let v165 : FVec F S2x64x256 .bf16 ← k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v91 v129 v130 cst_73
  let ⟨v172, v200⟩ : Σ' (v172 : FVec F S2x256x256 .bf16), FVec F S1x256x64 .bf16 ← k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v165
  let v239 : FVec F S64x256 .f32 ← k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v172 v200
  let ⟨v253, v268⟩ : Σ' (v253 : FVec F S2x256x256 .bf16), FVec F S64x256 .f32 ← k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v239
  let v309 : FVec F S256x64 .bf16 ← k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v253 v268
  let ⟨v334, v340⟩ : Σ' (v334 : FVec F S2x256x256 .bf16), FVec F S64x256 .f32 ← k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v253 v309
  let v379 : FVec F S64x256 .f32 ← k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v70 v334 v340
  k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v24 v70 v334 v379 >>= kk

set_option maxHeartbeats 4000000 in
/-- It stores the first 32 blocks of scores. -/
theorem score0_spec (c : Dev nD) (q : PosShare TreeShare) (v24 : BitVec 32) {α : Type} {Q : α → sProp 𝕄} {kk : PUnit → Prog (TpuEff nD τ sig (Elt F) Λ₀ .tc) α} :
    (((c : Thread nD τ).loc cc0_scratch0) ↦{q} (Zc m c) : sProp 𝕄) ⊢ iprop(sb m c 0 -∗ (((((c : Thread nD τ).loc cc0_scratch0) ↦{q} (Zc m c)) ∗ sb m c 32) -∗ wp frame (wpE (defs₀ (F := F)) 𝒱₀ (c : Thread nD τ) none) Set.univ (kk ⟨⟩) Q)
      -∗ wp frame (wpE (defs₀ (F := F)) 𝒱₀ (c : Thread nD τ) none) Set.univ (score0 v24 (qk m c).1 (qk m c).2 kk) Q) := by
  unfold score0
  simp only [k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, Prog.lift, Prog.bind_op, Prog.bind_ret, Prog.pure_eq_ret]
  iintro HZ HS Hk
  iterate 8
    iapply (sb_load (m := m) (c := c)) $$ HS; iintro %v HS
    iapply (sb_store (m := m) (c := c) (by decide) (by rfl)) $$ HS; iintro HS
  iterate 3
    iterate 4
      iapply (wp_load (defs := defs₀ (F := F)) 𝒱₀ (c : Thread nD τ) none Set.univ (m := zM) (Finset.subset_univ _)) $$ HZ; iintro HZ
    iterate 8
      iapply (sb_load (m := m) (c := c)) $$ HS; iintro %v HS
      iapply (sb_store (m := m) (c := c) (by decide) (by rfl)) $$ HS; iintro HS
  iapply Hk
  isplitl [HZ] <;> iassumption

end Cert.AttnProof
-- ==== Proof.Ctx0.lean ====
/- The weights and the contexts: the first nine blocks. -/
module

public import proofs.«01_k».proof.Proof.Column

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- The three buffers the contexts are computed from. -/
def bufs (c : Dev nD) : sProp 𝕄 := iprop((((c : Thread nD τ).loc cc0_scratch0) ↦{fullShare} (Zc m c)) ∗ (((c : Thread nD τ).loc cc0_scratch1) ↦{fullShare} (Pc m c)) ∗ (((c : Thread nD τ).loc cc0_scratch2) ↦{fullShare} (Sf m c)))

/-- The program of the first nine blocks of contexts, before what follows it. -/
def ctx0 (v1600 : FVec F S2x64x256 .bf16) {α : Type} (kk : (Σ' (_ : FVec F S2x256x256 .bf16) (_ : FVec F S2x256x256 .bf16) (_ : FVec F S2x256x256 .bf16) (_ : FVec F S2x256x256 .bf16) (_ : FVec F S64x64 .f32) (_ : FVec F S64x256 .bf16), FVec F S1x256x64 .bf16) → Prog (TpuEff nD τ sig (Elt F) Λ₀ .tc) α) : Prog (TpuEff nD τ sig (Elt F) Λ₀ .tc) α := do
  let ⟨v1607, v1616, v1618, v1620, v1622⟩ : Σ' (v1607 : FVec F S2x256x256 .bf16) (v1616 : FVec F S2x256x256 .bf16) (v1618 : FVec F S2x64x256 .bf16) (v1620 : FVec F S2x64x256 .bf16), FVec F S2x64x256 .bf16 ← k0_part72 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1600
  let ⟨v1625, v1634, v1645, v1656⟩ : Σ' (v1625 : FVec F S2x256x256 .bf16) (v1634 : FVec F S2x256x256 .bf16) (v1645 : FVec F S64x1024 .bf16), FVec F S64x64 .f32 ← k0_part73 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1607 v1616 v1618 v1620 v1622
  let v1702 : FVec F S64x64 .f32 ← k0_part74 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1607 v1616 v1625 v1634 v1645 v1656
  let ⟨v1743, v1744⟩ : Σ' (v1743 : Vec F S64x1024 .f32), FVec F S64 .f32 ← k0_part75 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1607 v1616 v1625 v1634 v1702
  let ⟨v1789, v1790, v1791⟩ : Σ' (v1789 : FVec F S64x1024 .bf16) (v1790 : FVec F S64x256 .bf16), FVec F S1x256x64 .bf16 ← k0_part76 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1607 v1616 v1625 v1634 v1743 v1744
  let ⟨v1825, v1836⟩ : Σ' (v1825 : FVec F S64x1024 .bf16), FVec F S64x64 .f32 ← k0_part77 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1607 v1616 v1625 v1634 v1789 v1790 v1791
  let v1882 : FVec F S64x64 .f32 ← k0_part78 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1607 v1616 v1625 v1634 v1825 v1836
  let v1923 : Vec F S1x2x64x256 .bf16 ← k0_part79 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1607 v1616 v1625 v1634 v1882
  let ⟨v1931, v1940, v1942, v1944⟩ : Σ' (v1931 : FVec F S2x256x256 .bf16) (v1940 : FVec F S2x256x256 .bf16) (v1942 : FVec F S2x64x256 .bf16), FVec F S2x64x256 .bf16 ← k0_part80 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1923
  let ⟨v1949, v1958, v1969, v1975, v1976, v1977⟩ : Σ' (v1949 : FVec F S2x256x256 .bf16) (v1958 : FVec F S2x256x256 .bf16) (v1969 : FVec F S64x1024 .bf16) (v1975 : FVec F S64x64 .f32) (v1976 : FVec F S64x256 .bf16), FVec F S1x256x64 .bf16 ← k0_part81 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1931 v1940 v1942 v1944
  let ⟨v2021, v2022, v2023⟩ : Σ' (v2021 : FVec F S64x64 .f32) (v2022 : FVec F S64x256 .bf16), FVec F S1x256x64 .bf16 ← k0_part82 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1931 v1940 v1949 v1958 v1969 v1975 v1976 v1977
  kk ⟨v1931, v1940, v1949, v1958, v2021, v2022, v2023⟩

set_option maxHeartbeats 1000000 in
/-- It stores the first nine blocks and has read what the tenth needs. -/
theorem ctx0_spec (c : Dev nD) {α : Type} {Q : α → sProp 𝕄} {kk : (Σ' (_ : FVec F S2x256x256 .bf16) (_ : FVec F S2x256x256 .bf16) (_ : FVec F S2x256x256 .bf16) (_ : FVec F S2x256x256 .bf16) (_ : FVec F S64x64 .f32) (_ : FVec F S64x256 .bf16), FVec F S1x256x64 .bf16) → Prog (TpuEff nD τ sig (Elt F) Λ₀ .tc) α} :
    bufs m c ⊢ iprop(cb m c 0 -∗ ((bufs m c ∗ cb m c 9) -∗ wp frame (wpE (defs₀ (F := F)) 𝒱₀ (c : Thread nD τ) none) Set.univ (kk ⟨half m c 0 1 1, half m c 1 1 1, half m c 2 1 1, half m c 3 1 1,
        k0_pay235 (half m c 0 1 1) (half m c 1 1 1) (half m c 2 1 1) (srow m c 9), k0_pay236 (srow m c 9), k0_pay237 (half m c 3 1 1)⟩) Q)
      -∗ wp frame (wpE (defs₀ (F := F)) 𝒱₀ (c : Thread nD τ) none) Set.univ (ctx0 (k0_pay197 (piece m c 0 0 0 1)) kk) Q) := by
  unfold ctx0
  simp only [k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, Prog.lift, Prog.bind_op, Prog.bind_ret, Prog.pure_eq_ret]
  unfold bufs
  iintro ⟨HZ, HP, HS⟩ HC Hk
  iterate 3
    iapply (wp_load (defs := defs₀ (F := F)) 𝒱₀ (c : Thread nD τ) none Set.univ (m := zM) (Finset.subset_univ _)) $$ HZ; iintro HZ
  iterate 12
    iapply (wp_load (defs := defs₀ (F := F)) 𝒱₀ (c : Thread nD τ) none Set.univ (m := pM) (Finset.subset_univ _)) $$ HP; iintro HP
  iterate 8
    iapply (wp_load (defs := defs₀ (F := F)) 𝒱₀ (c : Thread nD τ) none Set.univ (m := sM) (Finset.subset_univ _)) $$ HS; iintro HS
    iapply (cb_load (m := m) (c := c)) $$ HC; iintro %v HC
    iapply (cb_store (m := m) (c := c) (by decide) (by rfl)) $$ HC; iintro HC
  iterate 4
    iapply (wp_load (defs := defs₀ (F := F)) 𝒱₀ (c : Thread nD τ) none Set.univ (m := zM) (Finset.subset_univ _)) $$ HZ; iintro HZ
  iterate 12
    iapply (wp_load (defs := defs₀ (F := F)) 𝒱₀ (c : Thread nD τ) none Set.univ (m := pM) (Finset.subset_univ _)) $$ HP; iintro HP
  iapply (wp_load (defs := defs₀ (F := F)) 𝒱₀ (c : Thread nD τ) none Set.univ (m := sM) (Finset.subset_univ _)) $$ HS; iintro HS
  iapply (cb_load (m := m) (c := c)) $$ HC; iintro %v HC
  iapply (cb_store (m := m) (c := c) (by decide) (by rfl)) $$ HC; iintro HC
  iapply (wp_load (defs := defs₀ (F := F)) 𝒱₀ (c : Thread nD τ) none Set.univ (m := sM) (Finset.subset_univ _)) $$ HS; iintro HS
  iapply Hk
  iframe

end Cert.AttnProof
-- ==== Proof.Ctx1.lean ====
/- The weights and the contexts: the other blocks. -/
module

public import proofs.«01_k».proof.Proof.Ctx0

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- The program of the other blocks of contexts, before what follows it. -/
def ctx1 (v1931 v1940 v1949 v1958 : FVec F S2x256x256 .bf16) (v2021 : FVec F S64x64 .f32) (v2022 : FVec F S64x256 .bf16) (v2023 : FVec F S1x256x64 .bf16)
    {α : Type} (kk : FVec F S64x64 .f32 → Prog (TpuEff nD τ sig (Elt F) Λ₀ .tc) α) : Prog (TpuEff nD τ sig (Elt F) Λ₀ .tc) α := do
  k0_part83 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1931 v1940 v1949 v1958 v2021 v2022 v2023
  let ⟨v2108, v2111⟩ : Σ' (v2108 : FVec F S64x1024 .f32), FVec F S64x1024 .f32 ← k0_part84 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1931 v1940 v1949 v1958
  let ⟨v2149, v2155, v2156, v2157⟩ : Σ' (v2149 : FVec F S64x1024 .bf16) (v2155 : FVec F S64x64 .f32) (v2156 : FVec F S64x256 .bf16), FVec F S1x256x64 .bf16 ← k0_part85 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1931 v1940 v1949 v1958 v2108 v2111
  let ⟨v2201, v2202, v2203⟩ : Σ' (v2201 : FVec F S64x64 .f32) (v2202 : FVec F S64x256 .bf16), FVec F S1x256x64 .bf16 ← k0_part86 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1931 v1940 v1949 v1958 v2149 v2155 v2156 v2157
  k0_part87 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v1931 v1940 v1949 v1958 v2201 v2202 v2203
  let ⟨v2255, v2264, v2266, v2267⟩ : Σ' (v2255 : FVec F S2x256x256 .bf16) (v2264 : FVec F S2x256x256 .bf16) (v2266 : FVec F S2x64x256 .bf16), Vec F S1x2x64x256 .bf16 ← k0_part88 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15
  let ⟨v2273, v2282, v2293, v2297, cst_1471⟩ : Σ' (v2273 : FVec F S2x256x256 .bf16) (v2282 : FVec F S2x256x256 .bf16) (v2293 : FVec F S64x1024 .bf16) (v2297 : FVec F S64x64 .f32), F .f32 ← k0_part89 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2255 v2266 v2267
  let ⟨v2329, v2340, v2341, v2343, cst_1484⟩ : Σ' (v2329 : FVec F S64x1024 .bf16) (v2340 : FVec F S64x64 .f32) (v2341 : FVec F S64x256 .bf16) (v2343 : FVec F S256x64 .bf16), FVec F S64x64 .f32 ← k0_part90 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2255 v2264 v2273 v2282 v2293 v2297 cst_1471
  let ⟨v2387, v2388⟩ : Σ' (v2387 : FVec F S64x64 .bf16), Vec F S64x64 .bf16 ← k0_part91 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2255 v2264 v2273 v2282 v2329 v2340 v2341 v2343 cst_1484
  let v2432 : FVec F S64x1024 .f32 ← k0_part92 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2255 v2264 v2273 v2282 v2387 v2388
  let ⟨v2473, v2477, cst_1526⟩ : Σ' (v2473 : FVec F S64x1024 .bf16) (v2477 : FVec F S64x64 .f32), F .f32 ← k0_part93 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2255 v2264 v2273 v2282 v2432
  let ⟨v2509, v2520, v2521, v2523, cst_1539⟩ : Σ' (v2509 : FVec F S64x1024 .bf16) (v2520 : FVec F S64x64 .f32) (v2521 : FVec F S64x256 .bf16) (v2523 : FVec F S256x64 .bf16), FVec F S64x64 .f32 ← k0_part94 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2255 v2264 v2273 v2282 v2473 v2477 cst_1526
  let ⟨v2567, v2568⟩ : Σ' (v2567 : FVec F S64x64 .bf16), Vec F S64x64 .bf16 ← k0_part95 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2255 v2264 v2273 v2282 v2509 v2520 v2521 v2523 cst_1539
  let ⟨v2579, v2588, v2590⟩ : Σ' (v2579 : FVec F S2x256x256 .bf16) (v2588 : FVec F S2x256x256 .bf16), FVec F S2x64x256 .bf16 ← k0_part96 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2567 v2568
  let ⟨v2597, v2606, v2617, v2618, v2619⟩ : Σ' (v2597 : FVec F S2x256x256 .bf16) (v2606 : FVec F S2x256x256 .bf16) (v2617 : FVec F S64x1024 .bf16) (v2618 : FVec F S64x256 .bf16), FVec F S1x256x64 .bf16 ← k0_part97 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2579 v2590
  let ⟨v2653, v2664⟩ : Σ' (v2653 : FVec F S64x1024 .bf16), FVec F S64x64 .f32 ← k0_part98 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2579 v2588 v2597 v2606 v2617 v2618 v2619
  let v2710 : FVec F S64x64 .f32 ← k0_part99 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2579 v2588 v2597 v2606 v2653 v2664
  let ⟨v2751, v2752⟩ : Σ' (v2751 : Vec F S64x1024 .f32), FVec F S64 .f32 ← k0_part100 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2579 v2588 v2597 v2606 v2710
  let ⟨v2797, v2798, v2799⟩ : Σ' (v2797 : FVec F S64x1024 .bf16) (v2798 : FVec F S64x256 .bf16), FVec F S1x256x64 .bf16 ← k0_part101 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2579 v2588 v2597 v2606 v2751 v2752
  let ⟨v2833, v2844⟩ : Σ' (v2833 : FVec F S64x1024 .bf16), FVec F S64x64 .f32 ← k0_part102 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2579 v2588 v2597 v2606 v2797 v2798 v2799
  let v2890 : FVec F S64x64 .f32 ← k0_part103 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 v2579 v2588 v2597 v2606 v2833 v2844
  kk v2890

set_option maxHeartbeats 2000000 in
/-- It stores all but the last, and returns the last before it is rounded. -/
theorem ctx1_spec (c : Dev nD) {α : Type} {Q : α → sProp 𝕄} {kk : FVec F S64x64 .f32 → Prog (TpuEff nD τ sig (Elt F) Λ₀ .tc) α} :
    bufs m c ⊢ iprop(cb m c 9 -∗ (∀ v, ⌜k0_pay1 v = CblkN m c 31⌝ -∗ (bufs m c ∗ cb m c 31) -∗ wp frame (wpE (defs₀ (F := F)) 𝒱₀ (c : Thread nD τ) none) Set.univ (kk v) Q)
      -∗ wp frame (wpE (defs₀ (F := F)) 𝒱₀ (c : Thread nD τ) none) Set.univ (ctx1 (half m c 0 1 1) (half m c 1 1 1) (half m c 2 1 1) (half m c 3 1 1)
        (k0_pay235 (half m c 0 1 1) (half m c 1 1 1) (half m c 2 1 1) (srow m c 9)) (k0_pay236 (srow m c 9)) (k0_pay237 (half m c 3 1 1)) kk) Q) := by
  unfold ctx1
  simp only [k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, Prog.lift, Prog.bind_op, Prog.bind_ret, Prog.pure_eq_ret]
  unfold bufs
  iintro ⟨HZ, HP, HS⟩ HC Hk
  iapply (cb_load (m := m) (c := c)) $$ HC; iintro %v HC
  iapply (cb_store (m := m) (c := c) (by decide) (by rfl)) $$ HC; iintro HC
  iterate 6
    iapply (wp_load (defs := defs₀ (F := F)) 𝒱₀ (c : Thread nD τ) none Set.univ (m := sM) (Finset.subset_univ _)) $$ HS; iintro HS
    iapply (cb_load (m := m) (c := c)) $$ HC; iintro %v HC
    iapply (cb_store (m := m) (c := c) (by decide) (by rfl)) $$ HC; iintro HC
  iterate 4
    iapply (wp_load (defs := defs₀ (F := F)) 𝒱₀ (c : Thread nD τ) none Set.univ (m := zM) (Finset.subset_univ _)) $$ HZ; iintro HZ
  iterate 12
    iapply (wp_load (defs := defs₀ (F := F)) 𝒱₀ (c : Thread nD τ) none Set.univ (m := pM) (Finset.subset_univ _)) $$ HP; iintro HP
  iterate 8
    iapply (wp_load (defs := defs₀ (F := F)) 𝒱₀ (c : Thread nD τ) none Set.univ (m := sM) (Finset.subset_univ _)) $$ HS; iintro HS
    iapply (cb_load (m := m) (c := c)) $$ HC; iintro %v HC
    iapply (cb_store (m := m) (c := c) (by decide) (by rfl)) $$ HC; iintro HC
  iterate 4
    iapply (wp_load (defs := defs₀ (F := F)) 𝒱₀ (c : Thread nD τ) none Set.univ (m := zM) (Finset.subset_univ _)) $$ HZ; iintro HZ
  iterate 12
    iapply (wp_load (defs := defs₀ (F := F)) 𝒱₀ (c : Thread nD τ) none Set.univ (m := pM) (Finset.subset_univ _)) $$ HP; iintro HP
  iterate 7
    iapply (wp_load (defs := defs₀ (F := F)) 𝒱₀ (c : Thread nD τ) none Set.univ (m := sM) (Finset.subset_univ _)) $$ HS; iintro HS
    iapply (cb_load (m := m) (c := c)) $$ HC; iintro %v HC
    iapply (cb_store (m := m) (c := c) (by decide) (by rfl)) $$ HC; iintro HC
  iapply (wp_load (defs := defs₀ (F := F)) 𝒱₀ (c : Thread nD τ) none Set.univ (m := sM) (Finset.subset_univ _)) $$ HS; iintro HS
  iapply Hk
  · ipureintro; rfl
  iframe

end Cert.AttnProof
-- ==== Proof.Col0.lean ====
/- The exchange inside the column on the bottom plane. -/
module

public import proofs.«01_k».proof.Proof.Column

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

set_option maxHeartbeats 4000000 in
/-- The exchange inside the column, on a device of the bottom plane. -/
theorem comm_0 (c : Dev nD) (hz : zs c = 0) (v24 v28 v30 v32 : BitVec 32) {α : Type} {Q : α → sProp 𝕄}
    {kk : (Σ' (_ : FVec F S512x256 .bf16), FVec F S2x256x256 .bf16) → Prog (TpuEff nD τ sig (Elt F) Λ₀ .tc) α} :
    recs m K ⊢ iprop(before c -∗ stgs m c -∗ ((after m c ∗ stgs m c) -∗ wp frame (wpE (defs₀ (F := F)) 𝒱₀ (c : Thread nD τ) none) Set.univ (kk (qk m c)) Q)
      -∗ wp frame (wpE (defs₀ (F := F)) 𝒱₀ (c : Thread nD τ) none) Set.univ (colProg c 0#32 v24 v28 v30 v32 kk) Q) := by
  unfold colProg
  have d1 := (by decide +kernel : ∀ c : Dev nD, zs c = 0 → k0_dev1 c = (peer 1 c).val) c hz
  have d2 := (by decide +kernel : ∀ c : Dev nD, zs c = 0 → k0_dev2 c = (peer 0 c).val) c hz
  have d4 := (by decide +kernel : ∀ c : Dev nD, zs c = 0 → k0_dev4 c = (peer 2 c).val) c hz
  have d5 := (by decide +kernel : ∀ c : Dev nD, zs c = 0 → k0_dev5 c = (tgt c (.a1 0)).val) c hz
  have d6 := (by decide +kernel : ∀ c : Dev nD, zs c = 0 → k0_dev6 c = (tgt c (.b1 0)).val) c hz
  have d7 := (by decide +kernel : ∀ c : Dev nD, zs c = 0 → k0_dev7 c = (tgt c (.dn 0)).val) c hz
  have d19 := (by decide +kernel : ∀ c : Dev nD, zs c = 0 → k0_dev19 c = (tgt c (.a1 1)).val) c hz
  have d20 := (by decide +kernel : ∀ c : Dev nD, zs c = 0 → k0_dev20 c = (tgt c (.b1 1)).val) c hz
  have d21 := (by decide +kernel : ∀ c : Dev nD, zs c = 0 → k0_dev21 c = (tgt c (.a1 2)).val) c hz
  have d22 := (by decide +kernel : ∀ c : Dev nD, zs c = 0 → k0_dev22 c = (tgt c (.b1 2)).val) c hz
  have d23 := (by decide +kernel : ∀ c : Dev nD, zs c = 0 → k0_dev23 c = (tgt c (.a1 3)).val) c hz
  have d24 := (by decide +kernel : ∀ c : Dev nD, zs c = 0 → k0_dev24 c = (tgt c (.b1 3)).val) c hz
  have hd := (by decide : ∀ c : Dev nD, zs c = 0 → (dirs c).card = 3) c hz
  have h1 := (by decide +kernel : ∀ c : Dev nD, zs c = 0 → ¬ k0_cond1 c = 1#1) c hz
  have h2 := (by decide +kernel : ∀ c : Dev nD, zs c = 0 → k0_cond2 c = 1#1) c hz
  have h5 := (by decide +kernel : ∀ c : Dev nD, zs c = 0 → k0_cond5 c = 1#1) c hz
  have h9 := (by decide +kernel : ∀ c : Dev nD, zs c = 0 → k0_cond9 c = 1#1) c hz
  have h6 := (by decide +kernel : ∀ c : Dev nD, zs c = 0 → ¬ k0_cond6 c = 1#1) c hz
  have h10 := (by decide +kernel : ∀ c : Dev nD, zs c = 0 → ¬ k0_cond10 c = 1#1) c hz
  have h7 := (by decide +kernel : ∀ c : Dev nD, zs c = 0 → ¬ k0_cond7 c = 1#1) c hz
  have h11 := (by decide +kernel : ∀ c : Dev nD, zs c = 0 → ¬ k0_cond11 c = 1#1) c hz
  have h8 := (by decide +kernel : ∀ c : Dev nD, zs c = 0 → ¬ k0_cond8 c = 1#1) c hz
  have h12 := (by decide +kernel : ∀ c : Dev nD, zs c = 0 → ¬ k0_cond12 c = 1#1) c hz
  have adn0 := (by decide : ∀ c : Dev nD, zs c = 0 → act c (.dn 0) = true) c hz
  have rdn0 := (by decide : ∀ c : Dev nD, zs c = 0 → actR c (.dn 0) = false) c hz
  have adn1 := (by decide : ∀ c : Dev nD, zs c = 0 → act c (.dn 1) = false) c hz
  have rdn1 := (by decide : ∀ c : Dev nD, zs c = 0 → actR c (.dn 1) = false) c hz
  have adn2 := (by decide : ∀ c : Dev nD, zs c = 0 → act c (.dn 2) = false) c hz
  have rdn2 := (by decide : ∀ c : Dev nD, zs c = 0 → actR c (.dn 2) = false) c hz
  have aup0 := (by decide : ∀ c : Dev nD, zs c = 0 → act c (.up 0) = false) c hz
  have rup0 := (by decide : ∀ c : Dev nD, zs c = 0 → actR c (.up 0) = true) c hz
  have aup1 := (by decide : ∀ c : Dev nD, zs c = 0 → act c (.up 1) = false) c hz
  have rup1 := (by decide : ∀ c : Dev nD, zs c = 0 → actR c (.up 1) = true) c hz
  have aup2 := (by decide : ∀ c : Dev nD, zs c = 0 → act c (.up 2) = false) c hz
  have rup2 := (by decide : ∀ c : Dev nD, zs c = 0 → actR c (.up 2) = true) c hz
  have sdn0 := (by decide : ∀ c : Dev nD, zs c = 0 → srcSlot c (.dn 0) = .z 0) c hz
  have tup0 := (by decide : ∀ c : Dev nD, zs c = 0 → dstSlot c (.up 0) = .z 1) c hz
  have tup1 := (by decide : ∀ c : Dev nD, zs c = 0 → dstSlot c (.up 1) = .z 2) c hz
  have tup2 := (by decide : ∀ c : Dev nD, zs c = 0 → dstSlot c (.up 2) = .z 3) c hz
  rw [k0_part24_eq_skeleton, k0_part25_eq_skeleton]
  unfold k0_part24_skel k0_part25_skel
  simp only [dif_neg h1, dif_pos h2, dif_pos h5, dif_pos h9, dif_neg h6, dif_neg h10, dif_neg h7, dif_neg h11, dif_neg h8, dif_neg h12]
  rw [dif_neg (by decide), dif_pos (by decide)]
  simp only [k0_part1_eq_skeleton, k0_part1_skel, k0_part7_eq_skeleton, k0_part7_skel, k0_part8_eq_skeleton, k0_part8_skel, k0_part9_eq_skeleton, k0_part9_skel, semSignalWord, semWaitWord, Prog.lift, Prog.bind_op, Prog.bind_ret, Prog.pure_eq_ret]
  unfold before after vert stgs
  rw [hz]
  simp only [order]
  iintro #HR HB HS HQ
  icases HB with ⟨⟨T0, T1, T2, T3⟩, ⟨Hbp, Hbc⟩, ⟨Pdn0, Pdn1, Pdn2, Pup0, Pup1, Pup2⟩, ⟨Pa10, Pa11, Pa12, Pa13, Pb10, Pb11, Pb12, Pb13⟩, ⟨Pa20, Pa21, Pb20, Pb21⟩, ⟨Wdn0, Wdn1, Wdn2, Wup0, Wup1, Wup2⟩, ⟨%fz, HZ⟩, ⟨%fp, HP⟩, Ho⟩
  ihave HZ := (ofEq (cut_z c fullShare fz)) $$ HZ
  ihave HP := (ofEq (cut_p c fullShare fp)) $$ HP
  icases HZ with ⟨Z0, Z1, Z2, Z3⟩
  icases HP with ⟨R0, R1, R2, R3, R4, R5, R6, R7, R8, R9, R10, R11⟩
  ihave G1 := (give_right c fp) $$ [R0 R1 R2 R3 R8 R9]
  · isplitl [R0]; · iexact R0
    isplitl [R1]; · iexact R1
    isplitl [R2]; · iexact R2
    isplitl [R3]; · iexact R3
    isplitl [R8] <;> iassumption
  ihave G0 := (give_left c fp) $$ [R4 R5 R6 R7 R10 R11]
  · isplitl [R4]; · iexact R4
    isplitl [R5]; · iexact R5
    isplitl [R6]; · iexact R6
    isplitl [R7]; · iexact R7
    isplitl [R10] <;> iassumption
  ihave G2 := (give_up (F := F) c) $$ [Z1 Z2 Z3]
  · isplitl [Z1]; · iapply (hand_give' tup0 fz); iexact Z1
    isplitl [Z2]; · iapply (hand_give' tup1 fz); iexact Z2
    iapply (hand_give' tup2 fz); iexact Z3
  iapply (sig_step m K c 1 (by unfold dirs; rw [hz]; decide) (devEq d1) _) $$ HR T1 G1 Ho
  iintro Ho
  iapply (sig_step m K c 0 (by unfold dirs; rw [hz]; decide) (devEq d2) _) $$ HR T0 G0 Ho
  iintro Ho
  iapply (sig_step m K c 2 (by unfold dirs; rw [hz]; decide) (devEq d4) _) $$ HR T2 G2 Ho
  iintro Ho
  iapply (bar_step m K c _ (by decide) hd.symm) $$ HR Hbp Hbc Ho
  iintro ⟨HB, Hb, Ho⟩
  ihave HB := (ofEq (bars_0 hz)) $$ HB
  icases HB with ⟨⟨Ha10, Ha11, Ha12, Ha13, Ha20, Ha21⟩, ⟨Hb10, Hb11, Hb12, Hb13, Hb20, Hb21⟩, ⟨Hdn0, Hdn1, Hdn2⟩⟩
  ihave Pa10 := (ready c (.a1 0)) $$ [Pa10 Ha10]; · isplitl [Pa10] <;> iassumption
  ihave Pa11 := (ready c (.a1 1)) $$ [Pa11 Ha11]; · isplitl [Pa11] <;> iassumption
  ihave Pa12 := (ready c (.a1 2)) $$ [Pa12 Ha12]; · isplitl [Pa12] <;> iassumption
  ihave Pa13 := (ready c (.a1 3)) $$ [Pa13 Ha13]; · isplitl [Pa13] <;> iassumption
  ihave Pb10 := (ready c (.b1 0)) $$ [Pb10 Hb10]; · isplitl [Pb10] <;> iassumption
  ihave Pb11 := (ready c (.b1 1)) $$ [Pb11 Hb11]; · isplitl [Pb11] <;> iassumption
  ihave Pb12 := (ready c (.b1 2)) $$ [Pb12 Hb12]; · isplitl [Pb12] <;> iassumption
  ihave Pb13 := (ready c (.b1 3)) $$ [Pb13 Hb13]; · isplitl [Pb13] <;> iassumption
  ihave Pa20 := (ready c (.a2 0)) $$ [Pa20 Ha20]; · isplitl [Pa20] <;> iassumption
  ihave Pa21 := (ready c (.a2 1)) $$ [Pa21 Ha21]; · isplitl [Pa21] <;> iassumption
  ihave Pb20 := (ready c (.b2 0)) $$ [Pb20 Hb20]; · isplitl [Pb20] <;> iassumption
  ihave Pb21 := (ready c (.b2 1)) $$ [Pb21 Hb21]; · isplitl [Pb21] <;> iassumption
  ihave Pdn0 := (ready c (.dn 0)) $$ [Pdn0 Hdn0]; · isplitl [Pdn0] <;> iassumption
  icases HS with ⟨HX, HW, HK, HV, HWo⟩
  iapply (own_step m c hz fz (by decide : (![0, 0, 0, 0] : Fin 4 → ℕ) = fun _ => 0))
  isplitl [Z0]; · iexact Z0
  isplitl [HK]; · iexact HK
  isplitl [HV]; · iexact HV
  iintro ⟨Z0, HK, HV⟩
  ihave Z0 := (ofEq (five m c 0)) $$ Z0
  icases Z0 with ⟨⟨A0, B0⟩, ⟨D0, U0⟩, Q0⟩
  iapply (send_step m K c (.a1 0) (ss := .z 0) (ds := .p 0) (q := shr (.a1 0)) rfl (devEq d5) _ rfl rfl rfl rfl rfl rfl rfl) $$ HR Pa10 A0 Ho
  iintro ⟨Pa10, Ho⟩
  iapply (send_step m K c (.b1 0) (ss := .z 0) (ds := .p 4) (q := shr (.b1 0)) rfl (devEq d6) _ rfl rfl rfl rfl rfl rfl rfl) $$ HR Pb10 B0 Ho
  iintro ⟨Pb10, Ho⟩
  iapply (send_step m K c (.dn 0) (ss := .z 0) (ds := .z 0) (q := shr (.dn 0)) adn0 (devEq d7) _ sdn0 sdn0 rfl rfl rfl rfl rfl) $$ HR Pdn0 D0 Ho
  iintro ⟨Pdn0, Ho⟩
  iapply (wp_load (defs := defs₀ (F := F)) 𝒱₀ (c : Thread nD τ) none Set.univ (m := (Memref.whole cc0_stg0_0 : Memref sig .tc .vmem S2x256x512 .bf16)) (Finset.subset_univ _)) $$ HX
  iintro HX
  iapply (wp_load (defs := defs₀ (F := F)) 𝒱₀ (c : Thread nD τ) none Set.univ (m := (Memref.whole cc0_stg1_0 : Memref sig .tc .vmem S512x256 .bf16)) (Finset.subset_univ _)) $$ HW
  iintro HW
  ihave Wup0 := (vdue_y rup0) $$ Wup0
  iapply (rcv_step m K c (.up 0) rup0 _ (by decide) rfl (slot_credit (.z 1) (rcvS (.up 0))) tup0) $$ HR Wup0 Ho
  iintro ⟨Z1, Fup0, Ho⟩
  ihave Z1 := (ofEq (five m c 1)) $$ Z1
  icases Z1 with ⟨⟨A1, B1⟩, ⟨D1, U1⟩, Q1⟩
  iapply (send_step m K c (.a1 1) (ss := .z 1) (ds := .p 1) (q := shr (.a1 1)) rfl (devEq d19) _ rfl rfl rfl rfl rfl rfl rfl) $$ HR Pa11 A1 Ho
  iintro ⟨Pa11, Ho⟩
  iapply (send_step m K c (.b1 1) (ss := .z 1) (ds := .p 5) (q := shr (.b1 1)) rfl (devEq d20) _ rfl rfl rfl rfl rfl rfl rfl) $$ HR Pb11 B1 Ho
  iintro ⟨Pb11, Ho⟩
  ihave Wup1 := (vdue_y rup1) $$ Wup1
  iapply (rcv_step m K c (.up 1) rup1 _ (by decide) rfl (slot_credit (.z 2) (rcvS (.up 1))) tup1) $$ HR Wup1 Ho
  iintro ⟨Z2, Fup1, Ho⟩
  ihave Z2 := (ofEq (five m c 2)) $$ Z2
  icases Z2 with ⟨⟨A2, B2⟩, ⟨D2, U2⟩, Q2⟩
  iapply (send_step m K c (.a1 2) (ss := .z 2) (ds := .p 2) (q := shr (.a1 2)) rfl (devEq d21) _ rfl rfl rfl rfl rfl rfl rfl) $$ HR Pa12 A2 Ho
  iintro ⟨Pa12, Ho⟩
  iapply (send_step m K c (.b1 2) (ss := .z 2) (ds := .p 6) (q := shr (.b1 2)) rfl (devEq d22) _ rfl rfl rfl rfl rfl rfl rfl) $$ HR Pb12 B2 Ho
  iintro ⟨Pb12, Ho⟩
  ihave Wup2 := (vdue_y rup2) $$ Wup2
  iapply (rcv_step m K c (.up 2) rup2 _ (by decide) rfl (slot_credit (.z 3) (rcvS (.up 2))) tup2) $$ HR Wup2 Ho
  iintro ⟨Z3, Fup2, Ho⟩
  ihave Z3 := (ofEq (five m c 3)) $$ Z3
  icases Z3 with ⟨⟨A3, B3⟩, ⟨D3, U3⟩, Q3⟩
  iapply (send_step m K c (.a1 3) (ss := .z 3) (ds := .p 3) (q := shr (.a1 3)) rfl (devEq d23) _ rfl rfl rfl rfl rfl rfl rfl) $$ HR Pa13 A3 Ho
  iintro ⟨Pa13, Ho⟩
  iapply (send_step m K c (.b1 3) (ss := .z 3) (ds := .p 7) (q := shr (.b1 3)) rfl (devEq d24) _ rfl rfl rfl rfl rfl rfl rfl) $$ HR Pb13 B3 Ho
  iintro ⟨Pb13, Ho⟩
  ihave Pdn0 := (vsent_y adn0) $$ Pdn0
  imod (vdue_n (m := m) (K := K) rdn0) $$ [Wdn0] with Fdn0
  · isplitr; · iexact HR
    iexact Wdn0
  imod (vsent_n (m := m) (K := K) adn1) $$ [Pdn1 Hdn1] with Pdn1
  · isplitr; · iexact HR
    isplitl [Pdn1] <;> iassumption
  imod (vdue_n (m := m) (K := K) rdn1) $$ [Wdn1] with Fdn1
  · isplitr; · iexact HR
    iexact Wdn1
  imod (vsent_n (m := m) (K := K) adn2) $$ [Pdn2 Hdn2] with Pdn2
  · isplitr; · iexact HR
    isplitl [Pdn2] <;> iassumption
  imod (vdue_n (m := m) (K := K) rdn2) $$ [Wdn2] with Fdn2
  · isplitr; · iexact HR
    iexact Wdn2
  imod (vsent_n' (m := m) (K := K) aup0) $$ [Pup0] with Pup0
  · isplitr; · iexact HR
    iexact Pup0
  imod (vsent_n' (m := m) (K := K) aup1) $$ [Pup1] with Pup1
  · isplitr; · iexact HR
    iexact Pup1
  imod (vsent_n' (m := m) (K := K) aup2) $$ [Pup2] with Pup2
  · isplitr; · iexact HR
    iexact Pup2
  ihave HZ := (ofEq (colC m c qld).symm) $$ [Q0 Q1 Q2 Q3]
  · isplitl [Q0]; · iexact Q0
    isplitl [Q1]; · iexact Q1
    isplitl [Q2] <;> iassumption
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  rw [show (Memref.whole cc0_stg0_0 : Memref sig .tc .vmem S2x256x512 .bf16).view.readAt (Elt F) (Rect.unit ![0, 0, 0] S2x256x512.size inb_S2x256x512_S2x256x512_0_0_0).toLoadRect (Xst m c) = Xst m c from
    Memref.readAt_unit_zero (Elt F) cc0_stg0_0 (by decide) _ _]
  rw [show (Memref.whole cc0_stg1_0 : Memref sig .tc .vmem S512x256 .bf16).view.readAt (Elt F) (Rect.unit ![0, 0] S512x256.size inb_S512x256_S512x256_0_0).toLoadRect (Wq m c) = Wq m c from
    Memref.readAt_unit_zero (Elt F) cc0_stg1_0 (by decide) _ _]
  iapply HQ
  isplitl [Pa10 Pa11 Pa12 Pa13 Pb10 Pb11 Pb12 Pb13 Pa20 Pa21 Pb20 Pb21 Pdn0 Pdn1 Pdn2 Pup0 Pup1 Pup2 D1 D2 D3 U0 U1 U2 U3 Fdn0 Fdn1 Fdn2 Fup0 Fup1 Fup2 Hb HZ Ho]
  · isplitl [Pa10 Pa11 Pa12 Pa13 Pb10 Pb11 Pb12 Pb13]
    · isplitl [Pa10]; · iexact Pa10
      isplitl [Pa11]; · iexact Pa11
      isplitl [Pa12]; · iexact Pa12
      isplitl [Pa13]; · iexact Pa13
      isplitl [Pb10]; · iexact Pb10
      isplitl [Pb11]; · iexact Pb11
      isplitl [Pb12]; · iexact Pb12
      iexact Pb13
    isplitl [Pa20 Pa21 Pb20 Pb21]
    · isplitl [Pa20]; · iexact Pa20
      isplitl [Pa21]; · iexact Pa21
      isplitl [Pb20]; · iexact Pb20
      iexact Pb21
    isplitl [Pdn0 Pdn1 Pdn2 Pup0 Pup1 Pup2 D1 D2 D3 U0 U1 U2 U3 Fdn0 Fdn1 Fdn2 Fup0 Fup1 Fup2]
    · isplitl [Pdn0 Pdn1 Pdn2 Pup0 Pup1 Pup2]
      · isplitl [Pdn0]; · iexact Pdn0
        isplitl [Pdn1]; · iexact Pdn1
        isplitl [Pdn2]; · iexact Pdn2
        isplitl [Pup0]; · iexact Pup0
        isplitl [Pup1]; · iexact Pup1
        iexact Pup2
      isplitl [D1 D2 D3]
      · isplitl []; · iapply (spDn_n (m := m) (by rw [hz]; decide)); iempintro
        isplitl [D1]; · iapply (spDn_y (m := m) (by rw [hz]; decide)); iexact D1
        isplitl [D2]; · iapply (spDn_y (m := m) (by rw [hz]; decide)); iexact D2
        iapply (spDn_y (m := m) (by rw [hz]; decide)); iexact D3
      isplitl [U0 U1 U2 U3]
      · isplitl [U0]; · iapply (spUp_y (m := m) (by rw [hz]; decide)); iexact U0
        isplitl [U1]; · iapply (spUp_y (m := m) (by rw [hz]; decide)); iexact U1
        isplitl [U2]; · iapply (spUp_y (m := m) (by rw [hz]; decide)); iexact U2
        iapply (spUp_y (m := m) (by rw [hz]; decide)); iexact U3
      isplitl [Fdn0]; · iexact Fdn0
      isplitl [Fdn1]; · iexact Fdn1
      isplitl [Fdn2]; · iexact Fdn2
      isplitl [Fup0]; · iexact Fup0
      isplitl [Fup1]; · iexact Fup1
      iexact Fup2
    isplitl [Hb]; · iexact Hb
    isplitl [HZ]; · iexact HZ
    iexact Ho
  isplitl [HX]; · iexact HX
  isplitl [HW]; · iexact HW
  isplitl [HK]; · iexact HK
  isplitl [HV]; · iexact HV
  iexact HWo

end Cert.AttnProof
-- ==== Proof.Col1.lean ====
/- The exchange inside the column on the second plane. -/
module

public import proofs.«01_k».proof.Proof.Column

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

set_option maxHeartbeats 4000000 in
/-- The exchange inside the column, on a device of the second plane. -/
theorem comm_1 (c : Dev nD) (hz : zs c = 1) (v24 v28 v30 v32 : BitVec 32) {α : Type} {Q : α → sProp 𝕄}
    {kk : (Σ' (_ : FVec F S512x256 .bf16), FVec F S2x256x256 .bf16) → Prog (TpuEff nD τ sig (Elt F) Λ₀ .tc) α} :
    recs m K ⊢ iprop(before c -∗ stgs m c -∗ ((after m c ∗ stgs m c) -∗ wp frame (wpE (defs₀ (F := F)) 𝒱₀ (c : Thread nD τ) none) Set.univ (kk (qk m c)) Q)
      -∗ wp frame (wpE (defs₀ (F := F)) 𝒱₀ (c : Thread nD τ) none) Set.univ (colProg c 1#32 v24 v28 v30 v32 kk) Q) := by
  unfold colProg
  have d1 := (by decide +kernel : ∀ c : Dev nD, zs c = 1 → k0_dev1 c = (peer 1 c).val) c hz
  have d2 := (by decide +kernel : ∀ c : Dev nD, zs c = 1 → k0_dev2 c = (peer 0 c).val) c hz
  have d3 := (by decide +kernel : ∀ c : Dev nD, zs c = 1 → k0_dev3 c = (peer 3 c).val) c hz
  have d4 := (by decide +kernel : ∀ c : Dev nD, zs c = 1 → k0_dev4 c = (peer 2 c).val) c hz
  have d8 := (by decide +kernel : ∀ c : Dev nD, zs c = 1 → k0_dev8 c = (tgt c (.a1 1)).val) c hz
  have d9 := (by decide +kernel : ∀ c : Dev nD, zs c = 1 → k0_dev9 c = (tgt c (.b1 1)).val) c hz
  have d10 := (by decide +kernel : ∀ c : Dev nD, zs c = 1 → k0_dev10 c = (tgt c (.dn 0)).val) c hz
  have d11 := (by decide +kernel : ∀ c : Dev nD, zs c = 1 → k0_dev11 c = (tgt c (.up 0)).val) c hz
  have d25 := (by decide +kernel : ∀ c : Dev nD, zs c = 1 → k0_dev25 c = (tgt c (.a1 0)).val) c hz
  have d26 := (by decide +kernel : ∀ c : Dev nD, zs c = 1 → k0_dev26 c = (tgt c (.b1 0)).val) c hz
  have d27 := (by decide +kernel : ∀ c : Dev nD, zs c = 1 → k0_dev27 c = (tgt c (.a1 2)).val) c hz
  have d28 := (by decide +kernel : ∀ c : Dev nD, zs c = 1 → k0_dev28 c = (tgt c (.b1 2)).val) c hz
  have d29 := (by decide +kernel : ∀ c : Dev nD, zs c = 1 → k0_dev29 c = (tgt c (.dn 1)).val) c hz
  have d30 := (by decide +kernel : ∀ c : Dev nD, zs c = 1 → k0_dev30 c = (tgt c (.up 1)).val) c hz
  have d31 := (by decide +kernel : ∀ c : Dev nD, zs c = 1 → k0_dev31 c = (tgt c (.a1 3)).val) c hz
  have d32 := (by decide +kernel : ∀ c : Dev nD, zs c = 1 → k0_dev32 c = (tgt c (.b1 3)).val) c hz
  have d33 := (by decide +kernel : ∀ c : Dev nD, zs c = 1 → k0_dev33 c = (tgt c (.up 2)).val) c hz
  have hd := (by decide : ∀ c : Dev nD, zs c = 1 → (dirs c).card = 4) c hz
  have h1 := (by decide +kernel : ∀ c : Dev nD, zs c = 1 → k0_cond1 c = 1#1) c hz
  have h2 := (by decide +kernel : ∀ c : Dev nD, zs c = 1 → k0_cond2 c = 1#1) c hz
  have h5 := (by decide +kernel : ∀ c : Dev nD, zs c = 1 → ¬ k0_cond5 c = 1#1) c hz
  have h9 := (by decide +kernel : ∀ c : Dev nD, zs c = 1 → ¬ k0_cond9 c = 1#1) c hz
  have h6 := (by decide +kernel : ∀ c : Dev nD, zs c = 1 → k0_cond6 c = 1#1) c hz
  have h10 := (by decide +kernel : ∀ c : Dev nD, zs c = 1 → k0_cond10 c = 1#1) c hz
  have h7 := (by decide +kernel : ∀ c : Dev nD, zs c = 1 → ¬ k0_cond7 c = 1#1) c hz
  have h11 := (by decide +kernel : ∀ c : Dev nD, zs c = 1 → ¬ k0_cond11 c = 1#1) c hz
  have h8 := (by decide +kernel : ∀ c : Dev nD, zs c = 1 → ¬ k0_cond8 c = 1#1) c hz
  have h12 := (by decide +kernel : ∀ c : Dev nD, zs c = 1 → ¬ k0_cond12 c = 1#1) c hz
  have adn0 := (by decide : ∀ c : Dev nD, zs c = 1 → act c (.dn 0) = true) c hz
  have rdn0 := (by decide : ∀ c : Dev nD, zs c = 1 → actR c (.dn 0) = true) c hz
  have adn1 := (by decide : ∀ c : Dev nD, zs c = 1 → act c (.dn 1) = true) c hz
  have rdn1 := (by decide : ∀ c : Dev nD, zs c = 1 → actR c (.dn 1) = false) c hz
  have adn2 := (by decide : ∀ c : Dev nD, zs c = 1 → act c (.dn 2) = false) c hz
  have rdn2 := (by decide : ∀ c : Dev nD, zs c = 1 → actR c (.dn 2) = false) c hz
  have aup0 := (by decide : ∀ c : Dev nD, zs c = 1 → act c (.up 0) = true) c hz
  have rup0 := (by decide : ∀ c : Dev nD, zs c = 1 → actR c (.up 0) = true) c hz
  have aup1 := (by decide : ∀ c : Dev nD, zs c = 1 → act c (.up 1) = true) c hz
  have rup1 := (by decide : ∀ c : Dev nD, zs c = 1 → actR c (.up 1) = true) c hz
  have aup2 := (by decide : ∀ c : Dev nD, zs c = 1 → act c (.up 2) = true) c hz
  have rup2 := (by decide : ∀ c : Dev nD, zs c = 1 → actR c (.up 2) = false) c hz
  have sdn0 := (by decide : ∀ c : Dev nD, zs c = 1 → srcSlot c (.dn 0) = .z 1) c hz
  have tdn0 := (by decide : ∀ c : Dev nD, zs c = 1 → dstSlot c (.dn 0) = .z 0) c hz
  have sdn1 := (by decide : ∀ c : Dev nD, zs c = 1 → srcSlot c (.dn 1) = .z 0) c hz
  have sup0 := (by decide : ∀ c : Dev nD, zs c = 1 → srcSlot c (.up 0) = .z 1) c hz
  have tup0 := (by decide : ∀ c : Dev nD, zs c = 1 → dstSlot c (.up 0) = .z 2) c hz
  have sup1 := (by decide : ∀ c : Dev nD, zs c = 1 → srcSlot c (.up 1) = .z 2) c hz
  have tup1 := (by decide : ∀ c : Dev nD, zs c = 1 → dstSlot c (.up 1) = .z 3) c hz
  have sup2 := (by decide : ∀ c : Dev nD, zs c = 1 → srcSlot c (.up 2) = .z 3) c hz
  rw [k0_part24_eq_skeleton, k0_part25_eq_skeleton]
  unfold k0_part24_skel k0_part25_skel
  simp only [dif_pos h1, dif_pos h2, dif_neg h5, dif_neg h9, dif_pos h6, dif_pos h10, dif_neg h7, dif_neg h11, dif_neg h8, dif_neg h12]
  rw [dif_pos (by decide), dif_neg (by decide)]
  simp only [k0_part2_eq_skeleton, k0_part2_skel, k0_part3_eq_skeleton, k0_part3_skel, k0_part10_eq_skeleton, k0_part10_skel, k0_part11_eq_skeleton, k0_part11_skel, k0_part12_eq_skeleton, k0_part12_skel, k0_part13_eq_skeleton, k0_part13_skel, semSignalWord, semWaitWord, Prog.lift, Prog.bind_op, Prog.bind_ret, Prog.pure_eq_ret]
  unfold before after vert stgs
  rw [hz]
  simp only [order]
  iintro #HR HB HS HQ
  icases HB with ⟨⟨T0, T1, T2, T3⟩, ⟨Hbp, Hbc⟩, ⟨Pdn0, Pdn1, Pdn2, Pup0, Pup1, Pup2⟩, ⟨Pa10, Pa11, Pa12, Pa13, Pb10, Pb11, Pb12, Pb13⟩, ⟨Pa20, Pa21, Pb20, Pb21⟩, ⟨Wdn0, Wdn1, Wdn2, Wup0, Wup1, Wup2⟩, ⟨%fz, HZ⟩, ⟨%fp, HP⟩, Ho⟩
  ihave HZ := (ofEq (cut_z c fullShare fz)) $$ HZ
  ihave HP := (ofEq (cut_p c fullShare fp)) $$ HP
  icases HZ with ⟨Z0, Z1, Z2, Z3⟩
  icases HP with ⟨R0, R1, R2, R3, R4, R5, R6, R7, R8, R9, R10, R11⟩
  ihave G1 := (give_right c fp) $$ [R0 R1 R2 R3 R8 R9]
  · isplitl [R0]; · iexact R0
    isplitl [R1]; · iexact R1
    isplitl [R2]; · iexact R2
    isplitl [R3]; · iexact R3
    isplitl [R8] <;> iassumption
  ihave G0 := (give_left c fp) $$ [R4 R5 R6 R7 R10 R11]
  · isplitl [R4]; · iexact R4
    isplitl [R5]; · iexact R5
    isplitl [R6]; · iexact R6
    isplitl [R7]; · iexact R7
    isplitl [R10] <;> iassumption
  ihave G2 := (give_up (F := F) c) $$ [Z2 Z3]
  · isplitl [Z2]; · iapply (hand_give' tup0 fz); iexact Z2
    isplitl [Z3]; · iapply (hand_give' tup1 fz); iexact Z3
    iapply (hand_idle c (.up 2) rup2); iempintro
  ihave G3 := (give_dn (F := F) c) $$ [Z0]
  · isplitl [Z0]; · iapply (hand_give' tdn0 fz); iexact Z0
    isplitl []; · iapply (hand_idle c (.dn 1) rdn1); iempintro
    iapply (hand_idle c (.dn 2) rdn2); iempintro
  iapply (sig_step m K c 1 (by unfold dirs; rw [hz]; decide) (devEq d1) _) $$ HR T1 G1 Ho
  iintro Ho
  iapply (sig_step m K c 0 (by unfold dirs; rw [hz]; decide) (devEq d2) _) $$ HR T0 G0 Ho
  iintro Ho
  iapply (sig_step m K c 3 (by unfold dirs; rw [hz]; decide) (devEq d3) _) $$ HR T3 G3 Ho
  iintro Ho
  iapply (sig_step m K c 2 (by unfold dirs; rw [hz]; decide) (devEq d4) _) $$ HR T2 G2 Ho
  iintro Ho
  iapply (bar_step m K c _ (by decide) hd.symm) $$ HR Hbp Hbc Ho
  iintro ⟨HB, Hb, Ho⟩
  ihave HB := (ofEq (bars_1 (Or.inl hz))) $$ HB
  icases HB with ⟨⟨Ha10, Ha11, Ha12, Ha13, Ha20, Ha21⟩, ⟨Hb10, Hb11, Hb12, Hb13, Hb20, Hb21⟩, ⟨Hdn0, Hdn1, Hdn2⟩, ⟨Hup0, Hup1, Hup2⟩⟩
  ihave Pa10 := (ready c (.a1 0)) $$ [Pa10 Ha10]; · isplitl [Pa10] <;> iassumption
  ihave Pa11 := (ready c (.a1 1)) $$ [Pa11 Ha11]; · isplitl [Pa11] <;> iassumption
  ihave Pa12 := (ready c (.a1 2)) $$ [Pa12 Ha12]; · isplitl [Pa12] <;> iassumption
  ihave Pa13 := (ready c (.a1 3)) $$ [Pa13 Ha13]; · isplitl [Pa13] <;> iassumption
  ihave Pb10 := (ready c (.b1 0)) $$ [Pb10 Hb10]; · isplitl [Pb10] <;> iassumption
  ihave Pb11 := (ready c (.b1 1)) $$ [Pb11 Hb11]; · isplitl [Pb11] <;> iassumption
  ihave Pb12 := (ready c (.b1 2)) $$ [Pb12 Hb12]; · isplitl [Pb12] <;> iassumption
  ihave Pb13 := (ready c (.b1 3)) $$ [Pb13 Hb13]; · isplitl [Pb13] <;> iassumption
  ihave Pa20 := (ready c (.a2 0)) $$ [Pa20 Ha20]; · isplitl [Pa20] <;> iassumption
  ihave Pa21 := (ready c (.a2 1)) $$ [Pa21 Ha21]; · isplitl [Pa21] <;> iassumption
  ihave Pb20 := (ready c (.b2 0)) $$ [Pb20 Hb20]; · isplitl [Pb20] <;> iassumption
  ihave Pb21 := (ready c (.b2 1)) $$ [Pb21 Hb21]; · isplitl [Pb21] <;> iassumption
  ihave Pdn0 := (ready c (.dn 0)) $$ [Pdn0 Hdn0]; · isplitl [Pdn0] <;> iassumption
  ihave Pdn1 := (ready c (.dn 1)) $$ [Pdn1 Hdn1]; · isplitl [Pdn1] <;> iassumption
  ihave Pup0 := (ready c (.up 0)) $$ [Pup0 Hup0]; · isplitl [Pup0] <;> iassumption
  ihave Pup1 := (ready c (.up 1)) $$ [Pup1 Hup1]; · isplitl [Pup1] <;> iassumption
  ihave Pup2 := (ready c (.up 2)) $$ [Pup2 Hup2]; · isplitl [Pup2] <;> iassumption
  icases HS with ⟨HX, HW, HK, HV, HWo⟩
  iapply (own_step m c hz fz (by decide : (![0, 0, 0, 0] : Fin 4 → ℕ) = fun _ => 0))
  isplitl [Z1]; · iexact Z1
  isplitl [HK]; · iexact HK
  isplitl [HV]; · iexact HV
  iintro ⟨Z1, HK, HV⟩
  ihave Z1 := (ofEq (five m c 1)) $$ Z1
  icases Z1 with ⟨⟨A1, B1⟩, ⟨D1, U1⟩, Q1⟩
  iapply (send_step m K c (.a1 1) (ss := .z 1) (ds := .p 1) (q := shr (.a1 1)) rfl (devEq d8) _ rfl rfl rfl rfl rfl rfl rfl) $$ HR Pa11 A1 Ho
  iintro ⟨Pa11, Ho⟩
  iapply (send_step m K c (.b1 1) (ss := .z 1) (ds := .p 5) (q := shr (.b1 1)) rfl (devEq d9) _ rfl rfl rfl rfl rfl rfl rfl) $$ HR Pb11 B1 Ho
  iintro ⟨Pb11, Ho⟩
  iapply (send_step m K c (.dn 0) (ss := .z 1) (ds := .z 1) (q := shr (.dn 0)) adn0 (devEq d10) _ sdn0 sdn0 rfl rfl rfl rfl rfl) $$ HR Pdn0 D1 Ho
  iintro ⟨Pdn0, Ho⟩
  iapply (send_step m K c (.up 0) (ss := .z 1) (ds := .z 1) (q := shr (.up 0)) aup0 (devEq d11) _ sup0 sup0 rfl rfl rfl rfl rfl) $$ HR Pup0 U1 Ho
  iintro ⟨Pup0, Ho⟩
  iapply (wp_load (defs := defs₀ (F := F)) 𝒱₀ (c : Thread nD τ) none Set.univ (m := (Memref.whole cc0_stg0_0 : Memref sig .tc .vmem S2x256x512 .bf16)) (Finset.subset_univ _)) $$ HX
  iintro HX
  iapply (wp_load (defs := defs₀ (F := F)) 𝒱₀ (c : Thread nD τ) none Set.univ (m := (Memref.whole cc0_stg1_0 : Memref sig .tc .vmem S512x256 .bf16)) (Finset.subset_univ _)) $$ HW
  iintro HW
  ihave Wdn0 := (vdue_y rdn0) $$ Wdn0
  iapply (rcv_step m K c (.dn 0) rdn0 _ (by decide) rfl (slot_credit (.z 0) (rcvS (.dn 0))) tdn0) $$ HR Wdn0 Ho
  iintro ⟨Z0, Fdn0, Ho⟩
  ihave Z0 := (ofEq (five m c 0)) $$ Z0
  icases Z0 with ⟨⟨A0, B0⟩, ⟨D0, U0⟩, Q0⟩
  iapply (send_step m K c (.a1 0) (ss := .z 0) (ds := .p 0) (q := shr (.a1 0)) rfl (devEq d25) _ rfl rfl rfl rfl rfl rfl rfl) $$ HR Pa10 A0 Ho
  iintro ⟨Pa10, Ho⟩
  iapply (send_step m K c (.b1 0) (ss := .z 0) (ds := .p 4) (q := shr (.b1 0)) rfl (devEq d26) _ rfl rfl rfl rfl rfl rfl rfl) $$ HR Pb10 B0 Ho
  iintro ⟨Pb10, Ho⟩
  ihave Wup0 := (vdue_y rup0) $$ Wup0
  iapply (rcv_step m K c (.up 0) rup0 _ (by decide) rfl (slot_credit (.z 2) (rcvS (.up 0))) tup0) $$ HR Wup0 Ho
  iintro ⟨Z2, Fup0, Ho⟩
  ihave Z2 := (ofEq (five m c 2)) $$ Z2
  icases Z2 with ⟨⟨A2, B2⟩, ⟨D2, U2⟩, Q2⟩
  iapply (send_step m K c (.a1 2) (ss := .z 2) (ds := .p 2) (q := shr (.a1 2)) rfl (devEq d27) _ rfl rfl rfl rfl rfl rfl rfl) $$ HR Pa12 A2 Ho
  iintro ⟨Pa12, Ho⟩
  iapply (send_step m K c (.b1 2) (ss := .z 2) (ds := .p 6) (q := shr (.b1 2)) rfl (devEq d28) _ rfl rfl rfl rfl rfl rfl rfl) $$ HR Pb12 B2 Ho
  iintro ⟨Pb12, Ho⟩
  iapply (send_step m K c (.dn 1) (ss := .z 0) (ds := .z 0) (q := shr (.dn 0)) adn1 (devEq d29) _ sdn1 sdn1 rfl rfl rfl rfl rfl) $$ HR Pdn1 D0 Ho
  iintro ⟨Pdn1, Ho⟩
  iapply (send_step m K c (.up 1) (ss := .z 2) (ds := .z 2) (q := shr (.up 0)) aup1 (devEq d30) _ sup1 sup1 rfl rfl rfl rfl rfl) $$ HR Pup1 U2 Ho
  iintro ⟨Pup1, Ho⟩
  ihave Wup1 := (vdue_y rup1) $$ Wup1
  iapply (rcv_step m K c (.up 1) rup1 _ (by decide) rfl (slot_credit (.z 3) (rcvS (.up 1))) tup1) $$ HR Wup1 Ho
  iintro ⟨Z3, Fup1, Ho⟩
  ihave Z3 := (ofEq (five m c 3)) $$ Z3
  icases Z3 with ⟨⟨A3, B3⟩, ⟨D3, U3⟩, Q3⟩
  iapply (send_step m K c (.a1 3) (ss := .z 3) (ds := .p 3) (q := shr (.a1 3)) rfl (devEq d31) _ rfl rfl rfl rfl rfl rfl rfl) $$ HR Pa13 A3 Ho
  iintro ⟨Pa13, Ho⟩
  iapply (send_step m K c (.b1 3) (ss := .z 3) (ds := .p 7) (q := shr (.b1 3)) rfl (devEq d32) _ rfl rfl rfl rfl rfl rfl rfl) $$ HR Pb13 B3 Ho
  iintro ⟨Pb13, Ho⟩
  iapply (send_step m K c (.up 2) (ss := .z 3) (ds := .z 3) (q := shr (.up 0)) aup2 (devEq d33) _ sup2 sup2 rfl rfl rfl rfl rfl) $$ HR Pup2 U3 Ho
  iintro ⟨Pup2, Ho⟩
  ihave Pdn0 := (vsent_y adn0) $$ Pdn0
  ihave Pdn1 := (vsent_y adn1) $$ Pdn1
  imod (vdue_n (m := m) (K := K) rdn1) $$ [Wdn1] with Fdn1
  · isplitr; · iexact HR
    iexact Wdn1
  imod (vsent_n (m := m) (K := K) adn2) $$ [Pdn2 Hdn2] with Pdn2
  · isplitr; · iexact HR
    isplitl [Pdn2] <;> iassumption
  imod (vdue_n (m := m) (K := K) rdn2) $$ [Wdn2] with Fdn2
  · isplitr; · iexact HR
    iexact Wdn2
  ihave Pup0 := (vsent_y aup0) $$ Pup0
  ihave Pup1 := (vsent_y aup1) $$ Pup1
  ihave Pup2 := (vsent_y aup2) $$ Pup2
  imod (vdue_n (m := m) (K := K) rup2) $$ [Wup2] with Fup2
  · isplitr; · iexact HR
    iexact Wup2
  ihave HZ := (ofEq (colC m c qld).symm) $$ [Q0 Q1 Q2 Q3]
  · isplitl [Q0]; · iexact Q0
    isplitl [Q1]; · iexact Q1
    isplitl [Q2] <;> iassumption
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  rw [show (Memref.whole cc0_stg0_0 : Memref sig .tc .vmem S2x256x512 .bf16).view.readAt (Elt F) (Rect.unit ![0, 0, 0] S2x256x512.size inb_S2x256x512_S2x256x512_0_0_0).toLoadRect (Xst m c) = Xst m c from
    Memref.readAt_unit_zero (Elt F) cc0_stg0_0 (by decide) _ _]
  rw [show (Memref.whole cc0_stg1_0 : Memref sig .tc .vmem S512x256 .bf16).view.readAt (Elt F) (Rect.unit ![0, 0] S512x256.size inb_S512x256_S512x256_0_0).toLoadRect (Wq m c) = Wq m c from
    Memref.readAt_unit_zero (Elt F) cc0_stg1_0 (by decide) _ _]
  iapply HQ
  isplitl [Pa10 Pa11 Pa12 Pa13 Pb10 Pb11 Pb12 Pb13 Pa20 Pa21 Pb20 Pb21 Pdn0 Pdn1 Pdn2 Pup0 Pup1 Pup2 D2 D3 U0 Fdn0 Fdn1 Fdn2 Fup0 Fup1 Fup2 Hb HZ Ho]
  · isplitl [Pa10 Pa11 Pa12 Pa13 Pb10 Pb11 Pb12 Pb13]
    · isplitl [Pa10]; · iexact Pa10
      isplitl [Pa11]; · iexact Pa11
      isplitl [Pa12]; · iexact Pa12
      isplitl [Pa13]; · iexact Pa13
      isplitl [Pb10]; · iexact Pb10
      isplitl [Pb11]; · iexact Pb11
      isplitl [Pb12]; · iexact Pb12
      iexact Pb13
    isplitl [Pa20 Pa21 Pb20 Pb21]
    · isplitl [Pa20]; · iexact Pa20
      isplitl [Pa21]; · iexact Pa21
      isplitl [Pb20]; · iexact Pb20
      iexact Pb21
    isplitl [Pdn0 Pdn1 Pdn2 Pup0 Pup1 Pup2 D2 D3 U0 Fdn0 Fdn1 Fdn2 Fup0 Fup1 Fup2]
    · isplitl [Pdn0 Pdn1 Pdn2 Pup0 Pup1 Pup2]
      · isplitl [Pdn0]; · iexact Pdn0
        isplitl [Pdn1]; · iexact Pdn1
        isplitl [Pdn2]; · iexact Pdn2
        isplitl [Pup0]; · iexact Pup0
        isplitl [Pup1]; · iexact Pup1
        iexact Pup2
      isplitl [D2 D3]
      · isplitl []; · iapply (spDn_n (m := m) (by rw [hz]; decide)); iempintro
        isplitl []; · iapply (spDn_n (m := m) (by rw [hz]; decide)); iempintro
        isplitl [D2]; · iapply (spDn_y (m := m) (by rw [hz]; decide)); iexact D2
        iapply (spDn_y (m := m) (by rw [hz]; decide)); iexact D3
      isplitl [U0]
      · isplitl [U0]; · iapply (spUp_y (m := m) (by rw [hz]; decide)); iexact U0
        isplitl []; · iapply (spUp_n (m := m) (by rw [hz]; decide)); iempintro
        isplitl []; · iapply (spUp_n (m := m) (by rw [hz]; decide)); iempintro
        iapply (spUp_n (m := m) (by rw [hz]; decide)); iempintro
      isplitl [Fdn0]; · iexact Fdn0
      isplitl [Fdn1]; · iexact Fdn1
      isplitl [Fdn2]; · iexact Fdn2
      isplitl [Fup0]; · iexact Fup0
      isplitl [Fup1]; · iexact Fup1
      iexact Fup2
    isplitl [Hb]; · iexact Hb
    isplitl [HZ]; · iexact HZ
    iexact Ho
  isplitl [HX]; · iexact HX
  isplitl [HW]; · iexact HW
  isplitl [HK]; · iexact HK
  isplitl [HV]; · iexact HV
  iexact HWo

end Cert.AttnProof
-- ==== Proof.Col2.lean ====
/- The exchange inside the column on the third plane. -/
module

public import proofs.«01_k».proof.Proof.Column

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

set_option maxHeartbeats 4000000 in
/-- The exchange inside the column, on a device of the third plane. -/
theorem comm_2 (c : Dev nD) (hz : zs c = 2) (v24 v28 v30 v32 : BitVec 32) {α : Type} {Q : α → sProp 𝕄}
    {kk : (Σ' (_ : FVec F S512x256 .bf16), FVec F S2x256x256 .bf16) → Prog (TpuEff nD τ sig (Elt F) Λ₀ .tc) α} :
    recs m K ⊢ iprop(before c -∗ stgs m c -∗ ((after m c ∗ stgs m c) -∗ wp frame (wpE (defs₀ (F := F)) 𝒱₀ (c : Thread nD τ) none) Set.univ (kk (qk m c)) Q)
      -∗ wp frame (wpE (defs₀ (F := F)) 𝒱₀ (c : Thread nD τ) none) Set.univ (colProg c 2#32 v24 v28 v30 v32 kk) Q) := by
  unfold colProg
  have d1 := (by decide +kernel : ∀ c : Dev nD, zs c = 2 → k0_dev1 c = (peer 1 c).val) c hz
  have d2 := (by decide +kernel : ∀ c : Dev nD, zs c = 2 → k0_dev2 c = (peer 0 c).val) c hz
  have d3 := (by decide +kernel : ∀ c : Dev nD, zs c = 2 → k0_dev3 c = (peer 3 c).val) c hz
  have d4 := (by decide +kernel : ∀ c : Dev nD, zs c = 2 → k0_dev4 c = (peer 2 c).val) c hz
  have d12 := (by decide +kernel : ∀ c : Dev nD, zs c = 2 → k0_dev12 c = (tgt c (.a1 2)).val) c hz
  have d13 := (by decide +kernel : ∀ c : Dev nD, zs c = 2 → k0_dev13 c = (tgt c (.b1 2)).val) c hz
  have d14 := (by decide +kernel : ∀ c : Dev nD, zs c = 2 → k0_dev14 c = (tgt c (.dn 0)).val) c hz
  have d15 := (by decide +kernel : ∀ c : Dev nD, zs c = 2 → k0_dev15 c = (tgt c (.up 0)).val) c hz
  have d34 := (by decide +kernel : ∀ c : Dev nD, zs c = 2 → k0_dev34 c = (tgt c (.a1 1)).val) c hz
  have d35 := (by decide +kernel : ∀ c : Dev nD, zs c = 2 → k0_dev35 c = (tgt c (.b1 1)).val) c hz
  have d36 := (by decide +kernel : ∀ c : Dev nD, zs c = 2 → k0_dev36 c = (tgt c (.a1 3)).val) c hz
  have d37 := (by decide +kernel : ∀ c : Dev nD, zs c = 2 → k0_dev37 c = (tgt c (.b1 3)).val) c hz
  have d38 := (by decide +kernel : ∀ c : Dev nD, zs c = 2 → k0_dev38 c = (tgt c (.dn 1)).val) c hz
  have d39 := (by decide +kernel : ∀ c : Dev nD, zs c = 2 → k0_dev39 c = (tgt c (.up 1)).val) c hz
  have d40 := (by decide +kernel : ∀ c : Dev nD, zs c = 2 → k0_dev40 c = (tgt c (.a1 0)).val) c hz
  have d41 := (by decide +kernel : ∀ c : Dev nD, zs c = 2 → k0_dev41 c = (tgt c (.b1 0)).val) c hz
  have d42 := (by decide +kernel : ∀ c : Dev nD, zs c = 2 → k0_dev42 c = (tgt c (.dn 2)).val) c hz
  have hd := (by decide : ∀ c : Dev nD, zs c = 2 → (dirs c).card = 4) c hz
  have h1 := (by decide +kernel : ∀ c : Dev nD, zs c = 2 → k0_cond1 c = 1#1) c hz
  have h2 := (by decide +kernel : ∀ c : Dev nD, zs c = 2 → k0_cond2 c = 1#1) c hz
  have h5 := (by decide +kernel : ∀ c : Dev nD, zs c = 2 → ¬ k0_cond5 c = 1#1) c hz
  have h9 := (by decide +kernel : ∀ c : Dev nD, zs c = 2 → ¬ k0_cond9 c = 1#1) c hz
  have h6 := (by decide +kernel : ∀ c : Dev nD, zs c = 2 → ¬ k0_cond6 c = 1#1) c hz
  have h10 := (by decide +kernel : ∀ c : Dev nD, zs c = 2 → ¬ k0_cond10 c = 1#1) c hz
  have h7 := (by decide +kernel : ∀ c : Dev nD, zs c = 2 → k0_cond7 c = 1#1) c hz
  have h11 := (by decide +kernel : ∀ c : Dev nD, zs c = 2 → k0_cond11 c = 1#1) c hz
  have h8 := (by decide +kernel : ∀ c : Dev nD, zs c = 2 → ¬ k0_cond8 c = 1#1) c hz
  have h12 := (by decide +kernel : ∀ c : Dev nD, zs c = 2 → ¬ k0_cond12 c = 1#1) c hz
  have adn0 := (by decide : ∀ c : Dev nD, zs c = 2 → act c (.dn 0) = true) c hz
  have rdn0 := (by decide : ∀ c : Dev nD, zs c = 2 → actR c (.dn 0) = true) c hz
  have adn1 := (by decide : ∀ c : Dev nD, zs c = 2 → act c (.dn 1) = true) c hz
  have rdn1 := (by decide : ∀ c : Dev nD, zs c = 2 → actR c (.dn 1) = true) c hz
  have adn2 := (by decide : ∀ c : Dev nD, zs c = 2 → act c (.dn 2) = true) c hz
  have rdn2 := (by decide : ∀ c : Dev nD, zs c = 2 → actR c (.dn 2) = false) c hz
  have aup0 := (by decide : ∀ c : Dev nD, zs c = 2 → act c (.up 0) = true) c hz
  have rup0 := (by decide : ∀ c : Dev nD, zs c = 2 → actR c (.up 0) = true) c hz
  have aup1 := (by decide : ∀ c : Dev nD, zs c = 2 → act c (.up 1) = true) c hz
  have rup1 := (by decide : ∀ c : Dev nD, zs c = 2 → actR c (.up 1) = false) c hz
  have aup2 := (by decide : ∀ c : Dev nD, zs c = 2 → act c (.up 2) = false) c hz
  have rup2 := (by decide : ∀ c : Dev nD, zs c = 2 → actR c (.up 2) = false) c hz
  have sdn0 := (by decide : ∀ c : Dev nD, zs c = 2 → srcSlot c (.dn 0) = .z 2) c hz
  have tdn0 := (by decide : ∀ c : Dev nD, zs c = 2 → dstSlot c (.dn 0) = .z 1) c hz
  have sdn1 := (by decide : ∀ c : Dev nD, zs c = 2 → srcSlot c (.dn 1) = .z 1) c hz
  have tdn1 := (by decide : ∀ c : Dev nD, zs c = 2 → dstSlot c (.dn 1) = .z 0) c hz
  have sdn2 := (by decide : ∀ c : Dev nD, zs c = 2 → srcSlot c (.dn 2) = .z 0) c hz
  have sup0 := (by decide : ∀ c : Dev nD, zs c = 2 → srcSlot c (.up 0) = .z 2) c hz
  have tup0 := (by decide : ∀ c : Dev nD, zs c = 2 → dstSlot c (.up 0) = .z 3) c hz
  have sup1 := (by decide : ∀ c : Dev nD, zs c = 2 → srcSlot c (.up 1) = .z 3) c hz
  rw [k0_part24_eq_skeleton, k0_part25_eq_skeleton]
  unfold k0_part24_skel k0_part25_skel
  simp only [dif_pos h1, dif_pos h2, dif_neg h5, dif_neg h9, dif_neg h6, dif_neg h10, dif_pos h7, dif_pos h11, dif_neg h8, dif_neg h12]
  rw [dif_pos (by decide), dif_neg (by decide)]
  simp only [k0_part4_eq_skeleton, k0_part4_skel, k0_part5_eq_skeleton, k0_part5_skel, k0_part14_eq_skeleton, k0_part14_skel, k0_part15_eq_skeleton, k0_part15_skel, k0_part16_eq_skeleton, k0_part16_skel, k0_part17_eq_skeleton, k0_part17_skel, semSignalWord, semWaitWord, Prog.lift, Prog.bind_op, Prog.bind_ret, Prog.pure_eq_ret]
  unfold before after vert stgs
  rw [hz]
  simp only [order]
  iintro #HR HB HS HQ
  icases HB with ⟨⟨T0, T1, T2, T3⟩, ⟨Hbp, Hbc⟩, ⟨Pdn0, Pdn1, Pdn2, Pup0, Pup1, Pup2⟩, ⟨Pa10, Pa11, Pa12, Pa13, Pb10, Pb11, Pb12, Pb13⟩, ⟨Pa20, Pa21, Pb20, Pb21⟩, ⟨Wdn0, Wdn1, Wdn2, Wup0, Wup1, Wup2⟩, ⟨%fz, HZ⟩, ⟨%fp, HP⟩, Ho⟩
  ihave HZ := (ofEq (cut_z c fullShare fz)) $$ HZ
  ihave HP := (ofEq (cut_p c fullShare fp)) $$ HP
  icases HZ with ⟨Z0, Z1, Z2, Z3⟩
  icases HP with ⟨R0, R1, R2, R3, R4, R5, R6, R7, R8, R9, R10, R11⟩
  ihave G1 := (give_right c fp) $$ [R0 R1 R2 R3 R8 R9]
  · isplitl [R0]; · iexact R0
    isplitl [R1]; · iexact R1
    isplitl [R2]; · iexact R2
    isplitl [R3]; · iexact R3
    isplitl [R8] <;> iassumption
  ihave G0 := (give_left c fp) $$ [R4 R5 R6 R7 R10 R11]
  · isplitl [R4]; · iexact R4
    isplitl [R5]; · iexact R5
    isplitl [R6]; · iexact R6
    isplitl [R7]; · iexact R7
    isplitl [R10] <;> iassumption
  ihave G2 := (give_up (F := F) c) $$ [Z3]
  · isplitl [Z3]; · iapply (hand_give' tup0 fz); iexact Z3
    isplitl []; · iapply (hand_idle c (.up 1) rup1); iempintro
    iapply (hand_idle c (.up 2) rup2); iempintro
  ihave G3 := (give_dn (F := F) c) $$ [Z1 Z0]
  · isplitl [Z1]; · iapply (hand_give' tdn0 fz); iexact Z1
    isplitl [Z0]; · iapply (hand_give' tdn1 fz); iexact Z0
    iapply (hand_idle c (.dn 2) rdn2); iempintro
  iapply (sig_step m K c 1 (by unfold dirs; rw [hz]; decide) (devEq d1) _) $$ HR T1 G1 Ho
  iintro Ho
  iapply (sig_step m K c 0 (by unfold dirs; rw [hz]; decide) (devEq d2) _) $$ HR T0 G0 Ho
  iintro Ho
  iapply (sig_step m K c 3 (by unfold dirs; rw [hz]; decide) (devEq d3) _) $$ HR T3 G3 Ho
  iintro Ho
  iapply (sig_step m K c 2 (by unfold dirs; rw [hz]; decide) (devEq d4) _) $$ HR T2 G2 Ho
  iintro Ho
  iapply (bar_step m K c _ (by decide) hd.symm) $$ HR Hbp Hbc Ho
  iintro ⟨HB, Hb, Ho⟩
  ihave HB := (ofEq (bars_1 (Or.inr hz))) $$ HB
  icases HB with ⟨⟨Ha10, Ha11, Ha12, Ha13, Ha20, Ha21⟩, ⟨Hb10, Hb11, Hb12, Hb13, Hb20, Hb21⟩, ⟨Hdn0, Hdn1, Hdn2⟩, ⟨Hup0, Hup1, Hup2⟩⟩
  ihave Pa10 := (ready c (.a1 0)) $$ [Pa10 Ha10]; · isplitl [Pa10] <;> iassumption
  ihave Pa11 := (ready c (.a1 1)) $$ [Pa11 Ha11]; · isplitl [Pa11] <;> iassumption
  ihave Pa12 := (ready c (.a1 2)) $$ [Pa12 Ha12]; · isplitl [Pa12] <;> iassumption
  ihave Pa13 := (ready c (.a1 3)) $$ [Pa13 Ha13]; · isplitl [Pa13] <;> iassumption
  ihave Pb10 := (ready c (.b1 0)) $$ [Pb10 Hb10]; · isplitl [Pb10] <;> iassumption
  ihave Pb11 := (ready c (.b1 1)) $$ [Pb11 Hb11]; · isplitl [Pb11] <;> iassumption
  ihave Pb12 := (ready c (.b1 2)) $$ [Pb12 Hb12]; · isplitl [Pb12] <;> iassumption
  ihave Pb13 := (ready c (.b1 3)) $$ [Pb13 Hb13]; · isplitl [Pb13] <;> iassumption
  ihave Pa20 := (ready c (.a2 0)) $$ [Pa20 Ha20]; · isplitl [Pa20] <;> iassumption
  ihave Pa21 := (ready c (.a2 1)) $$ [Pa21 Ha21]; · isplitl [Pa21] <;> iassumption
  ihave Pb20 := (ready c (.b2 0)) $$ [Pb20 Hb20]; · isplitl [Pb20] <;> iassumption
  ihave Pb21 := (ready c (.b2 1)) $$ [Pb21 Hb21]; · isplitl [Pb21] <;> iassumption
  ihave Pdn0 := (ready c (.dn 0)) $$ [Pdn0 Hdn0]; · isplitl [Pdn0] <;> iassumption
  ihave Pdn1 := (ready c (.dn 1)) $$ [Pdn1 Hdn1]; · isplitl [Pdn1] <;> iassumption
  ihave Pdn2 := (ready c (.dn 2)) $$ [Pdn2 Hdn2]; · isplitl [Pdn2] <;> iassumption
  ihave Pup0 := (ready c (.up 0)) $$ [Pup0 Hup0]; · isplitl [Pup0] <;> iassumption
  ihave Pup1 := (ready c (.up 1)) $$ [Pup1 Hup1]; · isplitl [Pup1] <;> iassumption
  icases HS with ⟨HX, HW, HK, HV, HWo⟩
  iapply (own_step m c hz fz (by decide : (![0, 0, 0, 0] : Fin 4 → ℕ) = fun _ => 0))
  isplitl [Z2]; · iexact Z2
  isplitl [HK]; · iexact HK
  isplitl [HV]; · iexact HV
  iintro ⟨Z2, HK, HV⟩
  ihave Z2 := (ofEq (five m c 2)) $$ Z2
  icases Z2 with ⟨⟨A2, B2⟩, ⟨D2, U2⟩, Q2⟩
  iapply (send_step m K c (.a1 2) (ss := .z 2) (ds := .p 2) (q := shr (.a1 2)) rfl (devEq d12) _ rfl rfl rfl rfl rfl rfl rfl) $$ HR Pa12 A2 Ho
  iintro ⟨Pa12, Ho⟩
  iapply (send_step m K c (.b1 2) (ss := .z 2) (ds := .p 6) (q := shr (.b1 2)) rfl (devEq d13) _ rfl rfl rfl rfl rfl rfl rfl) $$ HR Pb12 B2 Ho
  iintro ⟨Pb12, Ho⟩
  iapply (send_step m K c (.dn 0) (ss := .z 2) (ds := .z 2) (q := shr (.dn 0)) adn0 (devEq d14) _ sdn0 sdn0 rfl rfl rfl rfl rfl) $$ HR Pdn0 D2 Ho
  iintro ⟨Pdn0, Ho⟩
  iapply (send_step m K c (.up 0) (ss := .z 2) (ds := .z 2) (q := shr (.up 0)) aup0 (devEq d15) _ sup0 sup0 rfl rfl rfl rfl rfl) $$ HR Pup0 U2 Ho
  iintro ⟨Pup0, Ho⟩
  iapply (wp_load (defs := defs₀ (F := F)) 𝒱₀ (c : Thread nD τ) none Set.univ (m := (Memref.whole cc0_stg0_0 : Memref sig .tc .vmem S2x256x512 .bf16)) (Finset.subset_univ _)) $$ HX
  iintro HX
  iapply (wp_load (defs := defs₀ (F := F)) 𝒱₀ (c : Thread nD τ) none Set.univ (m := (Memref.whole cc0_stg1_0 : Memref sig .tc .vmem S512x256 .bf16)) (Finset.subset_univ _)) $$ HW
  iintro HW
  ihave Wdn0 := (vdue_y rdn0) $$ Wdn0
  iapply (rcv_step m K c (.dn 0) rdn0 _ (by decide) rfl (slot_credit (.z 1) (rcvS (.dn 0))) tdn0) $$ HR Wdn0 Ho
  iintro ⟨Z1, Fdn0, Ho⟩
  ihave Z1 := (ofEq (five m c 1)) $$ Z1
  icases Z1 with ⟨⟨A1, B1⟩, ⟨D1, U1⟩, Q1⟩
  iapply (send_step m K c (.a1 1) (ss := .z 1) (ds := .p 1) (q := shr (.a1 1)) rfl (devEq d34) _ rfl rfl rfl rfl rfl rfl rfl) $$ HR Pa11 A1 Ho
  iintro ⟨Pa11, Ho⟩
  iapply (send_step m K c (.b1 1) (ss := .z 1) (ds := .p 5) (q := shr (.b1 1)) rfl (devEq d35) _ rfl rfl rfl rfl rfl rfl rfl) $$ HR Pb11 B1 Ho
  iintro ⟨Pb11, Ho⟩
  ihave Wup0 := (vdue_y rup0) $$ Wup0
  iapply (rcv_step m K c (.up 0) rup0 _ (by decide) rfl (slot_credit (.z 3) (rcvS (.up 0))) tup0) $$ HR Wup0 Ho
  iintro ⟨Z3, Fup0, Ho⟩
  ihave Z3 := (ofEq (five m c 3)) $$ Z3
  icases Z3 with ⟨⟨A3, B3⟩, ⟨D3, U3⟩, Q3⟩
  iapply (send_step m K c (.a1 3) (ss := .z 3) (ds := .p 3) (q := shr (.a1 3)) rfl (devEq d36) _ rfl rfl rfl rfl rfl rfl rfl) $$ HR Pa13 A3 Ho
  iintro ⟨Pa13, Ho⟩
  iapply (send_step m K c (.b1 3) (ss := .z 3) (ds := .p 7) (q := shr (.b1 3)) rfl (devEq d37) _ rfl rfl rfl rfl rfl rfl rfl) $$ HR Pb13 B3 Ho
  iintro ⟨Pb13, Ho⟩
  iapply (send_step m K c (.dn 1) (ss := .z 1) (ds := .z 1) (q := shr (.dn 0)) adn1 (devEq d38) _ sdn1 sdn1 rfl rfl rfl rfl rfl) $$ HR Pdn1 D1 Ho
  iintro ⟨Pdn1, Ho⟩
  iapply (send_step m K c (.up 1) (ss := .z 3) (ds := .z 3) (q := shr (.up 0)) aup1 (devEq d39) _ sup1 sup1 rfl rfl rfl rfl rfl) $$ HR Pup1 U3 Ho
  iintro ⟨Pup1, Ho⟩
  ihave Wdn1 := (vdue_y rdn1) $$ Wdn1
  iapply (rcv_step m K c (.dn 1) rdn1 _ (by decide) rfl (slot_credit (.z 0) (rcvS (.dn 1))) tdn1) $$ HR Wdn1 Ho
  iintro ⟨Z0, Fdn1, Ho⟩
  ihave Z0 := (ofEq (five m c 0)) $$ Z0
  icases Z0 with ⟨⟨A0, B0⟩, ⟨D0, U0⟩, Q0⟩
  iapply (send_step m K c (.a1 0) (ss := .z 0) (ds := .p 0) (q := shr (.a1 0)) rfl (devEq d40) _ rfl rfl rfl rfl rfl rfl rfl) $$ HR Pa10 A0 Ho
  iintro ⟨Pa10, Ho⟩
  iapply (send_step m K c (.b1 0) (ss := .z 0) (ds := .p 4) (q := shr (.b1 0)) rfl (devEq d41) _ rfl rfl rfl rfl rfl rfl rfl) $$ HR Pb10 B0 Ho
  iintro ⟨Pb10, Ho⟩
  iapply (send_step m K c (.dn 2) (ss := .z 0) (ds := .z 0) (q := shr (.dn 0)) adn2 (devEq d42) _ sdn2 sdn2 rfl rfl rfl rfl rfl) $$ HR Pdn2 D0 Ho
  iintro ⟨Pdn2, Ho⟩
  ihave Pdn0 := (vsent_y adn0) $$ Pdn0
  ihave Pdn1 := (vsent_y adn1) $$ Pdn1
  ihave Pdn2 := (vsent_y adn2) $$ Pdn2
  imod (vdue_n (m := m) (K := K) rdn2) $$ [Wdn2] with Fdn2
  · isplitr; · iexact HR
    iexact Wdn2
  ihave Pup0 := (vsent_y aup0) $$ Pup0
  ihave Pup1 := (vsent_y aup1) $$ Pup1
  imod (vdue_n (m := m) (K := K) rup1) $$ [Wup1] with Fup1
  · isplitr; · iexact HR
    iexact Wup1
  imod (vsent_n (m := m) (K := K) aup2) $$ [Pup2 Hup2] with Pup2
  · isplitr; · iexact HR
    isplitl [Pup2] <;> iassumption
  imod (vdue_n (m := m) (K := K) rup2) $$ [Wup2] with Fup2
  · isplitr; · iexact HR
    iexact Wup2
  ihave HZ := (ofEq (colC m c qld).symm) $$ [Q0 Q1 Q2 Q3]
  · isplitl [Q0]; · iexact Q0
    isplitl [Q1]; · iexact Q1
    isplitl [Q2] <;> iassumption
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  rw [show (Memref.whole cc0_stg0_0 : Memref sig .tc .vmem S2x256x512 .bf16).view.readAt (Elt F) (Rect.unit ![0, 0, 0] S2x256x512.size inb_S2x256x512_S2x256x512_0_0_0).toLoadRect (Xst m c) = Xst m c from
    Memref.readAt_unit_zero (Elt F) cc0_stg0_0 (by decide) _ _]
  rw [show (Memref.whole cc0_stg1_0 : Memref sig .tc .vmem S512x256 .bf16).view.readAt (Elt F) (Rect.unit ![0, 0] S512x256.size inb_S512x256_S512x256_0_0).toLoadRect (Wq m c) = Wq m c from
    Memref.readAt_unit_zero (Elt F) cc0_stg1_0 (by decide) _ _]
  iapply HQ
  isplitl [Pa10 Pa11 Pa12 Pa13 Pb10 Pb11 Pb12 Pb13 Pa20 Pa21 Pb20 Pb21 Pdn0 Pdn1 Pdn2 Pup0 Pup1 Pup2 D3 U0 U1 Fdn0 Fdn1 Fdn2 Fup0 Fup1 Fup2 Hb HZ Ho]
  · isplitl [Pa10 Pa11 Pa12 Pa13 Pb10 Pb11 Pb12 Pb13]
    · isplitl [Pa10]; · iexact Pa10
      isplitl [Pa11]; · iexact Pa11
      isplitl [Pa12]; · iexact Pa12
      isplitl [Pa13]; · iexact Pa13
      isplitl [Pb10]; · iexact Pb10
      isplitl [Pb11]; · iexact Pb11
      isplitl [Pb12]; · iexact Pb12
      iexact Pb13
    isplitl [Pa20 Pa21 Pb20 Pb21]
    · isplitl [Pa20]; · iexact Pa20
      isplitl [Pa21]; · iexact Pa21
      isplitl [Pb20]; · iexact Pb20
      iexact Pb21
    isplitl [Pdn0 Pdn1 Pdn2 Pup0 Pup1 Pup2 D3 U0 U1 Fdn0 Fdn1 Fdn2 Fup0 Fup1 Fup2]
    · isplitl [Pdn0 Pdn1 Pdn2 Pup0 Pup1 Pup2]
      · isplitl [Pdn0]; · iexact Pdn0
        isplitl [Pdn1]; · iexact Pdn1
        isplitl [Pdn2]; · iexact Pdn2
        isplitl [Pup0]; · iexact Pup0
        isplitl [Pup1]; · iexact Pup1
        iexact Pup2
      isplitl [D3]
      · isplitl []; · iapply (spDn_n (m := m) (by rw [hz]; decide)); iempintro
        isplitl []; · iapply (spDn_n (m := m) (by rw [hz]; decide)); iempintro
        isplitl []; · iapply (spDn_n (m := m) (by rw [hz]; decide)); iempintro
        iapply (spDn_y (m := m) (by rw [hz]; decide)); iexact D3
      isplitl [U0 U1]
      · isplitl [U0]; · iapply (spUp_y (m := m) (by rw [hz]; decide)); iexact U0
        isplitl [U1]; · iapply (spUp_y (m := m) (by rw [hz]; decide)); iexact U1
        isplitl []; · iapply (spUp_n (m := m) (by rw [hz]; decide)); iempintro
        iapply (spUp_n (m := m) (by rw [hz]; decide)); iempintro
      isplitl [Fdn0]; · iexact Fdn0
      isplitl [Fdn1]; · iexact Fdn1
      isplitl [Fdn2]; · iexact Fdn2
      isplitl [Fup0]; · iexact Fup0
      isplitl [Fup1]; · iexact Fup1
      iexact Fup2
    isplitl [Hb]; · iexact Hb
    isplitl [HZ]; · iexact HZ
    iexact Ho
  isplitl [HX]; · iexact HX
  isplitl [HW]; · iexact HW
  isplitl [HK]; · iexact HK
  isplitl [HV]; · iexact HV
  iexact HWo

end Cert.AttnProof
-- ==== Proof.Col3.lean ====
/- The exchange inside the column on the top plane. -/
module

public import proofs.«01_k».proof.Proof.Column

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

set_option maxHeartbeats 4000000 in
/-- The exchange inside the column, on a device of the top plane. -/
theorem comm_3 (c : Dev nD) (hz : zs c = 3) (v24 v28 v30 v32 : BitVec 32) {α : Type} {Q : α → sProp 𝕄}
    {kk : (Σ' (_ : FVec F S512x256 .bf16), FVec F S2x256x256 .bf16) → Prog (TpuEff nD τ sig (Elt F) Λ₀ .tc) α} :
    recs m K ⊢ iprop(before c -∗ stgs m c -∗ ((after m c ∗ stgs m c) -∗ wp frame (wpE (defs₀ (F := F)) 𝒱₀ (c : Thread nD τ) none) Set.univ (kk (qk m c)) Q)
      -∗ wp frame (wpE (defs₀ (F := F)) 𝒱₀ (c : Thread nD τ) none) Set.univ (colProg c 3#32 v24 v28 v30 v32 kk) Q) := by
  unfold colProg
  have d1 := (by decide +kernel : ∀ c : Dev nD, zs c = 3 → k0_dev1 c = (peer 1 c).val) c hz
  have d2 := (by decide +kernel : ∀ c : Dev nD, zs c = 3 → k0_dev2 c = (peer 0 c).val) c hz
  have d3 := (by decide +kernel : ∀ c : Dev nD, zs c = 3 → k0_dev3 c = (peer 3 c).val) c hz
  have d16 := (by decide +kernel : ∀ c : Dev nD, zs c = 3 → k0_dev16 c = (tgt c (.a1 3)).val) c hz
  have d17 := (by decide +kernel : ∀ c : Dev nD, zs c = 3 → k0_dev17 c = (tgt c (.b1 3)).val) c hz
  have d18 := (by decide +kernel : ∀ c : Dev nD, zs c = 3 → k0_dev18 c = (tgt c (.up 0)).val) c hz
  have d43 := (by decide +kernel : ∀ c : Dev nD, zs c = 3 → k0_dev43 c = (tgt c (.a1 2)).val) c hz
  have d44 := (by decide +kernel : ∀ c : Dev nD, zs c = 3 → k0_dev44 c = (tgt c (.b1 2)).val) c hz
  have d45 := (by decide +kernel : ∀ c : Dev nD, zs c = 3 → k0_dev45 c = (tgt c (.a1 1)).val) c hz
  have d46 := (by decide +kernel : ∀ c : Dev nD, zs c = 3 → k0_dev46 c = (tgt c (.b1 1)).val) c hz
  have d47 := (by decide +kernel : ∀ c : Dev nD, zs c = 3 → k0_dev47 c = (tgt c (.a1 0)).val) c hz
  have d48 := (by decide +kernel : ∀ c : Dev nD, zs c = 3 → k0_dev48 c = (tgt c (.b1 0)).val) c hz
  have hd := (by decide : ∀ c : Dev nD, zs c = 3 → (dirs c).card = 3) c hz
  have h1 := (by decide +kernel : ∀ c : Dev nD, zs c = 3 → k0_cond1 c = 1#1) c hz
  have h2 := (by decide +kernel : ∀ c : Dev nD, zs c = 3 → ¬ k0_cond2 c = 1#1) c hz
  have h5 := (by decide +kernel : ∀ c : Dev nD, zs c = 3 → ¬ k0_cond5 c = 1#1) c hz
  have h9 := (by decide +kernel : ∀ c : Dev nD, zs c = 3 → ¬ k0_cond9 c = 1#1) c hz
  have h6 := (by decide +kernel : ∀ c : Dev nD, zs c = 3 → ¬ k0_cond6 c = 1#1) c hz
  have h10 := (by decide +kernel : ∀ c : Dev nD, zs c = 3 → ¬ k0_cond10 c = 1#1) c hz
  have h7 := (by decide +kernel : ∀ c : Dev nD, zs c = 3 → ¬ k0_cond7 c = 1#1) c hz
  have h11 := (by decide +kernel : ∀ c : Dev nD, zs c = 3 → ¬ k0_cond11 c = 1#1) c hz
  have h8 := (by decide +kernel : ∀ c : Dev nD, zs c = 3 → k0_cond8 c = 1#1) c hz
  have h12 := (by decide +kernel : ∀ c : Dev nD, zs c = 3 → k0_cond12 c = 1#1) c hz
  have adn0 := (by decide : ∀ c : Dev nD, zs c = 3 → act c (.dn 0) = false) c hz
  have rdn0 := (by decide : ∀ c : Dev nD, zs c = 3 → actR c (.dn 0) = true) c hz
  have adn1 := (by decide : ∀ c : Dev nD, zs c = 3 → act c (.dn 1) = false) c hz
  have rdn1 := (by decide : ∀ c : Dev nD, zs c = 3 → actR c (.dn 1) = true) c hz
  have adn2 := (by decide : ∀ c : Dev nD, zs c = 3 → act c (.dn 2) = false) c hz
  have rdn2 := (by decide : ∀ c : Dev nD, zs c = 3 → actR c (.dn 2) = true) c hz
  have aup0 := (by decide : ∀ c : Dev nD, zs c = 3 → act c (.up 0) = true) c hz
  have rup0 := (by decide : ∀ c : Dev nD, zs c = 3 → actR c (.up 0) = false) c hz
  have aup1 := (by decide : ∀ c : Dev nD, zs c = 3 → act c (.up 1) = false) c hz
  have rup1 := (by decide : ∀ c : Dev nD, zs c = 3 → actR c (.up 1) = false) c hz
  have aup2 := (by decide : ∀ c : Dev nD, zs c = 3 → act c (.up 2) = false) c hz
  have rup2 := (by decide : ∀ c : Dev nD, zs c = 3 → actR c (.up 2) = false) c hz
  have tdn0 := (by decide : ∀ c : Dev nD, zs c = 3 → dstSlot c (.dn 0) = .z 2) c hz
  have tdn1 := (by decide : ∀ c : Dev nD, zs c = 3 → dstSlot c (.dn 1) = .z 1) c hz
  have tdn2 := (by decide : ∀ c : Dev nD, zs c = 3 → dstSlot c (.dn 2) = .z 0) c hz
  have sup0 := (by decide : ∀ c : Dev nD, zs c = 3 → srcSlot c (.up 0) = .z 3) c hz
  rw [k0_part24_eq_skeleton, k0_part25_eq_skeleton]
  unfold k0_part24_skel k0_part25_skel
  simp only [dif_pos h1, dif_neg h2, dif_neg h5, dif_neg h9, dif_neg h6, dif_neg h10, dif_neg h7, dif_neg h11, dif_pos h8, dif_pos h12]
  rw [dif_neg (by decide), dif_pos (by decide)]
  simp only [k0_part6_eq_skeleton, k0_part6_skel, k0_part18_eq_skeleton, k0_part18_skel, k0_part19_eq_skeleton, k0_part19_skel, k0_part20_eq_skeleton, k0_part20_skel, semSignalWord, semWaitWord, Prog.lift, Prog.bind_op, Prog.bind_ret, Prog.pure_eq_ret]
  unfold before after vert stgs
  rw [hz]
  simp only [order]
  iintro #HR HB HS HQ
  icases HB with ⟨⟨T0, T1, T2, T3⟩, ⟨Hbp, Hbc⟩, ⟨Pdn0, Pdn1, Pdn2, Pup0, Pup1, Pup2⟩, ⟨Pa10, Pa11, Pa12, Pa13, Pb10, Pb11, Pb12, Pb13⟩, ⟨Pa20, Pa21, Pb20, Pb21⟩, ⟨Wdn0, Wdn1, Wdn2, Wup0, Wup1, Wup2⟩, ⟨%fz, HZ⟩, ⟨%fp, HP⟩, Ho⟩
  ihave HZ := (ofEq (cut_z c fullShare fz)) $$ HZ
  ihave HP := (ofEq (cut_p c fullShare fp)) $$ HP
  icases HZ with ⟨Z0, Z1, Z2, Z3⟩
  icases HP with ⟨R0, R1, R2, R3, R4, R5, R6, R7, R8, R9, R10, R11⟩
  ihave G1 := (give_right c fp) $$ [R0 R1 R2 R3 R8 R9]
  · isplitl [R0]; · iexact R0
    isplitl [R1]; · iexact R1
    isplitl [R2]; · iexact R2
    isplitl [R3]; · iexact R3
    isplitl [R8] <;> iassumption
  ihave G0 := (give_left c fp) $$ [R4 R5 R6 R7 R10 R11]
  · isplitl [R4]; · iexact R4
    isplitl [R5]; · iexact R5
    isplitl [R6]; · iexact R6
    isplitl [R7]; · iexact R7
    isplitl [R10] <;> iassumption
  ihave G3 := (give_dn (F := F) c) $$ [Z2 Z1 Z0]
  · isplitl [Z2]; · iapply (hand_give' tdn0 fz); iexact Z2
    isplitl [Z1]; · iapply (hand_give' tdn1 fz); iexact Z1
    iapply (hand_give' tdn2 fz); iexact Z0
  iapply (sig_step m K c 1 (by unfold dirs; rw [hz]; decide) (devEq d1) _) $$ HR T1 G1 Ho
  iintro Ho
  iapply (sig_step m K c 0 (by unfold dirs; rw [hz]; decide) (devEq d2) _) $$ HR T0 G0 Ho
  iintro Ho
  iapply (sig_step m K c 3 (by unfold dirs; rw [hz]; decide) (devEq d3) _) $$ HR T3 G3 Ho
  iintro Ho
  iapply (bar_step m K c _ (by decide) hd.symm) $$ HR Hbp Hbc Ho
  iintro ⟨HB, Hb, Ho⟩
  ihave HB := (ofEq (bars_3 hz)) $$ HB
  icases HB with ⟨⟨Ha10, Ha11, Ha12, Ha13, Ha20, Ha21⟩, ⟨Hb10, Hb11, Hb12, Hb13, Hb20, Hb21⟩, ⟨Hup0, Hup1, Hup2⟩⟩
  ihave Pa10 := (ready c (.a1 0)) $$ [Pa10 Ha10]; · isplitl [Pa10] <;> iassumption
  ihave Pa11 := (ready c (.a1 1)) $$ [Pa11 Ha11]; · isplitl [Pa11] <;> iassumption
  ihave Pa12 := (ready c (.a1 2)) $$ [Pa12 Ha12]; · isplitl [Pa12] <;> iassumption
  ihave Pa13 := (ready c (.a1 3)) $$ [Pa13 Ha13]; · isplitl [Pa13] <;> iassumption
  ihave Pb10 := (ready c (.b1 0)) $$ [Pb10 Hb10]; · isplitl [Pb10] <;> iassumption
  ihave Pb11 := (ready c (.b1 1)) $$ [Pb11 Hb11]; · isplitl [Pb11] <;> iassumption
  ihave Pb12 := (ready c (.b1 2)) $$ [Pb12 Hb12]; · isplitl [Pb12] <;> iassumption
  ihave Pb13 := (ready c (.b1 3)) $$ [Pb13 Hb13]; · isplitl [Pb13] <;> iassumption
  ihave Pa20 := (ready c (.a2 0)) $$ [Pa20 Ha20]; · isplitl [Pa20] <;> iassumption
  ihave Pa21 := (ready c (.a2 1)) $$ [Pa21 Ha21]; · isplitl [Pa21] <;> iassumption
  ihave Pb20 := (ready c (.b2 0)) $$ [Pb20 Hb20]; · isplitl [Pb20] <;> iassumption
  ihave Pb21 := (ready c (.b2 1)) $$ [Pb21 Hb21]; · isplitl [Pb21] <;> iassumption
  ihave Pup0 := (ready c (.up 0)) $$ [Pup0 Hup0]; · isplitl [Pup0] <;> iassumption
  icases HS with ⟨HX, HW, HK, HV, HWo⟩
  iapply (own_step m c hz fz (by decide : (![0, 0, 0, 0] : Fin 4 → ℕ) = fun _ => 0))
  isplitl [Z3]; · iexact Z3
  isplitl [HK]; · iexact HK
  isplitl [HV]; · iexact HV
  iintro ⟨Z3, HK, HV⟩
  ihave Z3 := (ofEq (five m c 3)) $$ Z3
  icases Z3 with ⟨⟨A3, B3⟩, ⟨D3, U3⟩, Q3⟩
  iapply (send_step m K c (.a1 3) (ss := .z 3) (ds := .p 3) (q := shr (.a1 3)) rfl (devEq d16) _ rfl rfl rfl rfl rfl rfl rfl) $$ HR Pa13 A3 Ho
  iintro ⟨Pa13, Ho⟩
  iapply (send_step m K c (.b1 3) (ss := .z 3) (ds := .p 7) (q := shr (.b1 3)) rfl (devEq d17) _ rfl rfl rfl rfl rfl rfl rfl) $$ HR Pb13 B3 Ho
  iintro ⟨Pb13, Ho⟩
  iapply (send_step m K c (.up 0) (ss := .z 3) (ds := .z 3) (q := shr (.up 0)) aup0 (devEq d18) _ sup0 sup0 rfl rfl rfl rfl rfl) $$ HR Pup0 U3 Ho
  iintro ⟨Pup0, Ho⟩
  iapply (wp_load (defs := defs₀ (F := F)) 𝒱₀ (c : Thread nD τ) none Set.univ (m := (Memref.whole cc0_stg0_0 : Memref sig .tc .vmem S2x256x512 .bf16)) (Finset.subset_univ _)) $$ HX
  iintro HX
  iapply (wp_load (defs := defs₀ (F := F)) 𝒱₀ (c : Thread nD τ) none Set.univ (m := (Memref.whole cc0_stg1_0 : Memref sig .tc .vmem S512x256 .bf16)) (Finset.subset_univ _)) $$ HW
  iintro HW
  ihave Wdn0 := (vdue_y rdn0) $$ Wdn0
  iapply (rcv_step m K c (.dn 0) rdn0 _ (by decide) rfl (slot_credit (.z 2) (rcvS (.dn 0))) tdn0) $$ HR Wdn0 Ho
  iintro ⟨Z2, Fdn0, Ho⟩
  ihave Z2 := (ofEq (five m c 2)) $$ Z2
  icases Z2 with ⟨⟨A2, B2⟩, ⟨D2, U2⟩, Q2⟩
  iapply (send_step m K c (.a1 2) (ss := .z 2) (ds := .p 2) (q := shr (.a1 2)) rfl (devEq d43) _ rfl rfl rfl rfl rfl rfl rfl) $$ HR Pa12 A2 Ho
  iintro ⟨Pa12, Ho⟩
  iapply (send_step m K c (.b1 2) (ss := .z 2) (ds := .p 6) (q := shr (.b1 2)) rfl (devEq d44) _ rfl rfl rfl rfl rfl rfl rfl) $$ HR Pb12 B2 Ho
  iintro ⟨Pb12, Ho⟩
  ihave Wdn1 := (vdue_y rdn1) $$ Wdn1
  iapply (rcv_step m K c (.dn 1) rdn1 _ (by decide) rfl (slot_credit (.z 1) (rcvS (.dn 1))) tdn1) $$ HR Wdn1 Ho
  iintro ⟨Z1, Fdn1, Ho⟩
  ihave Z1 := (ofEq (five m c 1)) $$ Z1
  icases Z1 with ⟨⟨A1, B1⟩, ⟨D1, U1⟩, Q1⟩
  iapply (send_step m K c (.a1 1) (ss := .z 1) (ds := .p 1) (q := shr (.a1 1)) rfl (devEq d45) _ rfl rfl rfl rfl rfl rfl rfl) $$ HR Pa11 A1 Ho
  iintro ⟨Pa11, Ho⟩
  iapply (send_step m K c (.b1 1) (ss := .z 1) (ds := .p 5) (q := shr (.b1 1)) rfl (devEq d46) _ rfl rfl rfl rfl rfl rfl rfl) $$ HR Pb11 B1 Ho
  iintro ⟨Pb11, Ho⟩
  ihave Wdn2 := (vdue_y rdn2) $$ Wdn2
  iapply (rcv_step m K c (.dn 2) rdn2 _ (by decide) rfl (slot_credit (.z 0) (rcvS (.dn 2))) tdn2) $$ HR Wdn2 Ho
  iintro ⟨Z0, Fdn2, Ho⟩
  ihave Z0 := (ofEq (five m c 0)) $$ Z0
  icases Z0 with ⟨⟨A0, B0⟩, ⟨D0, U0⟩, Q0⟩
  iapply (send_step m K c (.a1 0) (ss := .z 0) (ds := .p 0) (q := shr (.a1 0)) rfl (devEq d47) _ rfl rfl rfl rfl rfl rfl rfl) $$ HR Pa10 A0 Ho
  iintro ⟨Pa10, Ho⟩
  iapply (send_step m K c (.b1 0) (ss := .z 0) (ds := .p 4) (q := shr (.b1 0)) rfl (devEq d48) _ rfl rfl rfl rfl rfl rfl rfl) $$ HR Pb10 B0 Ho
  iintro ⟨Pb10, Ho⟩
  imod (vsent_n' (m := m) (K := K) adn0) $$ [Pdn0] with Pdn0
  · isplitr; · iexact HR
    iexact Pdn0
  imod (vsent_n' (m := m) (K := K) adn1) $$ [Pdn1] with Pdn1
  · isplitr; · iexact HR
    iexact Pdn1
  imod (vsent_n' (m := m) (K := K) adn2) $$ [Pdn2] with Pdn2
  · isplitr; · iexact HR
    iexact Pdn2
  ihave Pup0 := (vsent_y aup0) $$ Pup0
  imod (vdue_n (m := m) (K := K) rup0) $$ [Wup0] with Fup0
  · isplitr; · iexact HR
    iexact Wup0
  imod (vsent_n (m := m) (K := K) aup1) $$ [Pup1 Hup1] with Pup1
  · isplitr; · iexact HR
    isplitl [Pup1] <;> iassumption
  imod (vdue_n (m := m) (K := K) rup1) $$ [Wup1] with Fup1
  · isplitr; · iexact HR
    iexact Wup1
  imod (vsent_n (m := m) (K := K) aup2) $$ [Pup2 Hup2] with Pup2
  · isplitr; · iexact HR
    isplitl [Pup2] <;> iassumption
  imod (vdue_n (m := m) (K := K) rup2) $$ [Wup2] with Fup2
  · isplitr; · iexact HR
    iexact Wup2
  ihave HZ := (ofEq (colC m c qld).symm) $$ [Q0 Q1 Q2 Q3]
  · isplitl [Q0]; · iexact Q0
    isplitl [Q1]; · iexact Q1
    isplitl [Q2] <;> iassumption
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  iapply (wp_load (defs := defs₀ (F := F)) 𝒱₀ (c : Thread nD τ) none Set.univ (m := zM) (Finset.subset_univ _)) $$ HZ
  iintro HZ
  rw [show (Memref.whole cc0_stg0_0 : Memref sig .tc .vmem S2x256x512 .bf16).view.readAt (Elt F) (Rect.unit ![0, 0, 0] S2x256x512.size inb_S2x256x512_S2x256x512_0_0_0).toLoadRect (Xst m c) = Xst m c from
    Memref.readAt_unit_zero (Elt F) cc0_stg0_0 (by decide) _ _]
  rw [show (Memref.whole cc0_stg1_0 : Memref sig .tc .vmem S512x256 .bf16).view.readAt (Elt F) (Rect.unit ![0, 0] S512x256.size inb_S512x256_S512x256_0_0).toLoadRect (Wq m c) = Wq m c from
    Memref.readAt_unit_zero (Elt F) cc0_stg1_0 (by decide) _ _]
  iapply HQ
  isplitl [Pa10 Pa11 Pa12 Pa13 Pb10 Pb11 Pb12 Pb13 Pa20 Pa21 Pb20 Pb21 Pdn0 Pdn1 Pdn2 Pup0 Pup1 Pup2 D0 D1 D2 D3 U0 U1 U2 Fdn0 Fdn1 Fdn2 Fup0 Fup1 Fup2 Hb HZ Ho]
  · isplitl [Pa10 Pa11 Pa12 Pa13 Pb10 Pb11 Pb12 Pb13]
    · isplitl [Pa10]; · iexact Pa10
      isplitl [Pa11]; · iexact Pa11
      isplitl [Pa12]; · iexact Pa12
      isplitl [Pa13]; · iexact Pa13
      isplitl [Pb10]; · iexact Pb10
      isplitl [Pb11]; · iexact Pb11
      isplitl [Pb12]; · iexact Pb12
      iexact Pb13
    isplitl [Pa20 Pa21 Pb20 Pb21]
    · isplitl [Pa20]; · iexact Pa20
      isplitl [Pa21]; · iexact Pa21
      isplitl [Pb20]; · iexact Pb20
      iexact Pb21
    isplitl [Pdn0 Pdn1 Pdn2 Pup0 Pup1 Pup2 D0 D1 D2 D3 U0 U1 U2 Fdn0 Fdn1 Fdn2 Fup0 Fup1 Fup2]
    · isplitl [Pdn0 Pdn1 Pdn2 Pup0 Pup1 Pup2]
      · isplitl [Pdn0]; · iexact Pdn0
        isplitl [Pdn1]; · iexact Pdn1
        isplitl [Pdn2]; · iexact Pdn2
        isplitl [Pup0]; · iexact Pup0
        isplitl [Pup1]; · iexact Pup1
        iexact Pup2
      isplitl [D0 D1 D2 D3]
      · isplitl [D0]; · iapply (spDn_y (m := m) (by rw [hz]; decide)); iexact D0
        isplitl [D1]; · iapply (spDn_y (m := m) (by rw [hz]; decide)); iexact D1
        isplitl [D2]; · iapply (spDn_y (m := m) (by rw [hz]; decide)); iexact D2
        iapply (spDn_y (m := m) (by rw [hz]; decide)); iexact D3
      isplitl [U0 U1 U2]
      · isplitl [U0]; · iapply (spUp_y (m := m) (by rw [hz]; decide)); iexact U0
        isplitl [U1]; · iapply (spUp_y (m := m) (by rw [hz]; decide)); iexact U1
        isplitl [U2]; · iapply (spUp_y (m := m) (by rw [hz]; decide)); iexact U2
        iapply (spUp_n (m := m) (by rw [hz]; decide)); iempintro
      isplitl [Fdn0]; · iexact Fdn0
      isplitl [Fdn1]; · iexact Fdn1
      isplitl [Fdn2]; · iexact Fdn2
      isplitl [Fup0]; · iexact Fup0
      isplitl [Fup1]; · iexact Fup1
      iexact Fup2
    isplitl [Hb]; · iexact Hb
    isplitl [HZ]; · iexact HZ
    iexact Ho
  isplitl [HX]; · iexact HX
  isplitl [HW]; · iexact HW
  isplitl [HK]; · iexact HK
  isplitl [HV]; · iexact HV
  iexact HWo

end Cert.AttnProof
-- ==== Proof.Body.lean ====
/- The whole body of the kernel on one device: the exchange, the scores, the weights and contexts, the projection. -/
module

public import proofs.«01_k».proof.Proof.Sends
public import proofs.«01_k».proof.Proof.Score0
public import proofs.«01_k».proof.Proof.Ctx1
public import proofs.«01_k».proof.Proof.Col0
public import proofs.«01_k».proof.Proof.Col1
public import proofs.«01_k».proof.Proof.Col2
public import proofs.«01_k».proof.Proof.Col3

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- The exchange inside the column, on whichever plane the device lies. -/
theorem comm_spec (c : Dev nD) (v24 v28 v30 v32 : BitVec 32) {α : Type} {Q : α → sProp 𝕄}
    {kk : (Σ' (_ : FVec F S512x256 .bf16), FVec F S2x256x256 .bf16) → Prog (TpuEff nD τ sig (Elt F) Λ₀ .tc) α} :
    recs m K ⊢ iprop(before c -∗ stgs m c -∗ ((after m c ∗ stgs m c) -∗ wp frame (wpE (defs₀ (F := F)) 𝒱₀ (c : Thread nD τ) none) Set.univ (kk (qk m c)) Q)
      -∗ wp frame (wpE (defs₀ (F := F)) 𝒱₀ (c : Thread nD τ) none) Set.univ (colProg c (BitVec.ofNat 32 (zs c).val) v24 v28 v30 v32 kk) Q) := by
  have hz : zs c = 0 ∨ zs c = 1 ∨ zs c = 2 ∨ zs c = 3 := by generalize zs c = z; revert z; decide
  rcases hz with hz | hz | hz | hz
  · have h := comm_0 m K c hz v24 v28 v30 v32 (Q := Q) (kk := kk); rw [hz]; exact h
  · have h := comm_1 m K c hz v24 v28 v30 v32 (Q := Q) (kk := kk); rw [hz]; exact h
  · have h := comm_2 m K c hz v24 v28 v30 v32 (Q := Q) (kk := kk); rw [hz]; exact h
  · have h := comm_3 m K c hz v24 v28 v30 v32 (Q := Q) (kk := kk); rw [hz]; exact h

/-- What the program of the exchange, the scores and the first nine contexts returns. -/
abbrev mid (c : Dev nD) : (Σ' (_ : FVec F S2x256x256 .bf16) (_ : FVec F S2x256x256 .bf16) (_ : FVec F S2x256x256 .bf16) (_ : FVec F S2x256x256 .bf16) (_ : FVec F S64x64 .f32) (_ : FVec F S64x256 .bf16), FVec F S1x256x64 .bf16) :=
  ⟨half m c 0 1 1, half m c 1 1 1, half m c 2 1 1, half m c 3 1 1,
    k0_pay235 (half m c 0 1 1) (half m c 1 1 1) (half m c 2 1 1) (srow m c 9), k0_pay236 (srow m c 9), k0_pay237 (half m c 3 1 1)⟩

/-- What a device holds before the body beside its staged inputs, -/
def pred (c : Dev nD) : sProp 𝕄 := iprop(before (F := F) c ∗ eight (due c) ∗ four (due c) ∗ sb m c 0 ∗ cb m c 0)

/-- The program up to the ninth block of contexts, from the words of the device's place on. -/
def first (c : Dev nD) (v19 v24 v28 v30 v32 : BitVec 32) {α : Type} (kk : (Σ' (_ : FVec F S2x256x256 .bf16) (_ : FVec F S2x256x256 .bf16) (_ : FVec F S2x256x256 .bf16) (_ : FVec F S2x256x256 .bf16) (_ : FVec F S64x64 .f32) (_ : FVec F S64x256 .bf16), FVec F S1x256x64 .bf16) → Prog (TpuEff nD τ sig (Elt F) Λ₀ .tc) α) : Prog (TpuEff nD τ sig (Elt F) Λ₀ .tc) α :=
  colProg c v19 v24 v28 v30 v32 fun q => score0 v24 q.1 q.2 fun _ => score1 c v24 v28 q.1 fun _ => score3 v24 v28 q.1 fun _ =>
    sends v19 fun v => ctx0 v kk

set_option maxHeartbeats 1000000 in
/-- It brings every buffer to the contents it is to have. -/
theorem first_spec (c : Dev nD) (v19 v24 v28 v30 v32 : BitVec 32) (hv : v19 = BitVec.ofNat 32 (zs c).val) {α : Type} {Q : α → sProp 𝕄} {kk : (Σ' (_ : FVec F S2x256x256 .bf16) (_ : FVec F S2x256x256 .bf16) (_ : FVec F S2x256x256 .bf16) (_ : FVec F S2x256x256 .bf16) (_ : FVec F S64x64 .f32) (_ : FVec F S64x256 .bf16), FVec F S1x256x64 .bf16) → Prog (TpuEff nD τ sig (Elt F) Λ₀ .tc) α} :
    recs m K ⊢ iprop(pred m c -∗ stgs m c -∗ ((closed c ∗ ow c [] ∗ stgs m c ∗ bufs m c ∗ cb m c 9) -∗ wp frame (wpE (defs₀ (F := F)) 𝒱₀ (c : Thread nD τ) none) Set.univ (kk (mid m c)) Q)
      -∗ wp frame (wpE (defs₀ (F := F)) 𝒱₀ (c : Thread nD τ) none) Set.univ (first c v19 v24 v28 v30 v32 kk) Q) := by
  subst hv
  unfold first pred
  iintro #HR ⟨Hb, HE, HF, HS, HC⟩ Hst Hk
  iapply (comm_spec m K c v24 v28 v30 v32) $$ HR Hb Hst
  unfold after
  iintro ⟨⟨Hsent, Hrdy, Hvert, Hbar, HZ, Ho⟩, Hst⟩
  iapply (score0_spec m c qld v24) $$ HZ HS
  iintro ⟨HZ, HS⟩
  ihave H0 := (show iprop(eight (due (F := F) c) ∗ four (due c) ∗ four (rdy c) ∗ ow c [.cpy (.a2 0), .cpy (.a2 1), .cpy (.b2 0), .cpy (.b2 1)]) ⊢ ring0 c from BI.Entails.refl _) $$ [HE HF Hrdy Ho]
  · isplitl [HE]; · iexact HE
    isplitl [HF]; · iexact HF
    isplitl [Hrdy]; · iexact Hrdy
    iexact Ho
  iapply (score1_spec m K c v24 v28) $$ HR H0 HS
  iintro ⟨H1, HS⟩
  iapply (score3_spec m K c v24 v28) $$ HR H1 HS
  iintro ⟨H2, HS⟩
  iapply (sends_spec m K c) $$ HR Hsent Hvert HZ Hbar H2
  iintro ⟨Hcl, Ho, HZ, HP⟩
  ihave HS := (sb_full (m := m) c) $$ HS
  ihave HB := (show iprop((((c : Thread nD τ).loc cc0_scratch0) ↦{fullShare} (Zc m c)) ∗ (((c : Thread nD τ).loc cc0_scratch1) ↦{fullShare} (Pc m c)) ∗ (((c : Thread nD τ).loc cc0_scratch2) ↦{fullShare} (Sf m c))) ⊢ bufs m c from BI.Entails.refl _) $$ [HZ HP HS]
  · isplitl [HZ]; · iexact HZ
    isplitl [HP]; · iexact HP
    iexact HS
  iapply (ctx0_spec m c) $$ HB HC
  iintro ⟨HB, HC⟩
  iapply Hk
  isplitl [Hcl]; · iexact Hcl
  isplitl [Ho]; · iexact Ho
  isplitl [Hst]; · iexact Hst
  isplitl [HB]; · iexact HB
  iexact HC

set_option maxHeartbeats 1000000 in
/-- The same as the kernel has it, its words of the device's place computed. -/
theorem first_prog (c : Dev nD) {Q : (Σ' (_ : FVec F S2x256x256 .bf16) (_ : FVec F S2x256x256 .bf16) (_ : FVec F S2x256x256 .bf16) (_ : FVec F S2x256x256 .bf16) (_ : FVec F S64x64 .f32) (_ : FVec F S64x256 .bf16), FVec F S1x256x64 .bf16) → sProp 𝕄} :
    recs m K ⊢ iprop(pred m c -∗ stgs m c -∗ ((closed c ∗ ow c [] ∗ stgs m c ∗ bufs m c ∗ cb m c 9) -∗ wp frame (wpE (defs₀ (F := F)) 𝒱₀ (c : Thread nD τ) none) Set.univ (.ret (mid m c)) Q)
      -∗ wp frame (wpE (defs₀ (F := F)) 𝒱₀ (c : Thread nD τ) none) Set.univ (k0_part104 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15) Q) := by
  rw [k0_part104_eq_skeleton]
  unfold k0_part104_skel
  simp only [k0_part23_eq_skeleton, k0_part23_skel, Prog.lift, Prog.bind_op, Prog.bind_ret, Prog.pure_eq_ret, wp_deviceId]
  refine first_spec m K c _ _ _ _ _ ?_ (kk := fun r => .ret r)
  revert c; decide +kernel

/-- Reading all of a buffer. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body: from the buffers in any state to all of them at the contents they are to have, the result in the staging
    buffer of the output, every semaphore at zero and nothing owed. -/
theorem body_spec (c : Dev nD) {Q : PUnit → sProp 𝕄} :
    recs m K ⊢ iprop(pred m c -∗ stgs m c -∗ (∃ f, ((c : Thread nD τ).loc cc0_stg5_0) ↦{fullShare} f)
      -∗ ((closed c ∗ ow c [] ∗ stgs m c ∗ bufs m c ∗ (((c : Thread nD τ).loc cc0_scratch3) ↦{fullShare} (Cf m c))
          ∗ (((c : Thread nD τ).loc cc0_stg5_0) ↦{fullShare} (outF m c))) -∗ Q ⟨⟩)
      -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15) Q) := by
  rw [cc0_body_eq_skeleton]
  unfold cc0_body_skel
  rw [wp_bind]
  iintro #HR Hp Hst ⟨%f5, H5⟩ Hk
  iapply (first_prog m K c) $$ HR Hp Hst
  iintro ⟨Hcl, Ho, Hst, HB, HC⟩
  rw [wp_ret]
  imodintro
  dsimp only [mid]
  iapply (ctx1_spec m c) $$ HB HC
  iintro %v %hv ⟨HB, HC⟩
  rw [hv]
  simp only [Prog.lift, Prog.bind_op, Prog.bind_ret, Prog.pure_eq_ret]
  iapply (cb_load (m := m) (c := c)) $$ HC; iintro %w HC
  iapply (cb_store (m := m) (c := c) (n := 31) (by decide) rfl) $$ HC; iintro HC
  ihave HC := (cb_full (m := m) c) $$ HC
  unfold stgs
  icases Hst with ⟨HX, HW, HK, HV, HO⟩
  iapply (wp_load (defs := defs₀ (F := F)) 𝒱₀ (c : Thread nD τ) none Set.univ (m := Memref.whole cc0_stg4_0) (Finset.subset_univ _)) $$ HO; iintro HO
  iapply (wp_load (defs := defs₀ (F := F)) 𝒱₀ (c : Thread nD τ) none Set.univ (m := cM) (Finset.subset_univ _)) $$ HC; iintro HC
  iapply (wp_load (defs := defs₀ (F := F)) 𝒱₀ (c : Thread nD τ) none Set.univ (m := Memref.whole cc0_stg5_0) (Finset.subset_univ _)) $$ H5; iintro H5
  iapply (wp_store (defs := defs₀ (F := F)) 𝒱₀ (c : Thread nD τ) none Set.univ (m := Memref.whole cc0_stg5_0) (r := Rect.unit (s := S2x256x512) ![0, 0, 0] S2x256x512.size inb_S2x256x512_S2x256x512_0_0_0) (Mk := Finset.univ) (Finset.subset_univ _)) $$ H5; iintro H5
  rw [wp_ret]
  imodintro
  ihave H5 := (ofEq (F := F) (congrArg (fun f => (((c : Thread nD τ).loc cc0_stg5_0) ↦{fullShare} f : sProp 𝕄))
    (((Memref.write_access_unit_zero_univ (Elt F) cc0_stg5_0 hz3 _ f5 _).trans
      (congrArg₂ k0_pay2 (Memref.readAt_unit_zero (Elt F) cc0_stg4_0 hz2 _ (Wo m c)) (Memref.readAt_unit_zero (Elt F) cc0_scratch3 hz2 _ (Cf m c)))) : _ = outF m c))) $$ H5
  iapply Hk
  iframe

end Cert.AttnProof
-- ==== Proof.Ghost.lean ====
/- The launch's ghost state: the cells' invariants allocated, the duty tokens and the credits dealt to the devices that
   use them. -/
module

public import proofs.«01_k».proof.Proof.Body

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Enumerations -/

/-- Conjunctions over the channels, and over a device's cells. -/
theorem over_chs (Φ : Ch → sProp 𝕄) : bigSep Finset.univ Φ = iprop(six Φ ∗ eight Φ ∗ four Φ) := by
  refine (show bigSep Finset.univ Φ = iprop(Φ (.dn 0) ∗ Φ (.dn 1) ∗ Φ (.dn 2) ∗ Φ (.up 0) ∗ Φ (.up 1) ∗ Φ (.up 2) ∗ Φ (.a1 0) ∗ Φ (.a1 1) ∗ Φ (.a1 2) ∗ Φ (.a1 3) ∗ Φ (.b1 0) ∗ Φ (.b1 1) ∗ Φ (.b1 2) ∗ Φ (.b1 3) ∗ Φ (.a2 0) ∗ Φ (.a2 1) ∗ Φ (.b2 0) ∗ Φ (.b2 1)) by
    rw [bigSep_univ_eq_bigSepL chs chs_univ chs_nodup]; rfl).trans ?_
  refine BI.Entails.antisymm (show iprop(Φ (.dn 0) ∗ Φ (.dn 1) ∗ Φ (.dn 2) ∗ Φ (.up 0) ∗ Φ (.up 1) ∗ Φ (.up 2) ∗ Φ (.a1 0) ∗ Φ (.a1 1) ∗ Φ (.a1 2) ∗ Φ (.a1 3) ∗ Φ (.b1 0) ∗ Φ (.b1 1) ∗ Φ (.b1 2) ∗ Φ (.b1 3) ∗ Φ (.a2 0) ∗ Φ (.a2 1) ∗ Φ (.b2 0) ∗ Φ (.b2 1)) ⊢ iprop(six Φ ∗ eight Φ ∗ four Φ) from ?_) (show iprop(six Φ ∗ eight Φ ∗ four Φ) ⊢ iprop(Φ (.dn 0) ∗ Φ (.dn 1) ∗ Φ (.dn 2) ∗ Φ (.up 0) ∗ Φ (.up 1) ∗ Φ (.up 2) ∗ Φ (.a1 0) ∗ Φ (.a1 1) ∗ Φ (.a1 2) ∗ Φ (.a1 3) ∗ Φ (.b1 0) ∗ Φ (.b1 1) ∗ Φ (.b1 2) ∗ Φ (.b1 3) ∗ Φ (.a2 0) ∗ Φ (.a2 1) ∗ Φ (.b2 0) ∗ Φ (.b2 1)) from ?_) <;> dsimp only [six, eight, four]
  · iintro ⟨H0, H1, H2, H3, H4, H5, A0, A1, A2, A3, B0, B1, B2, B3, C0, C1, D0, D1⟩
    iframe
  · iintro ⟨⟨H0, H1, H2, H3, H4, H5⟩, ⟨A0, A1, A2, A3, B0, B1, B2, B3⟩, C0, C1, D0, D1⟩
    iframe

def cellsEquiv : Unit ⊕ (Ch ⊕ Ch) ≃ CI where
  toFun | .inl _ => .bar | .inr (.inl k) => .snd k | .inr (.inr k) => .rcv k
  invFun | .bar => .inl () | .snd k => .inr (.inl k) | .rcv k => .inr (.inr k)
  left_inv x := by rcases x with _ | _ | _ <;> rfl
  right_inv x := by cases x <;> rfl

theorem over_cells (Φ : CI → sProp 𝕄) :
    bigSep Finset.univ Φ = iprop(Φ .bar ∗ (bigSep Finset.univ fun k => Φ (.snd k)) ∗ bigSep Finset.univ fun k => Φ (.rcv k)) := by
  rw [bigSep_univ_equiv cellsEquiv, bigSep_univ_sum, bigSep_univ_sum, Finset.univ_unique, bigSep_singleton]
  rfl

/-! ## The cells and the tokens at launch -/

/-- The kernel's own semaphores: the two of each channel. -/
abbrev osem : Ch ⊕ Ch → SemLoc sig | .inl k => .dma (sndS k) | .inr k => .dma (rcvS k)
theorem ownSemFacts : Pipeline.OwnSemFacts cfg0.spec osem := by decide +kernel

theorem kcell_injective : Function.Injective (kcell : Dev nD × CI → GSem nD τ sig) := by
  rintro ⟨c, i⟩ ⟨c', i'⟩ h
  have h1 : c = c' := congrArg (fun g : GSem nD τ sig => g.1.1) h
  have h2 : csem i = csem i' := congrArg Prod.snd h
  rw [h1, csem_injective h2]
def ringCells : Finset (GSem nD τ sig) := Finset.univ.map ⟨kcell, kcell_injective⟩

/-- A device's cells' duties: four of its barrier's cell, one of each other. -/
abbrev Du : Type := Fin 4 ⊕ (Ch ⊕ Ch)
def Du.cell : Du → CI | .inl _ => .bar | .inr (.inl k) => .snd k | .inr (.inr k) => .rcv k
def Du.name : Du → Fin 4 | .inl δ => δ | .inr _ => 0
theorem Du.ext : ∀ t t' : Du, t.cell = t'.cell → t.name = t'.name → t = t' := by decide +kernel

def tokOf (ct : Dev nD × Du) : GSem nD τ sig × ℕ × Fin 4 := (kcell (ct.1, ct.2.cell), 0, ct.2.name)
theorem tokOf_injective : Function.Injective tokOf := by
  rintro ⟨c, t⟩ ⟨c', t'⟩ h
  have h1 := kcell_injective (congrArg Prod.fst h)
  have h2 : t.name = t'.name := congrArg (fun x => x.2.2) h
  have hc : c = c' := congrArg Prod.fst h1
  subst hc
  rw [Du.ext t t' (congrArg Prod.snd h1) h2]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells, -/
def toks (c : Dev nD) : sProp 𝕄 :=
  iprop((bigSep Finset.univ fun δ : Fin 4 => dutyTok ER (barCell c) 0 δ) ∗ (bigSep Finset.univ fun k => dutyTok ER (sndCell c k) 0 0)
    ∗ bigSep Finset.univ fun k => dutyTok ER (rcvCell c k) 0 0)
/-- and of the duties it pays. -/
def payToks (c : Dev nD) : sProp 𝕄 :=
  iprop((bigSep Finset.univ fun δ : Fin 4 => sigTok (F := F) c δ) ∗ bigSep Finset.univ fun k => sendTok c k)

/-- What the launch deals device `c`; -/
def G (c : Dev nD) : sProp 𝕄 :=
  iprop((bigSep Finset.univ fun i : CI => roundState ER (Rd m) (kcell (c, i)) 0)
    ∗ (bigSep Finset.univ fun i : CI => iprop(posn (F := F) c i ∗ reached ER (kcell (c, i)) 0)) ∗ toks c)
/-- the invariants and round marks of all cells; -/
def records (K : Dev nD × CI → ℕ) : sProp 𝕄 :=
  bigSep Finset.univ fun ci => iprop(cellInv ER (Rd m) (K ci) (kcell ci) ∗ reached ER (kcell ci) 0)
/-- what a device holds of them once they are shared. -/
def G' (c : Dev nD) : sProp 𝕄 := iprop(∃ K, records m K ∗ (bigSep Finset.univ fun i : CI => posn (F := F) c i) ∗ payToks c)

instance records_persistent (K : Dev nD × CI → ℕ) : BI.Persistent (records (F := F) m K) := by unfold records; infer_instance

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m) ringCells ringToks) $$ HX with ⟨Hst, Hr, Hat, Htok⟩
  imodintro
  ihave Hst := (ofEq (hX fun g => roundState ER (Rd m) g 0)) $$ Hst
  ihave Hat := (ofEq (hX fun g => atPos ER g 0 ∅ 0)) $$ Hat
  ihave Hr := (ofEq (hX fun g => reached ER g 0)) $$ Hr
  ihave Htok := (ofEq hT) $$ Htok
  unfold G posn; simp only [bigSep_sep']
  isplitl [Hst]; · iexact Hst
  isplitl [Hat Hr]
  · isplitl [Hat] <;> iassumption
  iexact Htok

theorem ownSems0_eq (c : Dev nD) : (Pipeline.ownSems0 osem c : sProp 𝕄)
    = iprop((bigSep Finset.univ fun k => fin (F := F) c (.snd k)) ∗ bigSep Finset.univ fun k => fin c (.rcv k)) := by
  unfold Pipeline.ownSems0; rw [bigSep_univ_sum]; rfl
theorem unscopedSems0_eq (c : Dev nD) : (unscopedSems0 c : sProp 𝕄) = fin (F := F) c .bar := by
  unfold unscopedSems0; rw [bigSep_eq_bigSepL_of_eq [SemLoc.reg barS] (by decide +kernel) (by decide)]; rfl

/-- A device's cells at zero, with their states, become its invariants. -/
theorem core_alloc (c : Dev nD) : iprop(Pipeline.ownSems0 osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(posn (F := F) c i ∗ reached ER (kcell (c, i)) 0)) ∗ toks c) := by
  unfold G
  rw [ownSems0_eq, unscopedSems0_eq]
  iintro ⟨⟨HS, HV⟩, HB, Hst, Hat, Htok⟩
  ihave Hv := (ofEq (over_cells fun i => fin (F := F) c i).symm) $$ [HS HV HB]
  · isplitl [HB]; · iexact HB
    isplitl [HS] <;> iassumption
  imod (show iprop((bigSep Finset.univ fun i => fin (F := F) c i) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The device at the other end of a signal, and of a channel. -/
def sigEquiv : Dev nD × Fin 4 ≃ Dev nD × Fin 4 where
  toFun x := (peer x.2 x.1, opp x.2)
  invFun x := (peer x.2 x.1, opp x.2)
  left_inv x := Prod.ext (peer_opp x.2 x.1) (opp_opp x.2)
  right_inv x := Prod.ext (peer_opp x.2 x.1) (opp_opp x.2)
theorem tgt_fro (c : Dev nD) (k : Ch) : tgt (fro c k) k = c := by revert c k; decide +kernel
theorem fro_tgt (c : Dev nD) (k : Ch) : fro (tgt c k) k = c := by revert c k; decide +kernel
def chEquiv : Dev nD × Ch ≃ Dev nD × Ch where
  toFun x := (tgt x.1 x.2, x.2)
  invFun x := (fro x.1 x.2, x.2)
  left_inv x := Prod.ext (fro_tgt x.1 x.2) rfl
  right_inv x := Prod.ext (tgt_fro x.1 x.2) rfl

/-- The tokens go to the devices that pay: the barriers' to the neighbours, the arrivals' to the senders. -/
theorem toks_around : (bigSep Finset.univ fun c : Dev nD => (toks c : sProp 𝕄)) ⊢ bigSep Finset.univ fun c : Dev nD => payToks c := by
  unfold toks payToks sendTok sigTok
  simp only [bigSep_sep']
  rw [← bigSep_univ_prod (fun x : Dev nD × Fin 4 => (dutyTok ER (barCell x.1) 0 x.2 : sProp 𝕄)), bigSep_univ_equiv sigEquiv,
    ← bigSep_univ_prod (fun x : Dev nD × Ch => (dutyTok ER (rcvCell x.1 x.2) 0 0 : sProp 𝕄)), bigSep_univ_equiv chEquiv,
    bigSep_univ_prod, bigSep_univ_prod]
  exact BI.Entails.refl _

theorem with_records {K : Dev nD × CI → ℕ} {Φ Ψ : Dev nD → sProp 𝕄} (h : ∀ c, iprop(records m K ∗ Φ c) ⊢ Ψ c) :
    iprop(records m K ∗ bigSep Finset.univ Φ) ⊢ bigSep Finset.univ Ψ :=
  (sep_mono_left (BI.bigSep_of_persistent Finset.univ _)).trans (by rw [← bigSep_sep']; exact bigSep_mono fun c _ => h c)

theorem regroup :
    (bigSep Finset.univ fun c : Dev nD => iprop((bigSep Finset.univ fun i : CI => iprop(∃ κ : ℕ, cellInv ER (Rd m) κ (kcell (c, i))))
          ∗ (bigSep Finset.univ fun i : CI => iprop(posn (F := F) c i ∗ reached ER (kcell (c, i)) 0)) ∗ toks c) : sProp 𝕄)
      ⊢ bigSep Finset.univ (G' m) := by
  rw [bigSep_sep', bigSep_sep', ← bigSep_univ_prod (fun ci : Dev nD × CI => iprop(∃ κ : ℕ, cellInv ER (Rd m) κ (kcell ci))),
    bigSep_congr (s := Finset.univ) (fun (c : Dev nD) _ => bigSep_sep' Finset.univ (fun i : CI => (posn c i : sProp 𝕄)) (fun i => reached ER (kcell (c, i)) 0)),
    bigSep_sep', ← bigSep_univ_prod (fun ci : Dev nD × CI => (reached ER (kcell ci) 0 : sProp 𝕄))]
  iintro ⟨HI, ⟨Hat, HR⟩, Htok⟩
  ihave HK := (BI.bigSep_exists_pi Finset.univ (fun (ci : Dev nD × CI) (κ : ℕ) => (cellInv ER (Rd m) κ (kcell ci) : sProp 𝕄))) $$ HI
  icases HK with ⟨%K, HI⟩
  ihave Htk := (toks_around (F := F)) $$ Htok
  iapply (with_records m (K := K) (Φ := fun c => iprop((bigSep Finset.univ fun i : CI => posn (F := F) c i) ∗ payToks c)) fun c => by
    unfold G'
    iintro ⟨#HR, H1, H2⟩
    iexists K
    isplitr; · iexact HR
    isplitl [H1] <;> iassumption)
  isplitl [HI HR]
  · unfold records
    rw [bigSep_sep']
    isplitl [HI] <;> iassumption
  rw [bigSep_sep']
  isplitl [Hat] <;> iassumption

/-- All devices' semaphores at once. -/
theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.AttnProof
-- ==== Proof.Run.lean ====
/- The run of the whole program: what the devices owe one another at launch, the pipeline's proof data, the body at the
   launch's terms, and the run's final states. -/
module

public import proofs.«01_k».proof.Proof.Ghost

public import Idealize.ShloMosaic.Lib.Pipeline.CollectiveSegs

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit at launch -/

/-- How many units of its amount a cell is owed in all. -/
def owedTo (c : Dev nD) : CI → ℕ
  | .bar => (dirs c).card
  | .snd _ => 0
  | .rcv k => if actR c k then 1 else 0

theorem OL_at (d : Dev nD) (ci : Dev nD × CI) (l : List Ob) :
    OL d l (kcell ci) () = (l.countP fun o => decide (o.at d = ci)) * amt ci.2 := by
  induction l with
  | nil => rw [List.countP_nil, Nat.zero_mul]; rfl
  | cons o l ih =>
    unfold OL
    rw [Pi.add_apply, Finsupp.add_apply, ih, tallyAt_apply, List.countP_cons, Nat.add_mul]
    congr 1
    by_cases h : o.at d = ci
    · rw [if_pos ⟨by rw [h], rfl⟩, if_pos (decide_eq_true h), Nat.one_mul, h]
    · rw [if_neg fun h' => h (kcell_injective h'.1).symm, if_neg (by simpa using h), Nat.zero_mul]

theorem count_owed : ∀ (c : Dev nD) (i : CI), (∑ d : Dev nD, (order (zs d)).countP fun o => decide (o.at d = (c, i))) = owedTo c i := by
  decide +kernel

theorem launch_at (c : Dev nD) (i : CI) :
    tallyOn (kcell (c, i)) (launchCredit (Pipeline.owing O₀) 0 (kcell (c, i))) = (tallyAt (kcell (c, i)) () (owedTo c i * amt i) : CellTallies nD τ sig Unit) := by
  unfold tallyAt; refine congrArg _ (Finsupp.ext fun u => ?_); cases u
  rw [Pipeline.launchCredit_owing, Finsupp.single_eq_same]
  unfold O₀
  rw [Finset.sum_congr rfl fun d _ => OL_at d (c, i) (order (zs d)), ← Finset.sum_mul, count_owed]

/-- What the launch credits device `c` with: its barrier's units, and the arrivals it is to wait for. -/
theorem creds (c : Dev nD) : (Pipeline.launchCred O₀ c : sProp 𝕄)
    ⊢ iprop(cred (tallyAt (barCell c) () (dirs c).card) ∗ bigSep Finset.univ fun k => if actR c k then crd (F := F) c (.rcv k) else iprop(emp)) := by
  have h1 : (Pipeline.launchCred O₀ c : sProp 𝕄) ⊢ bigSep Finset.univ fun i : CI => cred (tallyAt (kcell (c, i)) () (owedTo c i * amt i)) := by
    unfold Pipeline.launchCred
    refine (bigSep_subset (Finset.subset_univ (Finset.univ.map ⟨csem, csem_injective⟩))).trans ?_
    rw [bigSep_map]
    exact bigSep_mono fun i _ => by rw [← launch_at]; exact BI.Entails.refl _
  refine h1.trans ?_
  rw [over_cells]
  iintro ⟨HB, -, HR⟩
  isplitl [HB]
  · iapply (show (cred (tallyAt (kcell (c, .bar)) () (owedTo c .bar * amt .bar)) : sProp 𝕄) ⊢ cred (tallyAt (barCell c) () (dirs c).card) from
      (ofEq (F := F) (congrArg (fun n => cred (tallyAt (barCell c) () n)) (Nat.mul_one _)))) $$ HB
  iapply (show (bigSep Finset.univ fun k : Ch => (cred (tallyAt (kcell (c, .rcv k)) () (owedTo c (.rcv k) * amt (.rcv k))) : sProp 𝕄))
      ⊢ bigSep Finset.univ fun k => (if actR c k then crd (F := F) c (.rcv k) else iprop(emp)) from
    bigSep_mono fun (k : Ch) _ => show cred (tallyAt (kcell (c, .rcv k)) () (owedTo c (.rcv k) * amt (.rcv k)))
      ⊢ (if actR c k then crd (F := F) c (.rcv k) else iprop(emp)) from by
    cases h : actR c k
    · iintro -; rw [if_neg (by decide)]; iempintro
    · rw [if_pos rfl, show owedTo c (.rcv k) = 1 from if_pos h, Nat.one_mul]; exact BI.Entails.refl _) $$ HR

/-! ## The pipeline's proof data -/

/-- What device `c`'s body starts from, but for its buffers; -/
def start (c : Dev nD) : sProp 𝕄 :=
  iprop(G' m c ∗ cred (tallyAt (barCell c) () (dirs c).card) ∗ (bigSep Finset.univ fun k => if actR c k then crd (F := F) c (.rcv k) else iprop(emp)) ∗ levAts L lv)
/-- with them, in any state. -/
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))
/-- What it ends with: the cells closed, the buffers full. -/
def Φ₁ (c : Dev nD) : sProp 𝕄 :=
  iprop(closed c ∗ bufs m c ∗ (((c : Thread nD τ).loc cc0_scratch3) ↦{fullShare} (Cf m c)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xst m c
    | ⟨1, _⟩ => Wq m c
    | ⟨2, _⟩ => Kst m c
    | ⟨3, _⟩ => Vst m c
    | ⟨4, _⟩ => Wo m c
    | ⟨5, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before 0 t0_0 d)) ∗ (∃ d, stg c cc0_stg1_0 ((dats m ρ 0 c).before 1 t0_0 d))
    ∗ (∃ d, stg c cc0_stg2_0 ((dats m ρ 0 c).before 2 t0_0 d)) ∗ (∃ d, stg c cc0_stg3_0 ((dats m ρ 0 c).before 3 t0_0 d))
    ∗ (∃ d, stg c cc0_stg4_0 ((dats m ρ 0 c).before 4 t0_0 d)) ∗ (∃ d, stg c cc0_stg5_0 ((dats m ρ 0 c).before 5 t0_0 d)))
def bodyPost (c : Dev nD) : sProp 𝕄 :=
  iprop(Φ₁ m c ∗ (dats m ρ 0 c).owesAt () t0_0.succ ∗ stg c cc0_stg0_0 (Xst m c) ∗ stg c cc0_stg1_0 (Wq m c) ∗ stg c cc0_stg2_0 (Kst m c)
    ∗ stg c cc0_stg3_0 (Vst m c) ∗ stg c cc0_stg4_0 (Wo m c) ∗ stg c cc0_stg5_0 (outF m c))

theorem four_toks (c : Dev nD) : (bigSep Finset.univ fun δ : Fin 4 => sigTok (F := F) c δ) = iprop(sigTok c 0 ∗ sigTok c 1 ∗ sigTok c 2 ∗ sigTok c 3) := by
  rw [bigSep_univ_eq_bigSepL ([0, 1, 2, 3] : List (Fin 4)) (by decide) (by decide)]; rfl

/-- The device's share of the launch's ghost state, in the body's terms. -/
theorem start_pred (c : Dev nD) : iprop(Φ₀ (F := F) m c ∗ ow c (order (zs c))) ⊢ iprop(∃ K, recs m K ∗ pred m c) := by
  unfold Φ₀ start G' payToks
  rw [over_cells, four_toks]
  iintro ⟨⟨⟨⟨%K, Hrec, ⟨HpB, HpS, HpR⟩, Hsig, Hsend⟩, HcB, HcR, Hlev⟩, HZ, HP, ⟨%fs, HS⟩, ⟨%fc, HC⟩⟩, Ho⟩
  iexists K
  isplitl [Hrec Hlev]
  · unfold recs records
    isplitl [Hrec] <;> iassumption
  ihave Hpre := (ofEq (F := F) ((bigSep_sep' Finset.univ (fun k => sendTok c k) (fun k => posn c (.snd k))).symm.trans (over_chs (pre c)))) $$ [Hsend HpS]
  · isplitl [Hsend] <;> iassumption
  ihave Hdue := (ofEq (F := F) ((bigSep_sep' Finset.univ (fun k => posn c (.rcv k)) (fun k => if actR c k then crd c (.rcv k) else iprop(emp))).symm.trans (over_chs (vdue c)))) $$ [HpR HcR]
  · isplitl [HpR] <;> iassumption
  icases Hpre with ⟨Hp6, Hp8, Hp4⟩
  icases Hdue with ⟨Hd6, Hd8, Hd4⟩
  ihave HS := (sb_zero (m := m) c fs) $$ HS
  ihave HC := (cb_zero (m := m) c fc) $$ HC
  unfold pred before
  isplitl [HpB HcB Hsig Hp6 Hp8 Hp4 Hd6 HZ HP Ho]
  · isplitl [Hsig]; · iexact Hsig
    isplitl [HpB HcB]
    · isplitl [HpB] <;> iassumption
    isplitl [Hp6]; · iexact Hp6
    isplitl [Hp8]; · iexact Hp8
    isplitl [Hp4]; · iexact Hp4
    isplitl [Hd6]; · iexact Hd6
    isplitl [HZ]; · iexact HZ
    isplitl [HP]; · iexact HP
    iexact Ho
  isplitl [Hd8]; · iexact Hd8
  isplitl [Hd4]; · iexact Hd4
  isplitl [HS]; · iexact HS
  iexact HC

set_option maxHeartbeats 800000 in
theorem body_run (c : Dev nD) : bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15) (fun _ => bodyPost m ρ c) := by
  unfold bodyPre Dat.owesAt Pipeline.owesWithin
  iintro ⟨HΦ, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have e0 : g0 = Xst m c := by rw [hg0]; unfold Dat.before; rw [if_pos (fetch0_0 t0_0)]; rfl
  have e1 : g1 = Wq m c := by rw [hg1]; unfold Dat.before; rw [if_pos (fetch0_1 t0_0)]; rfl
  have e2 : g2 = Kst m c := by rw [hg2]; unfold Dat.before; rw [if_pos (fetch0_2 t0_0)]; rfl
  have e3 : g3 = Vst m c := by rw [hg3]; unfold Dat.before; rw [if_pos (fetch0_3 t0_0)]; rfl
  have e4 : g4 = Wo m c := by rw [hg4]; unfold Dat.before; rw [if_pos (fetch0_4 t0_0)]; rfl
  subst e0 e1 e2 e3 e4
  ihave Ho := (show (owes (c : Thread nD τ) ((dats m ρ 0 c).owed t0_0.castSucc) W : sProp 𝕄) ⊢ ow c (order (zs c)) from by
    unfold ow; rw [show (dats m ρ 0 c).owed t0_0.castSucc = OL c (order (zs c)) from rfl]; iintro H; iexists W; iexact H) $$ HO
  ihave HE := (start_pred m c) $$ [HΦ Ho]
  · isplitl [HΦ] <;> iassumption
  icases HE with ⟨%K, HR, Hp⟩
  ihave Hst := (show iprop((((c : Thread nD τ).loc cc0_stg0_0) ↦{fullShare} (Xst m c)) ∗ (((c : Thread nD τ).loc cc0_stg1_0) ↦{fullShare} (Wq m c))
    ∗ (((c : Thread nD τ).loc cc0_stg2_0) ↦{fullShare} (Kst m c)) ∗ (((c : Thread nD τ).loc cc0_stg3_0) ↦{fullShare} (Vst m c))
    ∗ (((c : Thread nD τ).loc cc0_stg4_0) ↦{fullShare} (Wo m c))) ⊢ stgs m c from BI.Entails.refl _) $$ [H0 H1 H2 H3 H4]
  · iframe
  iapply (body_spec m K c) $$ HR Hp Hst [H5]
  · iexists g5; iexact H5
  iintro ⟨Hcl, Ho, Hst, HB, HC, H5⟩
  ihave Hst := (show stgs m c ⊢ iprop((((c : Thread nD τ).loc cc0_stg0_0) ↦{fullShare} (Xst m c)) ∗ (((c : Thread nD τ).loc cc0_stg1_0) ↦{fullShare} (Wq m c))
    ∗ (((c : Thread nD τ).loc cc0_stg2_0) ↦{fullShare} (Kst m c)) ∗ (((c : Thread nD τ).loc cc0_stg3_0) ↦{fullShare} (Vst m c))
    ∗ (((c : Thread nD τ).loc cc0_stg4_0) ↦{fullShare} (Wo m c))) from BI.Entails.refl _) $$ Hst
  icases Hst with ⟨H0, H1, H2, H3, H4⟩
  unfold bodyPost Φ₁ Dat.owesAt Pipeline.owesWithin ow
  icases Ho with ⟨%W', HO⟩
  isplitl [Hcl HB HC]
  · iframe
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- The body at the pipeline's one point. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_run m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq, over_chs, over_chs]
  unfold Φ₁ closed bufs
  iintro ⟨⟨H6, H6', H8, H8', H4, H4', HB⟩, ⟨HZ, HP, HS⟩, HC⟩
  isplitl [HB]; · iexact HB
  isplitl [H6 H6' H8 H8' H4 H4']
  · isplitl [H6 H8 H4]
    · isplitl [H6]; · iexact H6
      isplitl [H8] <;> iassumption
    isplitl [H6']; · iexact H6'
    isplitl [H8'] <;> iassumption
  isplitl [HZ]; · iexists _; iexact HZ
  isplitl [HP]; · iexists _; iexact HP
  isplitl [HS]; · iexists _; iexact HS
  iexists _; iexact HC

theorem stage_lev (c : Dev nD) : ∀ (w : Fin 6) (s : Fin (spec0 w).nbuf), lv ((c : Thread nD τ), .dma ((spec0 w).sem s)) () = 0 := by
  intro w
  fin_cases w <;> (intro s; fin_cases s; decide +kernel +revert)

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_lev c w s) _ (by
      rcases t with ⟨_ | _, ht⟩
      · exact Or.inl rfl
      · exact Or.inr rfl)

/-! ## The run -/

/-- The arrays of device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values, from any memory with zero counters: every weakly fair execution
    terminates, with each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of an input window keeps its contents. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

/-- The arguments end as they were. -/
theorem args_kept {r : PUnit × MemSt nD τ sig (Elt F)} (h : QC m ρ r) (c : Dev nD) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

/-- The run, with the arguments alone read. -/
theorem frame_run : θ_run defs (onTc (τ := τ) (main (F := F))) ⟨m, fun _ => 0, ρ⟩ (fun r => (∀ c : Dev nD,
      r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨args_kept m ρ h.1, h.2⟩) (run_main m ρ)

end Cert.AttnProof
-- ==== Proof.Final.lean ====
/- The windows are whole arrays: what is staged is the argument, what ends in the result array is the kernel's result. -/
module

public import proofs.«01_k».proof.Proof.Run

@[expose] public section

noncomputable section

namespace Cert.AttnProof

open Cert.KernelIdeal Cert.KernelIdeal.Gen
open Idealize.ShloMosaic
open Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-! ## A window's block sits in its array where it is -/

theorem emb0 (t : Fin cfg0.N) (j : S2x256x512.Idx) : ((cfg0.win 0).blk t).view.emb j = j := by
  funext a; apply Fin.ext
  match a with
  | ⟨0, _⟩ => show 0 * 2 + 1 * (j 0).val = (j 0).val; omega
  | ⟨1, _⟩ => show 0 * 256 + 1 * (j 1).val = (j 1).val; omega
  | ⟨2, _⟩ => show 0 * 512 + 1 * (j 2).val = (j 2).val; omega
theorem emb1 (t : Fin cfg0.N) (j : S512x256.Idx) : ((cfg0.win 1).blk t).view.emb j = j := by
  funext a; apply Fin.ext
  match a with
  | ⟨0, _⟩ => show 0 * 512 + 1 * (j 0).val = (j 0).val; omega
  | ⟨1, _⟩ => show 0 * 256 + 1 * (j 1).val = (j 1).val; omega
theorem emb2 (t : Fin cfg0.N) (j : S2x256x4x64.Idx) : ((cfg0.win 2).blk t).view.emb j = j := by
  funext a; apply Fin.ext
  match a with
  | ⟨0, _⟩ => show 0 * 2 + 1 * (j 0).val = (j 0).val; omega
  | ⟨1, _⟩ => show 0 * 256 + 1 * (j 1).val = (j 1).val; omega
  | ⟨2, _⟩ => show 0 * 4 + 1 * (j 2).val = (j 2).val; omega
  | ⟨3, _⟩ => show 0 * 64 + 1 * (j 3).val = (j 3).val; omega
theorem emb3 (t : Fin cfg0.N) (j : S2x256x4x64.Idx) : ((cfg0.win 3).blk t).view.emb j = j := by
  funext a; apply Fin.ext
  match a with
  | ⟨0, _⟩ => show 0 * 2 + 1 * (j 0).val = (j 0).val; omega
  | ⟨1, _⟩ => show 0 * 256 + 1 * (j 1).val = (j 1).val; omega
  | ⟨2, _⟩ => show 0 * 4 + 1 * (j 2).val = (j 2).val; omega
  | ⟨3, _⟩ => show 0 * 64 + 1 * (j 3).val = (j 3).val; omega
theorem emb4 (t : Fin cfg0.N) (j : S256x512.Idx) : ((cfg0.win 4).blk t).view.emb j = j := by
  funext a; apply Fin.ext
  match a with
  | ⟨0, _⟩ => show 0 * 256 + 1 * (j 0).val = (j 0).val; omega
  | ⟨1, _⟩ => show 0 * 512 + 1 * (j 1).val = (j 1).val; omega
theorem emb5 (t : Fin cfg0.N) (j : S2x256x512.Idx) : ((cfg0.win 5).blk t).view.emb j = j := by
  funext a; apply Fin.ext
  match a with
  | ⟨0, _⟩ => show 0 * 2 + 1 * (j 0).val = (j 0).val; omega
  | ⟨1, _⟩ => show 0 * 256 + 1 * (j 1).val = (j 1).val; omega
  | ⟨2, _⟩ => show 0 * 512 + 1 * (j 2).val = (j 2).val; omega

/-! ## The staged arrays are the arguments -/

theorem Xst_eq (c : Dev nD) : Xst m c = m ((c : Thread nD τ).loc main_arg0) := by
  funext j; show m ((c : Thread nD τ).loc main_arg0) (((cfg0.win 0).blk t0_0).view.emb j) = m ((c : Thread nD τ).loc main_arg0) j; rw [emb0]
theorem Wq_eq (c : Dev nD) : Wq m c = m ((c : Thread nD τ).loc main_arg1) := by
  funext j; show m ((c : Thread nD τ).loc main_arg1) (((cfg0.win 1).blk t0_0).view.emb j) = m ((c : Thread nD τ).loc main_arg1) j; rw [emb1]
theorem Kst_eq (c : Dev nD) : Kst m c = m ((c : Thread nD τ).loc main_arg2) := by
  funext j; show m ((c : Thread nD τ).loc main_arg2) (((cfg0.win 2).blk t0_0).view.emb j) = m ((c : Thread nD τ).loc main_arg2) j; rw [emb2]
theorem Vst_eq (c : Dev nD) : Vst m c = m ((c : Thread nD τ).loc main_arg3) := by
  funext j; show m ((c : Thread nD τ).loc main_arg3) (((cfg0.win 3).blk t0_0).view.emb j) = m ((c : Thread nD τ).loc main_arg3) j; rw [emb3]
theorem Wo_eq (c : Dev nD) : Wo m c = m ((c : Thread nD τ).loc main_arg4) := by
  funext j; show m ((c : Thread nD τ).loc main_arg4) (((cfg0.win 4).blk t0_0).view.emb j) = m ((c : Thread nD τ).loc main_arg4) j; rw [emb4]

/-! ## The result array -/

theorem cut5 (t : Fin cfg0.N) (X : Vec F S2x256x512 .f32) : (cfg0.win 5).cut (grid0.coords t) X = ((cfg0.win 5).blk t).view.read (Elt F) X := by
  funext j
  show X j = X (((cfg0.win 5).blk t).view.emb j)
  rw [emb5]
theorem flushed5 (c : Dev nD) (t : Fin cfg0.N) : (dats m ρ 0 c).flushed 5 t = ((cfg0.win 5).blk t).view.read (Elt F) (outF m c) :=
  (show (dats m ρ 0 c).flushed 5 t = (cfg0.win 5).cut (grid0.coords t) (outF m c) from by
    unfold Dat.flushed
    rfl).trans (cut5 t (outF m c))
theorem cover5 (i : S2x256x512.Idx) : ∃ t : Fin cfg0.N, (cfg0.win 5).flush t = true ∧ i ∈ ((cfg0.win 5).blk t).view.set :=
  ⟨t0_0, flush0_5 _, by
    have h := ((cfg0.win 5).blk t0_0).view.emb_mem_set i; rwa [emb5] at h⟩

/-- The result array of a device ends at the kernel's result. -/
theorem finalA_out (c : Dev nD) : finalA m ρ c 5 = outF m c :=
  (dats m ρ 0 c).arrAt_eq_of_cover 5 (outF m c) (fun t _ => flushed5 m ρ c t) cover5

end Cert.AttnProof
-- ==== Proof.KVal.lean ====
/- The kernel's arrays at an index: the scores, the weights, the contexts and the result as sums over the blocks of the devices. -/
module

public import proofs.«01_k».proof.Proof.Values
public import Idealize.ShloMosaic.Lib.Pointwise

@[expose] public section

noncomputable section

namespace Cert.AttnProof

open Cert.KernelIdeal Cert.KernelIdeal.Gen
open Idealize.ShloMosaic
open Idealize.ShloMosaic.TcCoe

variable (m : (ℓ : Loc nD τ sig) → Buf (Elt Ideal) ℓ)

/-! ## The operations -/

theorem headOf_apply (b : Fin 2) (h : Fin 4) (k : FVec Ideal S2x256x256 .bf16) (t : Fin 256) (d : Fin 64) :
    headOf b h k (ix2 t d) = k (ix3 b t (⟨h.val * 64 + d.val, by omega⟩ : Fin 256)) := by
  pointwise [headOf]

theorem part_apply (b : Fin 2) (h g : Fin 4) (w : FVec Ideal S64x1024 .bf16) (v : FVec Ideal S2x256x256 .bf16) (a d : Fin 64) :
    part b h g w v (ix2 a d) = ∑ t : Fin 256, w (ix2 a (⟨g.val * 256 + t.val, by omega⟩ : Fin 1024)) * v (ix3 b t (⟨h.val * 64 + d.val, by omega⟩ : Fin 256)) := by
  pointwise [part, headOf]

theorem wgt_apply (s : Vec Ideal S64x1024 .f32) (a : Fin 64) (t : Fin 1024) :
    wgt s (ix2 a t) = Ideal.div (Ideal.exp (s (ix2 a t) - Finset.univ.fold max ⊥ fun t' : Fin 1024 => s (ix2 a t')))
      (∑ t' : Fin 1024, Ideal.exp (s (ix2 a t') - Finset.univ.fold max ⊥ fun t' : Fin 1024 => s (ix2 a t'))) := by
  pointwise [wgt]
  rw [show Ideal.ofBits .f32 0xFF800000#32 = ⊥ from by simp [Ideal.ofBits, Ideal.ieee]]

theorem pay2_apply (w : FVec Ideal S256x512 .bf16) (x : FVec Ideal S512x256 .bf16) (b : Fin 2) (i : Fin 256) (n : Fin 512) :
    k0_pay2 (F := Ideal) w x (ix3 b i n) = ∑ k : Fin 256, x (ix2 (⟨b.val * 256 + i.val, by omega⟩ : Fin 512) k) * w (ix2 k n) := by
  pointwise [k0_pay2]

theorem pay11_apply (x : FVec Ideal S2x256x512 .bf16) (w : FVec Ideal S512x256 .bf16) (q : Fin 512) (n : Fin 256) :
    k0_pay11 x w (ix2 q n) = ∑ k : Fin 512, x (ix3 (⟨q.val / 256, by omega⟩ : Fin 2) (⟨q.val % 256, by omega⟩ : Fin 256) k) * w (ix2 k n) := by
  pointwise [k0_pay11]

theorem pay3_apply (x : FVec Ideal S2x256x4x64 .bf16) (b : Fin 2) (i : Fin 256) (n : Fin 256) :
    k0_pay3 x (ix4 0 b i n) = x (ix4 b i (⟨n.val / 64, by omega⟩ : Fin 4) (⟨n.val % 64, by omega⟩ : Fin 64)) := by
  pointwise [k0_pay3]
theorem pay4_apply (x : FVec Ideal S2x256x4x64 .bf16) (b : Fin 2) (i : Fin 256) (n : Fin 256) :
    k0_pay4 x (ix4 0 b i n) = x (ix4 b i (⟨n.val / 64, by omega⟩ : Fin 4) (⟨n.val % 64, by omega⟩ : Fin 64)) := by
  pointwise [k0_pay4]

theorem Sblk_apply (c : Dev nD) (g r : Fin 4) (b : Fin 2) (h : Fin 4) (a : Fin 64) (t : Fin 256) :
    Sblk m c g r b h (ix2 a t) = (∑ d : Fin 64, qv m c (ix2 (⟨b.val * 256 + r.val * 64 + a.val, by omega⟩ : Fin 512) (⟨h.val * 64 + d.val, by omega⟩ : Fin 256))
      * half m c g r 0 (ix3 b t (⟨h.val * 64 + d.val, by omega⟩ : Fin 256))) * Ideal.ofBits .f32 0x3E000000#32 := by
  pointwise [Sblk, headOf]

theorem Cblk_apply (c : Dev nD) (r : Fin 4) (b : Fin 2) (h : Fin 4) (s : Vec Ideal S64x1024 .f32) (a d : Fin 64) :
    Cblk m c r b h s (ix2 a d) = part b h 0 (wgt s) (half m c 0 r 1) (ix2 a d) + part b h 1 (wgt s) (half m c 1 r 1) (ix2 a d)
      + part b h 2 (wgt s) (half m c 2 r 1) (ix2 a d) + part b h 3 (wgt s) (half m c 3 r 1) (ix2 a d) := by
  pointwise [Cblk]

theorem half_apply (c : Dev nD) (g r : Fin 4) (h : Fin 2) (b : Fin 2) (s : Fin 4) (u : Fin 64) (n : Fin 256) :
    half m c g r h (ix3 b (⟨s.val * 64 + u.val, by omega⟩ : Fin 256) n) = piece m c g s r h (ix4 0 b u n) := by
  pointwise [half]
  have hu := u.isLt
  have k (s : Fin 4) (u' : Fin 64) (e : u'.val = u.val) : piece m c g s r h (ix4 0 b u' n) = piece m c g s r h (ix4 0 b u n) := by
    rw [show u' = u from Fin.ext e]
  fin_cases s
  · rw [dif_pos (show 0 * 64 + u.val < 64 by omega)]
    exact k 0 _ (show 0 * 64 + u.val = u.val by omega)
  · rw [dif_neg (show ¬ 1 * 64 + u.val < 64 by omega), dif_pos (show 1 * 64 + u.val - 64 < 64 by omega)]
    exact k 1 _ (show 1 * 64 + u.val - 64 = u.val by omega)
  · rw [dif_neg (show ¬ 2 * 64 + u.val < 64 by omega), dif_neg (show ¬ 2 * 64 + u.val - 64 < 64 by omega), dif_pos (show 2 * 64 + u.val - 64 - 64 < 64 by omega)]
    exact k 2 _ (show 2 * 64 + u.val - 64 - 64 = u.val by omega)
  · rw [dif_neg (show ¬ 3 * 64 + u.val < 64 by omega), dif_neg (show ¬ 3 * 64 + u.val - 64 < 64 by omega), dif_neg (show ¬ 3 * 64 + u.val - 64 - 64 < 64 by omega)]
    exact k 3 _ (show 3 * 64 + u.val - 64 - 64 - 64 = u.val by omega)

/-! ## The pieces: whose row block each is -/

/-- The device whose blocks stand at place `s` of column group `g`. -/
def src (c : Dev nD) (g s : Fin 4) : Dev nD :=
  match g with
  | 0 => org c (.z s)
  | 1 => org c (.p ⟨s.val, by omega⟩)
  | 2 => org c (.p ⟨4 + s.val, by omega⟩)
  | 3 => org c (.p ⟨8 + s.val, by omega⟩)

theorem kv_key (c : Dev nD) (b : Fin 2) (i n : Fin 256) : kv m c (ix3 b i (⟨n.val, by omega⟩ : Fin 512)) = k0_pay3 (F := Ideal) (Kst m c) (ix4 0 b i n) := by
  unfold kv
  have h : ((ix3 b i (⟨n.val, by omega⟩ : Fin 512) : S2x256x512.Idx) 2).val < 256 := n.isLt
  rw [dif_pos h]
  rfl
theorem kv_val (c : Dev nD) (b : Fin 2) (i n : Fin 256) : kv m c (ix3 b i (⟨256 + n.val, by omega⟩ : Fin 512)) = k0_pay4 (F := Ideal) (Vst m c) (ix4 0 b i n) := by
  unfold kv
  have h : ¬ ((ix3 b i (⟨256 + n.val, by omega⟩ : Fin 512) : S2x256x512.Idx) 2).val < 256 := by
    show ¬ 256 + n.val < 256
    omega
  rw [dif_neg h]
  refine congrArg (k0_pay4 (F := Ideal) (Vst m c)) ?_
  refine congrArg (fun x => (ix4 0 b i x : S1x2x256x256.Idx)) (Fin.ext ?_)
  show 256 + n.val - 256 = n.val
  omega

theorem at_z (c : Dev nD) (s r : Fin 4) (h : Fin 2) (b : Fin 2) (u : Fin 64) (n : Fin 256) :
    zM.view.readAt (Elt Ideal) (rK s r h).toLoadRect (Zc m c) (ix4 0 b u n)
      = Zc m c (ix4 s b (⟨r.val * 64 + u.val, by omega⟩ : Fin 256) (⟨h.val * 256 + n.val, by omega⟩ : Fin 512)) := by
  refine congrArg (Zc m c) ?_
  funext a
  fin_cases a
  · refine Fin.ext ?_
    show s.val + 1 * 0 = s.val
    omega
  · refine Fin.ext ?_
    show 0 + 1 * b.val = b.val
    omega
  · refine Fin.ext ?_
    show r.val * 64 + 1 * u.val = r.val * 64 + u.val
    omega
  · refine Fin.ext ?_
    show h.val * 256 + 1 * n.val = h.val * 256 + n.val
    omega
theorem at_p (c : Dev nD) (s : Fin 12) (r : Fin 4) (h : Fin 2) (b : Fin 2) (u : Fin 64) (n : Fin 256) :
    pM.view.readAt (Elt Ideal) (rL s r h).toLoadRect (Pc m c) (ix4 0 b u n)
      = Pc m c (ix4 s b (⟨r.val * 64 + u.val, by omega⟩ : Fin 256) (⟨h.val * 256 + n.val, by omega⟩ : Fin 512)) := by
  refine congrArg (Pc m c) ?_
  funext a
  fin_cases a
  · refine Fin.ext ?_
    show s.val + 1 * 0 = s.val
    omega
  · refine Fin.ext ?_
    show 0 + 1 * b.val = b.val
    omega
  · refine Fin.ext ?_
    show r.val * 64 + 1 * u.val = r.val * 64 + u.val
    omega
  · refine Fin.ext ?_
    show h.val * 256 + 1 * n.val = h.val * 256 + n.val
    omega

/-- Each piece is a row block of the joined keys and values of the device it came from. -/
theorem piece_apply (c : Dev nD) (g s r : Fin 4) (h : Fin 2) (b : Fin 2) (u : Fin 64) (n : Fin 256) :
    piece m c g s r h (ix4 0 b u n) = kv m (src c g s) (ix3 b (⟨r.val * 64 + u.val, by omega⟩ : Fin 256) (⟨h.val * 256 + n.val, by omega⟩ : Fin 512)) := by
  match g with
  | 0 => exact at_z m c s r h b u n
  | 1 => exact at_p m c _ r h b u n
  | 2 => exact at_p m c _ r h b u n
  | 3 => exact at_p m c _ r h b u n

/-! ## The two buffers -/

theorem srow_apply (c : Dev nD) (n : ℕ) (a : Fin 64) (g : Fin 4) (t : Fin 256) :
    srow m c n (ix2 a (⟨g.val * 256 + t.val, by omega⟩ : Fin 1024)) = Sblk m c g (rN n) (bN n) (hN n) (ix2 a t) := by
  have e : srow m c n (ix2 a (⟨g.val * 256 + t.val, by omega⟩ : Fin 1024))
      = Sf m c (ix2 (⟨n % 32 * 64 + a.val, by omega⟩ : Fin 2048) (⟨g.val * 256 + t.val, by omega⟩ : Fin 1024)) := by
    refine congrArg (Sf m c) ?_
    funext x
    fin_cases x
    · refine Fin.ext ?_
      show n % 32 * 64 + 1 * a.val = n % 32 * 64 + a.val
      omega
    · refine Fin.ext ?_
      show 0 + 1 * (g.val * 256 + t.val) = g.val * 256 + t.val
      omega
  rw [e]
  have p : posS (ix2 (⟨n % 32 * 64 + a.val, by omega⟩ : Fin 2048) (⟨g.val * 256 + t.val, by omega⟩ : Fin 1024)) = g.val * 32 + n % 32 := by
    show (g.val * 256 + t.val) / 256 * 32 + (n % 32 * 64 + a.val) / 64 = g.val * 32 + n % 32
    omega
  show SblkN m c (posS _) (ix2 (⟨(n % 32 * 64 + a.val) % 64, _⟩ : Fin 64) (⟨(g.val * 256 + t.val) % 256, _⟩ : Fin 256)) = _
  rw [p]
  unfold SblkN
  rw [show gN (g.val * 32 + n % 32) = g from Fin.ext (by show (g.val * 32 + n % 32) / 32 % 4 = g.val; omega),
    show rN (g.val * 32 + n % 32) = rN n from Fin.ext (by show (g.val * 32 + n % 32) / 8 % 4 = n / 8 % 4; omega),
    show bN (g.val * 32 + n % 32) = bN n from Fin.ext (by show (g.val * 32 + n % 32) / 4 % 2 = n / 4 % 2; omega),
    show hN (g.val * 32 + n % 32) = hN n from Fin.ext (by show (g.val * 32 + n % 32) % 4 = n % 4; omega)]
  refine congrArg (Sblk m c g (rN n) (bN n) (hN n)) ?_
  refine congrArg₂ (fun x y => (ix2 x y : S64x256.Idx)) (Fin.ext ?_) (Fin.ext ?_)
  · show (n % 32 * 64 + a.val) % 64 = a.val
    omega
  · show (g.val * 256 + t.val) % 256 = t.val
    omega

theorem Cf_apply (c : Dev nD) (b : Fin 2) (r : Fin 4) (a : Fin 64) (h : Fin 4) (d : Fin 64) :
    Cf m c (ix2 (⟨b.val * 256 + r.val * 64 + a.val, by omega⟩ : Fin 512) (⟨h.val * 64 + d.val, by omega⟩ : Fin 256)) = Cblk m c r b h (srow m c (r.val * 8 + b.val * 4 + h.val)) (ix2 a d) := by
  have p : posC (ix2 (⟨b.val * 256 + r.val * 64 + a.val, by omega⟩ : Fin 512) (⟨h.val * 64 + d.val, by omega⟩ : Fin 256)) = r.val * 8 + b.val * 4 + h.val := by
    show (b.val * 256 + r.val * 64 + a.val) % 256 / 64 * 8 + (b.val * 256 + r.val * 64 + a.val) / 256 * 4 + (h.val * 64 + d.val) / 64 = _
    have e1 : (b.val * 256 + r.val * 64 + a.val) % 256 / 64 = r.val := by omega
    have e2 : (b.val * 256 + r.val * 64 + a.val) / 256 = b.val := by omega
    have e3 : (h.val * 64 + d.val) / 64 = h.val := by omega
    rw [e1, e2, e3]
  show CblkN m c (posC _) (ix2 (⟨(b.val * 256 + r.val * 64 + a.val) % 64, _⟩ : Fin 64) (⟨(h.val * 64 + d.val) % 64, _⟩ : Fin 64)) = _
  rw [p]
  unfold CblkN
  rw [show rN (r.val * 8 + b.val * 4 + h.val) = r from Fin.ext (by show (r.val * 8 + b.val * 4 + h.val) / 8 % 4 = r.val; omega),
    show bN (r.val * 8 + b.val * 4 + h.val) = b from Fin.ext (by show (r.val * 8 + b.val * 4 + h.val) / 4 % 2 = b.val; omega),
    show hN (r.val * 8 + b.val * 4 + h.val) = h from Fin.ext (by show (r.val * 8 + b.val * 4 + h.val) % 4 = h.val; omega)]
  refine congrArg (Cblk m c r b h (srow m c (r.val * 8 + b.val * 4 + h.val))) ?_
  refine congrArg₂ (fun x y => (ix2 x y : S64x64.Idx)) (Fin.ext ?_) (Fin.ext ?_)
  · show (b.val * 256 + r.val * 64 + a.val) % 64 = a.val
    omega
  · show (h.val * 64 + d.val) % 64 = d.val
    omega
end Cert.AttnProof
-- ==== Proof.RefVal.lean ====
/- The reference's result as a chain of named stages: the mask, the scores, their largest, the weights, the contexts. -/
module

public import proofs.«01_k».proof.Proof.Gen.ReferenceIdeal.Run
public import Idealize.ShloMosaic.Lib.Pointwise

@[expose] public section

noncomputable section

namespace Cert.AttnProof.Ref

open Cert.ReferenceIdeal Cert.ReferenceIdeal.Gen Idealize.ShloMosaic Idealize.ShloMosaic.TcCoe

/-! ## The mask -/

/-- The row block of each position: its number by 64, rounded down. -/
def blockOf : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))
/-- The row blocks as a column (of the queries) and as a row (of the keys). -/
def blockC : IVec S4096x1 32 := broadcastInDim S4096x1 ![0] bcast_S4096_S4096x1_0 blockOf
def blockR : IVec S1x4096 32 := broadcastInDim S1x4096 ![1] bcast_S4096_S1x4096_1 blockOf
/-- The divisor 4, guarded against 0. -/
def four : IVec S_ 32 := select (cmpi .eq (id (constantI S_ 32 4#32)) (constantI S_ 32 0#32)) (constantI S_ 32 1#32) (id (constantI S_ 32 4#32))
/-- The row blocks modulo 4. -/
def remR : IVec S1x4096 32 :=
  select (andi (cmpi .ne (cmpi .slt (Host.remsi blockR (broadcastInDim S1x4096 ![] bcast_S_S1x4096 four)) (broadcastInDim S1x4096 ![] bcast_S_S1x4096 (constantI S_ 32 0#32)))
        (broadcastInDim S1x4096 ![] bcast_S_S1x4096 (cmpi .slt four (constantI S_ 32 0#32))))
      (cmpi .ne (Host.remsi blockR (broadcastInDim S1x4096 ![] bcast_S_S1x4096 four)) (broadcastInDim S1x4096 ![] bcast_S_S1x4096 (constantI S_ 32 0#32))))
    (addi (Host.remsi blockR (broadcastInDim S1x4096 ![] bcast_S_S1x4096 four)) (broadcastInDim S1x4096 ![] bcast_S_S1x4096 four))
    (Host.remsi blockR (broadcastInDim S1x4096 ![] bcast_S_S1x4096 four))
def remC : IVec S4096x1 32 :=
  select (andi (cmpi .ne (cmpi .slt (Host.remsi blockC (broadcastInDim S4096x1 ![] bcast_S_S4096x1 four)) (broadcastInDim S4096x1 ![] bcast_S_S4096x1 (constantI S_ 32 0#32)))
        (broadcastInDim S4096x1 ![] bcast_S_S4096x1 (cmpi .slt four (constantI S_ 32 0#32))))
      (cmpi .ne (Host.remsi blockC (broadcastInDim S4096x1 ![] bcast_S_S4096x1 four)) (broadcastInDim S4096x1 ![] bcast_S_S4096x1 (constantI S_ 32 0#32))))
    (addi (Host.remsi blockC (broadcastInDim S4096x1 ![] bcast_S_S4096x1 four)) (broadcastInDim S4096x1 ![] bcast_S_S4096x1 four))
    (Host.remsi blockC (broadcastInDim S4096x1 ![] bcast_S_S4096x1 four))
/-- Which key each query may attend: one of its own row block, or of a row block the same modulo 4. -/
def mask : IVec S4096x4096 1 :=
  ori (cmpi .eq (broadcastInDim S4096x4096 ![0, 1] bcast_S4096x1_S4096x4096_0_1 blockC) (broadcastInDim S4096x4096 ![0, 1] bcast_S1x4096_S4096x4096_0_1 blockR))
    (cmpi .eq (broadcastInDim S4096x4096 ![0, 1] bcast_S1x4096_S4096x4096_0_1 remR) (broadcastInDim S4096x4096 ![0, 1] bcast_S4096x1_S4096x4096_0_1 remC))
/-- Whether a query may attend any key. -/
def keep : IVec S4096 1 := Host.reduce IntOp.ori mask (constantI S_ 1 0#1) reducesTo_S4096x4096_S4096_d1 h_S_

/-! ## The attention -/

section Stages
variable (x : FVec Ideal S2x4096x512 .bf16) (wq : FVec Ideal S512x256 .bf16) (k v : FVec Ideal S2x4096x4x64 .bf16) (wo : FVec Ideal S256x512 .bf16)

/-- The queries. -/
def qs : FVec Ideal S2x4096x4x64 .bf16 :=
  shapeCast S2x4096x4x64 (truncf .bf16 (Host.dotGeneral dot_S2x4096x512_S512x256_S2x4096x256_2_0_01_1_n_n none x wq) bitsLt_bf16_f32) shapeCasts_S2x4096x256_S2x4096x4x64
/-- The scores: queries by keys, by one eighth. -/
def scores (q : FVec Ideal S2x4096x4x64 .bf16) : FVec Ideal S2x4x4096x4096 .f32 :=
  mulf (extf .f32 (truncf .bf16 (Host.dotGeneral dot_S2x4096x4x64_S2x4096x4x64_S2x4x4096x4096_3_3_1_1_02_02 none q k) bitsLt_bf16_f32) bitsLt_bf16_f32)
    (broadcastInDim S2x4x4096x4096 ![] bcast_S_S2x4x4096x4096 (constant S_ .f32 0x3E000000#32))
/-- The scores where the mask allows. -/
def masked (s : FVec Ideal S2x4x4096x4096 .f32) : FVec Ideal S2x4x4096x4096 .f32 :=
  select (broadcastInDim S2x4x4096x4096 ![0, 1, 2, 3] bcast_S1x1x4096x4096_S2x4x4096x4096_0_1_2_3 (broadcastInDim S1x1x4096x4096 ![2, 3] bcast_S4096x4096_S1x1x4096x4096_2_3 mask)) s
    (broadcastInDim S2x4x4096x4096 ![] bcast_S_S2x4x4096x4096 (id (constant S_ .f32 0xFF800000#32)))
/-- The largest score of each row. -/
def tops (s : FVec Ideal S2x4x4096x4096 .f32) : FVec Ideal S2x4x4096 .f32 :=
  Host.reduce FloatOps.maximumf s (constant S_ .f32 0xFF800000#32) reducesTo_S2x4x4096x4096_S2x4x4096_d3 h_S_
/-- The exponentials of the scores less the largest of their row. -/
def exps (s : FVec Ideal S2x4x4096x4096 .f32) : FVec Ideal S2x4x4096x4096 .f32 :=
  Host.exp (subf s (broadcastInDim S2x4x4096x4096 ![0, 1, 2, 3] bcast_S2x4x4096x1_S2x4x4096x4096_0_1_2_3 (broadcastInDim S2x4x4096x1 ![0, 1, 2] bcast_S2x4x4096_S2x4x4096x1_0_1_2 (tops s))))
/-- The sums of the exponentials of each row. -/
def sums (e : FVec Ideal S2x4x4096x4096 .f32) : FVec Ideal S2x4x4096x1 .f32 :=
  select (broadcastInDim S2x4x4096x1 ![0, 1, 2, 3] bcast_S1x1x4096x1_S2x4x4096x1_0_1_2_3 (broadcastInDim S1x1x4096x1 ![2] bcast_S4096_S1x1x4096x1_2 keep))
    (broadcastInDim S2x4x4096x1 ![0, 1, 2] bcast_S2x4x4096_S2x4x4096x1_0_1_2 (Host.reduceAdd e (constant S_ .f32 0x00000000#32) reducesTo_S2x4x4096x4096_S2x4x4096_d3 h_S_))
    (broadcastInDim S2x4x4096x1 ![] bcast_S_S2x4x4096x1 (id (constant S_ .f32 0x3F800000#32)))
/-- The weights. -/
def wts (e : FVec Ideal S2x4x4096x4096 .f32) : FVec Ideal S2x4x4096x4096 .f32 :=
  select (broadcastInDim S2x4x4096x4096 ![0, 1, 2, 3] bcast_S1x1x4096x1_S2x4x4096x4096_0_1_2_3 (broadcastInDim S1x1x4096x1 ![2] bcast_S4096_S1x1x4096x1_2 keep))
    (Host.divf e (broadcastInDim S2x4x4096x4096 ![0, 1, 2, 3] bcast_S2x4x4096x1_S2x4x4096x4096_0_1_2_3 (sums e)))
    (broadcastInDim S2x4x4096x4096 ![] bcast_S_S2x4x4096x4096 (id (constant S_ .f32 0x00000000#32)))
/-- The contexts: values by weights. -/
def ctxs (w : FVec Ideal S2x4x4096x4096 .f32) : FVec Ideal S2x4x64x4096 .f32 :=
  Host.dotGeneral dot_S2x4096x4x64_S2x4x4096x4096_S2x4x64x4096_1_3_3_2_02_01 none (extf .f32 v bitsLt_bf16_f32) w
/-- The result: contexts by the output weights. -/
def outs (c : FVec Ideal S2x4x64x4096 .f32) : FVec Ideal S2x4096x512 .f32 :=
  Host.dotGeneral dot_S2x4096x256_S256x512_S2x4096x512_2_0_01_1_n_n none
    (shapeCast S2x4096x256 (transpose S2x4096x4x64 [0, 3, 1, 2] c transposes_S2x4x64x4096_S2x4096x4x64_0_3_1_2) shapeCasts_S2x4096x4x64_S2x4096x256) (extf .f32 wo bitsLt_bf16_f32)
/-- All of it. -/
def res : FVec Ideal S2x4096x512 .f32 := outs wo (ctxs v (wts (exps (masked (scores k (qs x wq))))))
end Stages

set_option maxRecDepth 20000 in
/-- The reference's result is this chain. -/
theorem res_eq (m : (ℓ : Loc nD τ sig) → Buf (Elt Ideal) ℓ) (c : Dev nD) :
    Value.res_main_v44 m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The stages at an index -/

theorem ofBits_bot : Ideal.ofBits .f32 0xFF800000#32 = ⊥ := by
  simp [Ideal.ofBits, Ideal.ieee]

theorem qs_apply (x : FVec Ideal S2x4096x512 .bf16) (wq : FVec Ideal S512x256 .bf16) (b : Fin 2) (i : Fin 4096) (h : Fin 4) (d : Fin 64) :
    qs x wq (ix4 b i h d) = ∑ n : Fin 512, x (ix3 b i n) * wq (ix2 n (⟨h.val * 64 + d.val, by omega⟩ : Fin 256)) := by
  pointwise [qs]

theorem scores_apply (k q : FVec Ideal S2x4096x4x64 .bf16) (b : Fin 2) (h : Fin 4) (i j : Fin 4096) :
    scores k q (ix4 b h i j) = (∑ d : Fin 64, q (ix4 b i h d) * k (ix4 b j h d)) * Ideal.ofBits .f32 0x3E000000#32 := by
  pointwise [scores]

theorem tops_apply (s : FVec Ideal S2x4x4096x4096 .f32) (b : Fin 2) (h : Fin 4) (i : Fin 4096) :
    tops s (ix3 b h i) = Finset.univ.fold max ⊥ fun j : Fin 4096 => s (ix4 b h i j) := by
  pointwise [tops]
  rw [ofBits_bot]

theorem exps_apply (s : FVec Ideal S2x4x4096x4096 .f32) (b : Fin 2) (h : Fin 4) (i j : Fin 4096) :
    exps s (ix4 b h i j) = Ideal.exp (s (ix4 b h i j) - tops s (ix3 b h i)) := by
  pointwise [exps]

theorem ctxs_apply (v : FVec Ideal S2x4096x4x64 .bf16) (w : FVec Ideal S2x4x4096x4096 .f32) (b : Fin 2) (h : Fin 4) (d : Fin 64) (i : Fin 4096) :
    ctxs v w (ix4 b h d i) = ∑ j : Fin 4096, v (ix4 b j h d) * w (ix4 b h i j) := by
  pointwise [ctxs]

theorem outs_apply (wo : FVec Ideal S256x512 .bf16) (c : FVec Ideal S2x4x64x4096 .f32) (b : Fin 2) (i : Fin 4096) (n : Fin 512) :
    outs wo c (ix3 b i n) = ∑ k : Fin 256, c (ix4 b (⟨k.val / 64, by omega⟩ : Fin 4) (⟨k.val % 64, by omega⟩ : Fin 64) i) * wo (ix2 k n) := by
  pointwise [outs]

end Cert.AttnProof.Ref
-- ==== Proof.RefMask.lean ====
/- Which keys the reference's mask allows: those whose row block is the query's modulo 4. -/
module

public import proofs.«01_k».proof.Proof.RefVal

@[expose] public section

noncomputable section

namespace Cert.AttnProof.Ref

open Cert.ReferenceIdeal Cert.ReferenceIdeal.Gen Idealize.ShloMosaic Idealize.ShloMosaic.TcCoe

theorem sdiv64 (n : ℕ) (h : n < 4096) : IntOp.divsi ArithUnit.host (BitVec.ofNat 32 n) 64#32 = BitVec.ofNat 32 (n / 64) := by
  have a : (BitVec.ofNat 32 n).msb = false := by rw [BitVec.msb_eq_false_iff_two_mul_lt]; simp; omega
  have c : ¬ IntOp.SDivCorner (BitVec.ofNat 32 n) 64#32 := by
    unfold IntOp.SDivCorner; simp
  rw [IntOp.divsi, if_neg c, BitVec.sdiv_eq, a, show (64#32).msb = false from by decide]
  apply BitVec.eq_of_toNat_eq
  simp [BitVec.toNat_udiv]
  omega

theorem srem_ofNat (n k : ℕ) (h : n < 4096) (hk : 0 < k) (hk' : k < 4096) : IntOp.remsi ArithUnit.host (BitVec.ofNat 32 n) (BitVec.ofNat 32 k) = BitVec.ofNat 32 (n % k) := by
  have a : (BitVec.ofNat 32 n).msb = false := by rw [BitVec.msb_eq_false_iff_two_mul_lt]; simp; omega
  have b : (BitVec.ofNat 32 k).msb = false := by rw [BitVec.msb_eq_false_iff_two_mul_lt]; simp; omega
  have hn : (BitVec.ofNat 32 k).toNat = k := by simp; omega
  have c : ¬ IntOp.SDivCorner (BitVec.ofNat 32 n) (BitVec.ofNat 32 k) := by
    unfold IntOp.SDivCorner
    rintro (e | ⟨_, e⟩)
    · rw [e] at hn; simp at hn; omega
    · rw [e] at hn; simp at hn; omega
  rw [IntOp.remsi, if_neg c, BitVec.srem_eq, a, b]
  apply BitVec.eq_of_toNat_eq
  have := Nat.mod_lt n hk
  simp [BitVec.toNat_umod]
  rw [Nat.mod_eq_of_lt (show n < 4294967296 by omega), Nat.mod_eq_of_lt (show k < 4294967296 by omega), Nat.mod_eq_of_lt (show n % k < 4294967296 by omega)]

theorem sgn_pos (n : ℕ) (h : n < 4096) (w : BitVec 32) (hw : w = BitVec.ofNat 32 n) : (if w = 0 then (0 : BitVec 32) else if w.msb = true then -1 else 1) = if n = 0 then 0 else 1 := by
  subst hw
  have a : (BitVec.ofNat 32 n).msb = false := by rw [BitVec.msb_eq_false_iff_two_mul_lt]; simp; omega
  rw [a]
  by_cases hn : n = 0
  · subst hn; rfl
  · rw [if_neg hn, if_neg, if_neg (by decide)]
    intro e
    have := congrArg BitVec.toNat e
    simp at this
    omega

theorem blockOf_apply (i : Fin 4096) : blockOf (ix1 i) = BitVec.ofNat 32 (i.val / 64) := by
  pointwise [blockOf]
  have e : (id (constantI S_ 32 64#32) ix0 : BitVec 32) = 64#32 := rfl
  rw [e, sdiv64 _ i.isLt, srem_ofNat _ 64 i.isLt (by decide) (by decide)]
  refine (congrArg (fun z : BitVec 32 => Scalar.select (IntOp.andi (IntOp.cmpi CmpIPredicate.ne z (1#32)) (IntOp.cmpi CmpIPredicate.ne (BitVec.ofNat 32 (i.val % 64)) 0#32))
    (IntOp.subi (BitVec.ofNat 32 (i.val / 64)) 1#32) (BitVec.ofNat 32 (i.val / 64))) (sgn_pos _ i.isLt _ rfl)).trans ?_
  by_cases h : i.val = 0
  · rw [h]; rfl
  · rw [if_neg h]
    show Scalar.select (IntOp.andi (IntOp.cmpi CmpIPredicate.ne (1#32) (1#32)) (IntOp.cmpi CmpIPredicate.ne (BitVec.ofNat 32 (i.val % 64)) 0#32)) _ _ = _
    have e1 : IntOp.cmpi CmpIPredicate.ne (1#32) (1#32) = 0#1 := rfl
    have e2 : ∀ z : BitVec 1, IntOp.andi (0#1) z = 0#1 := by decide
    rw [e1, e2]
    exact ValueIdx.select_zero _ _

theorem blockR_apply (i : Fin 4096) : blockR (ix2 0 i) = BitVec.ofNat 32 (i.val / 64) := by
  rw [← blockOf_apply]
  pointwise [blockR]
theorem blockC_apply (i : Fin 4096) : blockC (ix2 i 0) = BitVec.ofNat 32 (i.val / 64) := by
  rw [← blockOf_apply]
  pointwise [blockC]

theorem rem_word (n : ℕ) (h : n < 4) : Scalar.select
      (IntOp.andi (IntOp.cmpi CmpIPredicate.ne (IntOp.cmpi CmpIPredicate.slt (BitVec.ofNat 32 n) 0#32) (IntOp.cmpi CmpIPredicate.slt 4#32 0#32))
        (IntOp.cmpi CmpIPredicate.ne (BitVec.ofNat 32 n) 0#32)) (IntOp.addi (BitVec.ofNat 32 n) 4#32) (BitVec.ofNat 32 n) = BitVec.ofNat 32 n := by
  interval_cases n <;> rfl

theorem remR_apply (i : Fin 4096) : remR (ix2 0 i) = BitVec.ofNat 32 (i.val / 64 % 4) := by
  pointwise [remR, four]
  have e : Scalar.select (IntOp.cmpi CmpIPredicate.eq (id (constantI S_ 32 4#32) ix0 : BitVec 32) 0#32) (1#32) (id (constantI S_ 32 4#32) ix0) = 4#32 := rfl
  rw [e, blockR_apply, srem_ofNat _ 4 (by omega) (by decide) (by decide)]
  exact rem_word _ (Nat.mod_lt _ (by decide))
theorem remC_apply (i : Fin 4096) : remC (ix2 i 0) = BitVec.ofNat 32 (i.val / 64 % 4) := by
  pointwise [remC, four]
  have e : Scalar.select (IntOp.cmpi CmpIPredicate.eq (id (constantI S_ 32 4#32) ix0 : BitVec 32) 0#32) (1#32) (id (constantI S_ 32 4#32) ix0) = 4#32 := rfl
  rw [e, blockC_apply, srem_ofNat _ 4 (by omega) (by decide) (by decide)]
  exact rem_word _ (Nat.mod_lt _ (by decide))

theorem eq_word (a b : ℕ) (ha : a < 4096) (hb : b < 4096) : IntOp.cmpi CmpIPredicate.eq (BitVec.ofNat 32 a) (BitVec.ofNat 32 b) = if a = b then 1#1 else 0#1 := by
  have : (BitVec.ofNat 32 a = BitVec.ofNat 32 b) ↔ a = b := by
    constructor
    · intro e
      have := congrArg BitVec.toNat e
      simp at this
      omega
    · rintro rfl; rfl
  by_cases h : a = b
  · subst h; simp [IntOp.cmpi]
  · rw [if_neg h]
    have : (BitVec.ofNat 32 a == BitVec.ofNat 32 b) = false := by rw [beq_eq_false_iff_ne]; exact fun e => h (this.mp e)
    simp [IntOp.cmpi, this]

/-- A query may attend the keys whose row block is its own modulo 4. -/
theorem mask_apply (i j : Fin 4096) : mask (ix2 i j) = if j.val / 64 % 4 = i.val / 64 % 4 then 1#1 else 0#1 := by
  pointwise [mask]
  rw [blockC_apply, blockR_apply, remR_apply, remC_apply, eq_word _ _ (by omega) (by omega), eq_word _ _ (by omega) (by omega)]
  by_cases h : i.val / 64 = j.val / 64
  · rw [if_pos h, if_pos (by rw [h])]; rfl
  · rw [if_neg h]
    by_cases h' : j.val / 64 % 4 = i.val / 64 % 4
    · rw [if_pos h']; rfl
    · rw [if_neg h']; rfl

theorem fold_ori (f : Fin 4096 → BitVec 1) (i : Fin 4096) (h : f i = 1#1) : Finset.fold IntOp.ori (0#1) f Finset.univ = 1#1 := by
  have e : Finset.fold IntOp.ori (0#1) f (insert i (Finset.univ.erase i)) = IntOp.ori (f i) (Finset.fold IntOp.ori (0#1) f (Finset.univ.erase i)) :=
    Finset.fold_insert (Finset.notMem_erase _ _)
  rw [Finset.insert_erase (Finset.mem_univ i), h] at e
  rw [e]
  generalize Finset.fold IntOp.ori (0#1) f (Finset.univ.erase i) = w
  revert w; decide

/-- Every query may attend some key: its own. -/
theorem keep_apply (i : Fin 4096) : keep (ix1 i) = 1#1 := by
  pointwise [keep]
  exact fold_ori _ i (by rw [mask_apply, if_pos rfl])

theorem masked_apply (s : FVec Ideal S2x4x4096x4096 .f32) (b : Fin 2) (h : Fin 4) (i j : Fin 4096) :
    masked s (ix4 b h i j) = if j.val / 64 % 4 = i.val / 64 % 4 then s (ix4 b h i j) else ⊥ := by
  pointwise [masked]
  rw [mask_apply]
  by_cases h' : j.val / 64 % 4 = i.val / 64 % 4
  · rw [if_pos h', if_pos h']; rfl
  · rw [if_neg h', if_neg h']; exact ofBits_bot

theorem sums_apply (e : FVec Ideal S2x4x4096x4096 .f32) (b : Fin 2) (h : Fin 4) (i : Fin 4096) :
    sums e (ix4 b h i 0) = ∑ j' : Fin 4096, e (ix4 b h i j') := by
  pointwise [sums]
  rw [keep_apply]
  rfl

theorem keep_bcast (w : IVec S4096 1) (b : Fin 2) (h : Fin 4) (i j : Fin 4096) :
    broadcastInDim S2x4x4096x4096 ![0, 1, 2, 3] bcast_S1x1x4096x1_S2x4x4096x4096_0_1_2_3 (broadcastInDim S1x1x4096x1 ![2] bcast_S4096_S1x1x4096x1_2 w) (ix4 b h i j) = w (ix1 i) := by
  pointwise
theorem sums_bcast (w : FVec Ideal S2x4x4096x1 .f32) (b : Fin 2) (h : Fin 4) (i j : Fin 4096) :
    broadcastInDim S2x4x4096x4096 ![0, 1, 2, 3] bcast_S2x4x4096x1_S2x4x4096x4096_0_1_2_3 w (ix4 b h i j) = w (ix4 b h i 0) := by
  pointwise

theorem divf_at {s : Shape} {φ : FTy} (e f : FVec Ideal s φ) (j : s.Idx) : Host.divf e f j = Ideal.div (e j) (f j) := rfl
theorem select_at {s : Shape} {α : Type} (c : IVec s 1) (a b : s.Idx → α) (j : s.Idx) (h : c j = 1#1) : select c a b j = a j :=
  Scalar.select_of_eq_one h _ _

theorem wts_apply (e : FVec Ideal S2x4x4096x4096 .f32) (b : Fin 2) (h : Fin 4) (i j : Fin 4096) :
    wts e (ix4 b h i j) = Ideal.div (e (ix4 b h i j)) (∑ j' : Fin 4096, e (ix4 b h i j')) := by
  have hk := (keep_bcast keep b h i j).trans (keep_apply i)
  unfold wts
  rw [select_at _ _ _ _ hk, divf_at, sums_bcast, sums_apply]

end Cert.AttnProof.Ref
-- ==== Proof.Soft.lean ====
/- A softmax over the keys a mask allows, computed over those keys alone: masked keys weigh nothing, in any order. -/
module

public import Idealize.ShloMosaic.Lib.Pointwise
public import Idealize.ShloMosaic.Lib.IdealHost

@[expose] public section

noncomputable section

namespace Cert.AttnProof.Soft

open Idealize.ShloMosaic

/-- An extended real that is a real number. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩
theorem Real'.add {x y : EReal} (hx : Real' x) (hy : Real' y) : Real' (x + y) := by
  obtain ⟨a, rfl⟩ := hx
  obtain ⟨b, rfl⟩ := hy
  exact ⟨a + b, (EReal.coe_add a b).symm⟩
theorem Real'.sum {ι : Type} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih

/-- An exponential is never negative. -/
theorem exp_nonneg (x : EReal) : 0 ≤ Ideal.exp x := by
  induction x using EReal.rec with
  | bot => exact le_refl _
  | coe r => exact EReal.coe_nonneg.mpr (Real.exp_pos r).le
  | top => exact le_top

variable {ι κ : Type} [Fintype ι] [Fintype κ]

/-- The largest of a family of extended reals. -/
def top (f : κ → EReal) : EReal := Finset.univ.fold max ⊥ f

/-- The weight of one member of a family. -/
def weight (f : κ → EReal) (t : κ) : EReal := Ideal.div (Ideal.exp (f t - top f)) (∑ t' : κ, Ideal.exp (f t' - top f))

section
variable (f g : ι → EReal) (σ : κ → ι) (hσ : Function.Injective σ) (hin : ∀ t, g (σ t) = f (σ t)) (hout : ∀ j, j ∉ Set.range σ → g j = ⊥)
include hin hout

theorem top_eq : top g = top fun t => f (σ t) := by
  have e (φ : Type) [Fintype φ] (u : φ → EReal) : top u = Finset.univ.sup u := rfl
  rw [e, e]
  apply le_antisymm
  · refine Finset.sup_le fun j _ => ?_
    by_cases h : j ∈ Set.range σ
    · obtain ⟨t, rfl⟩ := h
      rw [hin]
      exact Finset.le_sup (f := fun t => f (σ t)) (Finset.mem_univ t)
    · rw [hout j h]; exact bot_le
  · refine Finset.sup_le fun t _ => ?_
    rw [← hin]
    exact Finset.le_sup (f := g) (Finset.mem_univ (σ t))

theorem exp_out (j : ι) (h : j ∉ Set.range σ) (M : EReal) : Ideal.exp (g j - M) = 0 := by
  rw [hout j h, EReal.bot_sub]; rfl

include hσ in
theorem sum_eq (M : EReal) (v : ι → EReal → EReal) (hv : ∀ j, v j 0 = 0) : ∑ j : ι, v j (Ideal.exp (g j - M)) = ∑ t : κ, v (σ t) (Ideal.exp (f (σ t) - M)) := by
  symm
  refine Finset.sum_of_injOn σ hσ.injOn (fun _ _ => Finset.mem_coe.mpr (Finset.mem_univ _)) (fun j _ h => ?_) (fun t _ => by rw [hin])
  rw [exp_out f g σ hin hout j (fun ⟨t, ht⟩ => h ⟨t, Finset.mem_coe.mpr (Finset.mem_univ t), ht⟩) M, hv]

omit hin hout in
theorem total_ne (h : κ → EReal) (hr : ∀ t, Real' (h t)) [Nonempty κ] : (∑ t : κ, Ideal.exp (h t - top h)) ≠ 0 := by
  obtain ⟨t, -, ht⟩ := Finset.exists_mem_eq_sup (Finset.univ : Finset κ) Finset.univ_nonempty h
  have e : top h = h t := ht
  obtain ⟨r, hr'⟩ := hr t
  have one : Ideal.exp (h t - top h) = 1 := by
    rw [e, hr', ← EReal.coe_sub, sub_self]
    show ((Real.exp 0 : ℝ) : EReal) = 1
    rw [Real.exp_zero]; rfl
  have le : Ideal.exp (h t - top h) ≤ ∑ t : κ, Ideal.exp (h t - top h) :=
    Finset.single_le_sum (f := fun t => Ideal.exp (h t - top h)) (fun i _ => exp_nonneg _) (Finset.mem_univ t)
  intro z
  rw [z, one] at le
  exact absurd le (by simp)

include hσ in
/-- The weighted sum over all keys, the masked ones at `⊥`, is the weighted sum over the allowed ones. -/
theorem soft_eq [Nonempty κ] (hr : ∀ t, Real' (f (σ t))) (v : ι → EReal) : ∑ j : ι, v j * weight g j = ∑ t : κ, v (σ t) * weight (fun t => f (σ t)) t := by
  have hz : (∑ j : ι, Ideal.exp (g j - top g)) = ∑ t : κ, Ideal.exp (f (σ t) - top fun t => f (σ t)) := by
    rw [top_eq f g σ hin hout]
    exact sum_eq f g σ hσ hin hout _ (fun _ x => x) fun _ => rfl
  have hne := total_ne (fun t => f (σ t)) hr
  unfold weight
  rw [hz, top_eq f g σ hin hout]
  refine sum_eq f g σ hσ hin hout _ (fun j x => v j * Ideal.div x (∑ t : κ, Ideal.exp (f (σ t) - top fun t => f (σ t)))) fun j => ?_
  show v j * Ideal.div 0 _ = 0
  rw [Ideal.zero_div hne, mul_zero]
end

end Cert.AttnProof.Soft
-- ==== Proof.Join.lean ====
/- The kernel's result on each device is its block of the reference's result. -/
module

public import proofs.«01_k».proof.Proof.KVal
public import proofs.«01_k».proof.Proof.RefMask
public import proofs.«01_k».proof.Proof.Soft

@[expose] public section

noncomputable section

namespace Cert.AttnProof

open Cert.KernelIdeal Cert.KernelIdeal.Gen
open Idealize.ShloMosaic
open Idealize.ShloMosaic.TcCoe
open Soft (Real' weight soft_eq)

/-! ## The keys a row block attends to, in the order the kernel reads them -/

/-- Every device's blocks stand at exactly one place of one column group. -/
theorem src_onto (c e : Dev nD) : ∃ g s, src c g s = e := by revert c e; decide
theorem src_inj (c : Dev nD) (g s g' s' : Fin 4) (h : src c g s = src c g' s') : g = g' ∧ s = s' := by revert c g s g' s'; decide

theorem key_lt (c : Dev nD) (r : Fin 4) (u : Fin 64) : c.val * 256 + r.val * 64 + u.val < 4096 := by
  have : c.val < 16 := c.isLt
  omega
/-- The position in the whole array of row `u` of row block `r` of a device. -/
def pos (c : Dev nD) (r : Fin 4) (u : Fin 64) : Fin 4096 := ⟨c.val * 256 + r.val * 64 + u.val, key_lt c r u⟩
/-- The position of the `t`-th key that row block `r` of device `c` reads. -/
def key (c : Dev nD) (r : Fin 4) (t : Fin 1024) : Fin 4096 :=
  pos (src c ⟨t.val / 256, by omega⟩ ⟨t.val % 256 / 64, by omega⟩) r ⟨t.val % 64, by omega⟩

theorem key_inj (c : Dev nD) (r : Fin 4) : Function.Injective (key c r) := by
  intro t t' h
  have hv := congrArg Fin.val h
  change (src c _ _).val * 256 + r.val * 64 + t.val % 64 = (src c _ _).val * 256 + r.val * 64 + t'.val % 64 at hv
  have e := src_inj c _ _ _ _ (Fin.ext (show (src c ⟨t.val / 256, by omega⟩ ⟨t.val % 256 / 64, by omega⟩).val = (src c ⟨t'.val / 256, by omega⟩ ⟨t'.val % 256 / 64, by omega⟩).val by omega))
  have e1 : t.val / 256 = t'.val / 256 := congrArg Fin.val e.1
  have e2 : t.val % 256 / 64 = t'.val % 256 / 64 := congrArg Fin.val e.2
  exact Fin.ext (by omega)
theorem key_block (c : Dev nD) (r : Fin 4) (t : Fin 1024) : (key c r t).val / 64 % 4 = r.val := by
  show ((src c _ _).val * 256 + r.val * 64 + t.val % 64) / 64 % 4 = r.val
  omega
theorem key_onto (c : Dev nD) (r : Fin 4) (j : Fin 4096) (h : j.val / 64 % 4 = r.val) : j ∈ Set.range (key c r) := by
  obtain ⟨g, s, e⟩ := src_onto c (⟨j.val / 256, by show _ < 16; omega⟩ : Dev nD)
  refine ⟨⟨g.val * 256 + s.val * 64 + j.val % 64, by omega⟩, Fin.ext ?_⟩
  show (src c ⟨(g.val * 256 + s.val * 64 + j.val % 64) / 256, _⟩ ⟨(g.val * 256 + s.val * 64 + j.val % 64) % 256 / 64, _⟩).val * 256 + r.val * 64 + (g.val * 256 + s.val * 64 + j.val % 64) % 64 = j.val
  rw [show (⟨(g.val * 256 + s.val * 64 + j.val % 64) / 256, by omega⟩ : Fin 4) = g from Fin.ext (by show (g.val * 256 + s.val * 64 + j.val % 64) / 256 = g.val; omega),
    show (⟨(g.val * 256 + s.val * 64 + j.val % 64) % 256 / 64, by omega⟩ : Fin 4) = s from Fin.ext (by show (g.val * 256 + s.val * 64 + j.val % 64) % 256 / 64 = s.val; omega), e]
  show j.val / 256 * 256 + r.val * 64 + (g.val * 256 + s.val * 64 + j.val % 64) % 64 = j.val
  omega

/-! ## The staged arrays and the whole ones -/

variable (m : (ℓ : Loc nD τ sig) → Buf (Elt Ideal) ℓ)
variable (x : FVec Ideal Cert.ReferenceIdeal.S2x4096x512 .bf16) (wq : FVec Ideal Cert.ReferenceIdeal.S512x256 .bf16)
  (k v : FVec Ideal Cert.ReferenceIdeal.S2x4096x4x64 .bf16) (wo : FVec Ideal Cert.ReferenceIdeal.S256x512 .bf16)

theorem row_lt (c : Dev nD) (i : Fin 256) : c.val * 256 + i.val < 4096 := by
  have : c.val < 16 := c.isLt
  omega
/-- The position in the whole array of row `i` of a device. -/
def row (c : Dev nD) (i : Fin 256) : Fin 4096 := ⟨c.val * 256 + i.val, row_lt c i⟩

/-- Each device stages its block of the rows and the whole weights. -/
structure Staged : Prop where
  hx : ∀ (c : Dev nD) (b : Fin 2) (i : Fin 256) (n : Fin 512), Xst m c (ix3 b i n) = x (ix3 b (row c i) n)
  hwq : ∀ (c : Dev nD) (n : Fin 512) (q : Fin 256), Wq m c (ix2 n q) = wq (ix2 n q)
  hk : ∀ (c : Dev nD) (b : Fin 2) (i : Fin 256) (h : Fin 4) (d : Fin 64), Kst m c (ix4 b i h d) = k (ix4 b (row c i) h d)
  hv : ∀ (c : Dev nD) (b : Fin 2) (i : Fin 256) (h : Fin 4) (d : Fin 64), Vst m c (ix4 b i h d) = v (ix4 b (row c i) h d)
  hwo : ∀ (c : Dev nD) (q : Fin 256) (n : Fin 512), Wo m c (ix2 q n) = wo (ix2 q n)

variable {m x wq k v wo}
variable (S : Staged m x wq k v wo)
include S

theorem query_eq (c : Dev nD) (b : Fin 2) (r : Fin 4) (a : Fin 64) (h : Fin 4) (d : Fin 64) :
    qv m c (ix2 (⟨b.val * 256 + r.val * 64 + a.val, by omega⟩ : Fin 512) (⟨h.val * 64 + d.val, by omega⟩ : Fin 256)) = Ref.qs x wq (ix4 b (pos c r a) h d) := by
  rw [Ref.qs_apply]
  unfold qv
  rw [pay11_apply]
  refine Finset.sum_congr rfl fun n _ => ?_
  rw [show (⟨(b.val * 256 + r.val * 64 + a.val) / 256, by omega⟩ : Fin 2) = b from Fin.ext (by show (b.val * 256 + r.val * 64 + a.val) / 256 = b.val; omega),
    S.hx, S.hwq]
  rw [show row c (⟨(b.val * 256 + r.val * 64 + a.val) % 256, by omega⟩ : Fin 256) = pos c r a from Fin.ext (by
    show c.val * 256 + (b.val * 256 + r.val * 64 + a.val) % 256 = c.val * 256 + r.val * 64 + a.val; omega)]

theorem keys_eq (c : Dev nD) (g r : Fin 4) (b : Fin 2) (t : Fin 256) (h : Fin 4) (d : Fin 64) :
    half m c g r 0 (ix3 b t (⟨h.val * 64 + d.val, by omega⟩ : Fin 256)) = k (ix4 b (key c r ⟨g.val * 256 + t.val, by omega⟩) h d) := by
  have e1 := half_apply m c g r 0 b (⟨t.val / 64, by omega⟩ : Fin 4) (⟨t.val % 64, by omega⟩ : Fin 64) (⟨h.val * 64 + d.val, by omega⟩ : Fin 256)
  have et : (⟨(⟨t.val / 64, by omega⟩ : Fin 4).val * 64 + (⟨t.val % 64, by omega⟩ : Fin 64).val, by omega⟩ : Fin 256) = t := Fin.ext (by show t.val / 64 * 64 + t.val % 64 = t.val; omega)
  rw [et] at e1
  rw [e1, piece_apply]
  have e0 : (⟨(0 : Fin 2).val * 256 + (⟨h.val * 64 + d.val, by omega⟩ : Fin 256).val, by omega⟩ : Fin 512) = ⟨(⟨h.val * 64 + d.val, by omega⟩ : Fin 256).val, by omega⟩ :=
    Fin.ext (by show 0 * 256 + (h.val * 64 + d.val) = h.val * 64 + d.val; omega)
  rw [e0, kv_key, pay3_apply, S.hk]
  refine congrArg k ?_
  rw [show (⟨(h.val * 64 + d.val) / 64, by omega⟩ : Fin 4) = h from Fin.ext (by show (h.val * 64 + d.val) / 64 = h.val; omega),
    show (⟨(h.val * 64 + d.val) % 64, by omega⟩ : Fin 64) = d from Fin.ext (by show (h.val * 64 + d.val) % 64 = d.val; omega)]
  refine congrArg (fun j => ix4 b j h d) (Fin.ext ?_)
  show (src c g _).val * 256 + (r.val * 64 + t.val % 64) = (src c ⟨(g.val * 256 + t.val) / 256, _⟩ ⟨(g.val * 256 + t.val) % 256 / 64, _⟩).val * 256 + r.val * 64 + (g.val * 256 + t.val) % 64
  rw [show (⟨(g.val * 256 + t.val) / 256, by omega⟩ : Fin 4) = g from Fin.ext (by show (g.val * 256 + t.val) / 256 = g.val; omega),
    show (⟨(g.val * 256 + t.val) % 256 / 64, by omega⟩ : Fin 4) = ⟨t.val / 64, by omega⟩ from Fin.ext (by show (g.val * 256 + t.val) % 256 / 64 = t.val / 64; omega)]
  omega

theorem vals_eq (c : Dev nD) (g r : Fin 4) (b : Fin 2) (t : Fin 256) (h : Fin 4) (d : Fin 64) :
    half m c g r 1 (ix3 b t (⟨h.val * 64 + d.val, by omega⟩ : Fin 256)) = v (ix4 b (key c r ⟨g.val * 256 + t.val, by omega⟩) h d) := by
  have e1 := half_apply m c g r 1 b (⟨t.val / 64, by omega⟩ : Fin 4) (⟨t.val % 64, by omega⟩ : Fin 64) (⟨h.val * 64 + d.val, by omega⟩ : Fin 256)
  have et : (⟨(⟨t.val / 64, by omega⟩ : Fin 4).val * 64 + (⟨t.val % 64, by omega⟩ : Fin 64).val, by omega⟩ : Fin 256) = t := Fin.ext (by show t.val / 64 * 64 + t.val % 64 = t.val; omega)
  rw [et] at e1
  rw [e1, piece_apply]
  have e0 : (⟨(1 : Fin 2).val * 256 + (⟨h.val * 64 + d.val, by omega⟩ : Fin 256).val, by omega⟩ : Fin 512) = ⟨256 + (⟨h.val * 64 + d.val, by omega⟩ : Fin 256).val, by omega⟩ :=
    Fin.ext (by show 1 * 256 + (h.val * 64 + d.val) = 256 + (h.val * 64 + d.val); omega)
  rw [e0, kv_val, pay4_apply, S.hv]
  refine congrArg v ?_
  rw [show (⟨(h.val * 64 + d.val) / 64, by omega⟩ : Fin 4) = h from Fin.ext (by show (h.val * 64 + d.val) / 64 = h.val; omega),
    show (⟨(h.val * 64 + d.val) % 64, by omega⟩ : Fin 64) = d from Fin.ext (by show (h.val * 64 + d.val) % 64 = d.val; omega)]
  refine congrArg (fun j => ix4 b j h d) (Fin.ext ?_)
  show (src c g _).val * 256 + (r.val * 64 + t.val % 64) = (src c ⟨(g.val * 256 + t.val) / 256, _⟩ ⟨(g.val * 256 + t.val) % 256 / 64, _⟩).val * 256 + r.val * 64 + (g.val * 256 + t.val) % 64
  rw [show (⟨(g.val * 256 + t.val) / 256, by omega⟩ : Fin 4) = g from Fin.ext (by show (g.val * 256 + t.val) / 256 = g.val; omega),
    show (⟨(g.val * 256 + t.val) % 256 / 64, by omega⟩ : Fin 4) = ⟨t.val / 64, by omega⟩ from Fin.ext (by show (g.val * 256 + t.val) % 256 / 64 = t.val / 64; omega)]
  omega

/-- The reference's scores of one query against all keys. -/
abbrev sc (x : FVec Ideal Cert.ReferenceIdeal.S2x4096x512 .bf16) (wq : FVec Ideal Cert.ReferenceIdeal.S512x256 .bf16)
  (k : FVec Ideal Cert.ReferenceIdeal.S2x4096x4x64 .bf16) (b : Fin 2) (h : Fin 4) (i j : Fin 4096) : EReal := Ref.scores k (Ref.qs x wq) (ix4 b h i j)

theorem score_eq (c : Dev nD) (g r : Fin 4) (b : Fin 2) (h : Fin 4) (a : Fin 64) (t : Fin 256) :
    Sblk m c g r b h (ix2 a t) = sc x wq k b h (pos c r a) (key c r ⟨g.val * 256 + t.val, by omega⟩) := by
  rw [Sblk_apply]
  unfold sc
  rw [Ref.scores_apply]
  congr 1
  refine Finset.sum_congr rfl fun d _ => ?_
  rw [query_eq S, keys_eq S]

theorem srow_eq (c : Dev nD) (r : Fin 4) (b : Fin 2) (h : Fin 4) (a : Fin 64) (t : Fin 1024) :
    srow m c (r.val * 8 + b.val * 4 + h.val) (ix2 a t) = sc x wq k b h (pos c r a) (key c r t) := by
  have e := srow_apply m c (r.val * 8 + b.val * 4 + h.val) a (⟨t.val / 256, by omega⟩ : Fin 4) (⟨t.val % 256, by omega⟩ : Fin 256)
  have et : (⟨(⟨t.val / 256, by omega⟩ : Fin 4).val * 256 + (⟨t.val % 256, by omega⟩ : Fin 256).val, by omega⟩ : Fin 1024) = t := Fin.ext (by show t.val / 256 * 256 + t.val % 256 = t.val; omega)
  rw [et, show rN (r.val * 8 + b.val * 4 + h.val) = r from Fin.ext (by show (r.val * 8 + b.val * 4 + h.val) / 8 % 4 = r.val; omega),
    show bN (r.val * 8 + b.val * 4 + h.val) = b from Fin.ext (by show (r.val * 8 + b.val * 4 + h.val) / 4 % 2 = b.val; omega),
    show hN (r.val * 8 + b.val * 4 + h.val) = h from Fin.ext (by show (r.val * 8 + b.val * 4 + h.val) % 4 = h.val; omega), score_eq S, et] at e
  exact e

theorem wgt_eq (c : Dev nD) (r : Fin 4) (b : Fin 2) (h : Fin 4) (a : Fin 64) (t : Fin 1024) :
    wgt (srow m c (r.val * 8 + b.val * 4 + h.val)) (ix2 a t) = weight (fun t => sc x wq k b h (pos c r a) (key c r t)) t := by
  rw [wgt_apply]
  simp only [srow_eq S]
  rfl

theorem part_eq (c : Dev nD) (g r : Fin 4) (b : Fin 2) (h : Fin 4) (a d : Fin 64) :
    part b h g (wgt (srow m c (r.val * 8 + b.val * 4 + h.val))) (half m c g r 1) (ix2 a d)
      = ∑ t : Fin 256, v (ix4 b (key c r ⟨g.val * 256 + t.val, by omega⟩) h d) * weight (fun t => sc x wq k b h (pos c r a) (key c r t)) ⟨g.val * 256 + t.val, by omega⟩ := by
  rw [part_apply]
  refine Finset.sum_congr rfl fun t _ => ?_
  rw [wgt_eq S, vals_eq S, mul_comm]

/-- The context of one query: the values of the keys it reads, by their weights. -/
theorem Cblk_eq (c : Dev nD) (r : Fin 4) (b : Fin 2) (h : Fin 4) (a d : Fin 64) :
    Cblk m c r b h (srow m c (r.val * 8 + b.val * 4 + h.val)) (ix2 a d)
      = ∑ t : Fin 1024, v (ix4 b (key c r t) h d) * weight (fun t => sc x wq k b h (pos c r a) (key c r t)) t := by
  rw [Cblk_apply, part_eq S, part_eq S, part_eq S, part_eq S, Fin.sum_univ_tiles (N := 1024) 4 256 (by decide), Fin.sum_univ_four]

omit S in
/-- The reference's context of one query. -/
theorem ctx_ref (b : Fin 2) (h : Fin 4) (d : Fin 64) (i : Fin 4096) :
    Ref.ctxs v (Ref.wts (Ref.exps (Ref.masked (Ref.scores k (Ref.qs x wq))))) (ix4 b h d i)
      = ∑ j : Fin 4096, v (ix4 b j h d) * weight (fun j => if j.val / 64 % 4 = i.val / 64 % 4 then sc x wq k b h i j else ⊥) j := by
  rw [Ref.ctxs_apply]
  refine Finset.sum_congr rfl fun j _ => ?_
  rw [Ref.wts_apply]
  simp only [Ref.exps_apply, Ref.tops_apply, Ref.masked_apply]
  rfl

omit S in
theorem sc_real (hx : ∀ i, Real' (x i)) (hwq : ∀ i, Real' (wq i)) (hk : ∀ i, Real' (k i)) (b : Fin 2) (h : Fin 4) (i j : Fin 4096) : Real' (sc x wq k b h i j) := by
  unfold sc
  rw [Ref.scores_apply]
  refine Real'.mul (Real'.sum _ _ fun d => Real'.mul ?_ (hk _)) ?_
  · rw [Ref.qs_apply]
    exact Real'.sum _ _ fun n => (hx _).mul (hwq _)
  · exact ⟨_, rfl⟩

/-- The context of a query is the reference's. -/
theorem ctx_eq (hx : ∀ i, Real' (x i)) (hwq : ∀ i, Real' (wq i)) (hk : ∀ i, Real' (k i)) (c : Dev nD) (r : Fin 4) (b : Fin 2) (h : Fin 4) (a d : Fin 64) :
    Cblk m c r b h (srow m c (r.val * 8 + b.val * 4 + h.val)) (ix2 a d)
      = Ref.ctxs v (Ref.wts (Ref.exps (Ref.masked (Ref.scores k (Ref.qs x wq))))) (ix4 b h d (pos c r a)) := by
  have hp : (pos c r a).val / 64 % 4 = r.val := by
    show (c.val * 256 + r.val * 64 + a.val) / 64 % 4 = r.val
    omega
  rw [Cblk_eq S, ctx_ref]
  exact (soft_eq (fun j => sc x wq k b h (pos c r a) j) (fun j => if j.val / 64 % 4 = (pos c r a).val / 64 % 4 then sc x wq k b h (pos c r a) j else ⊥) (key c r) (key_inj c r)
    (fun t => if_pos ((key_block c r t).trans hp.symm)) (fun j hj => if_neg fun e => hj (key_onto c r j (e.trans hp)))
    (fun t => sc_real hx hwq hk b h _ _) (fun j => v (ix4 b j h d))).symm

/-- THE RESULT: a device's rows of the result are the reference's rows at its place. -/
theorem out_eq (hx : ∀ i, Real' (x i)) (hwq : ∀ i, Real' (wq i)) (hk : ∀ i, Real' (k i)) (c : Dev nD) (b : Fin 2) (i : Fin 256) (n : Fin 512) :
    outF m c (ix3 b i n) = Ref.res x wq k v wo (ix3 b (row c i) n) := by
  unfold outF Ref.res
  rw [pay2_apply, Ref.outs_apply]
  refine Finset.sum_congr rfl fun q _ => ?_
  rw [S.hwo]
  congr 1
  have e := Cf_apply m c b (⟨i.val / 64, by omega⟩ : Fin 4) (⟨i.val % 64, by omega⟩ : Fin 64) (⟨q.val / 64, by omega⟩ : Fin 4) (⟨q.val % 64, by omega⟩ : Fin 64)
  rw [ctx_eq S hx hwq hk] at e
  rw [show (⟨b.val * 256 + i.val, by omega⟩ : Fin 512) = ⟨b.val * 256 + (⟨i.val / 64, by omega⟩ : Fin 4).val * 64 + (⟨i.val % 64, by omega⟩ : Fin 64).val, by omega⟩ from Fin.ext (by
      show b.val * 256 + i.val = b.val * 256 + i.val / 64 * 64 + i.val % 64; omega)]
  rw [show Cf m c (ix2 (⟨b.val * 256 + (⟨i.val / 64, by omega⟩ : Fin 4).val * 64 + (⟨i.val % 64, by omega⟩ : Fin 64).val, by omega⟩ : Fin 512) q)
      = Cf m c (ix2 (⟨b.val * 256 + (⟨i.val / 64, by omega⟩ : Fin 4).val * 64 + (⟨i.val % 64, by omega⟩ : Fin 64).val, by omega⟩ : Fin 512)
        (⟨(⟨q.val / 64, by omega⟩ : Fin 4).val * 64 + (⟨q.val % 64, by omega⟩ : Fin 64).val, by omega⟩ : Fin 256)) from
      congrArg (fun q => Cf m c (ix2 _ q)) (Fin.ext (by show q.val = q.val / 64 * 64 + q.val % 64; omega)), e]
  refine congrArg (fun j => Ref.ctxs v (Ref.wts (Ref.exps (Ref.masked (Ref.scores k (Ref.qs x wq))))) (ix4 b _ _ j)) (Fin.ext ?_)
  show c.val * 256 + i.val / 64 * 64 + i.val % 64 = c.val * 256 + i.val
  omega

end Cert.AttnProof
-- ==== Proof.lean ====
/- The claims: sixteen devices exchange their keys and values and each computes its block of a strided sparse attention.
   Each frame is the one run of the sixteen devices (Proof/Run.lean) at its float values, the reference's frame its
   generated run. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Join
public import Idealize.ShloMosaic.Adequacy
public import Idealize.ShloMosaic.Init

@[expose] public section

noncomputable section

namespace Cert.Proof

open Idealize.ShloMosaic Idealize.SL.Sem Cert.AttnProof

set_option maxRecDepth 20000 in
/-- The two printings of the kernel's body are one program, -/
theorem body_same : Cert.KernelIdeal.cc0_body (F := Bits) = Cert.Kernel.cc0_body (F := Bits) := rfl

/-- and so are its labels' bodies. -/
theorem defs_same : Cert.KernelIdeal.defs (F := Bits) = Cert.Kernel.defs (F := Bits) := by
  refine congrArg (Pipeline.defs Cert.KernelIdeal.pcfgs) ?_
  unfold Cert.KernelIdeal.defs₀ Cert.Kernel.defs₀
  refine congrArg Defs.onTc (funext fun l => funext fun x => ?_)
  match l, x with
  | 0, (t, s) => dsimp only; rw [body_same]

/-- The kernel over words runs, leaves its arguments as they were and every counter at zero. -/
theorem frame_kernel : Cert.quiescent_Kernel := fun m ρ _ => by
  have h := frame_run (F := Bits) m ρ
  rw [defs_same] at h
  exact h

/-- So does the kernel over the reals; -/
theorem frame_kernelIdeal : Cert.quiescent_KernelIdeal := fun m ρ _ => frame_run (F := Ideal) m ρ

/-- and the reference, a host program that declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The precondition -/

theorem facts_kernelIdeal : Cert.Pre_finite_KernelIdeal.Facts := ⟨by decide, by decide, by decide⟩
theorem facts_referenceIdeal : Cert.Pre_finite_ReferenceIdeal.Facts := ⟨by decide, by decide, by decide⟩

/-- A value whose absolute value is below infinity is a real number. -/
theorem real_of_abs (x : EReal) (h : Ideal.cmp .olt (max x (-x)) (Ideal.ofBits .bf16 0x7F80#16) = 1#1) : Soft.Real' x := by
  have e : Ideal.ofBits .bf16 0x7F80#16 = ⊤ := by simp [Ideal.ofBits, Ideal.ieee]
  rw [e] at h
  induction x using EReal.rec with
  | bot => exact absurd h (by simp [Ideal.cmp])
  | coe r => exact ⟨r, rfl⟩
  | top => exact absurd h (by simp [Ideal.cmp])

section
variable (m : (ℓ : Loc Cert.KernelIdeal.nD Cert.KernelIdeal.τ Cert.KernelIdeal.sig) → Buf (Elt Ideal) ℓ)
variable (hp : Cert.Pre_KernelIdeal_finite_KernelIdeal (hPre_finite_KernelIdeal := facts_kernelIdeal) m)
include hp

/-- Under it the inputs, the query weights and the keys of every device are real. -/
theorem pre_real (c : Dev Cert.KernelIdeal.nD) :
    (∀ i : Cert.KernelIdeal.S2x256x512.Idx, Soft.Real' (m ((c.tc : Thread Cert.KernelIdeal.nD Cert.KernelIdeal.τ).loc Cert.KernelIdeal.main_arg0) i))
    ∧ (∀ i : Cert.KernelIdeal.S512x256.Idx, Soft.Real' (m ((c.tc : Thread Cert.KernelIdeal.nD Cert.KernelIdeal.τ).loc Cert.KernelIdeal.main_arg1) i))
    ∧ (∀ i : Cert.KernelIdeal.S2x256x4x64.Idx, Soft.Real' (m ((c.tc : Thread Cert.KernelIdeal.nD Cert.KernelIdeal.τ).loc Cert.KernelIdeal.main_arg2) i)) :=
  ⟨fun i => real_of_abs _ (congrFun (hp c).1 i), fun i => real_of_abs _ (congrFun (hp c).2.1 i), fun i => real_of_abs _ (congrFun (hp c).2.2 i)⟩
end

/-- Each device's result is its block of the reference's. -/
theorem algebraic : Cert.algebraic_KernelIdeal_ReferenceIdeal_pre_finite_KernelIdeal (hPre_finite_KernelIdeal := facts_kernelIdeal) := fun m g m' g' hp hA => by
  have S : Staged m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    constructor
    · intro c b i n
      rw [Xst_eq, (hA c).1]
      refine congrArg (m' _) ?_
      funext a; apply Fin.ext
      match a with
      | ⟨0, _⟩ => rfl
      | ⟨1, _⟩ => rfl
      | ⟨2, _⟩ => rfl
    · intro c n q
      rw [Wq_eq, (hA c).2.1]
    · intro c b i h d
      rw [Kst_eq, (hA c).2.2.1]
      refine congrArg (m' _) ?_
      funext a; apply Fin.ext
      match a with
      | ⟨0, _⟩ => rfl
      | ⟨1, _⟩ => rfl
      | ⟨2, _⟩ => rfl
      | ⟨3, _⟩ => rfl
    · intro c b i h d
      rw [Vst_eq, (hA c).2.2.2.1]
      refine congrArg (m' _) ?_
      funext a; apply Fin.ext
      match a with
      | ⟨0, _⟩ => rfl
      | ⟨1, _⟩ => rfl
      | ⟨2, _⟩ => rfl
      | ⟨3, _⟩ => rfl
    · intro c q n
      rw [Wo_eq, (hA c).2.2.2.2]
  have hx : ∀ i : Cert.ReferenceIdeal.S2x4096x512.Idx, Soft.Real' (m' (((0 : Dev Cert.ReferenceIdeal.nD).tc : Thread Cert.ReferenceIdeal.nD Cert.ReferenceIdeal.τ).loc Cert.ReferenceIdeal.main_arg0) i) := fun i => by
    have h1 : (i 1).val < 4096 := (i 1).isLt
    have e : i = ix3 (i 0) (row (⟨(i 1).val / 256, by show _ < 16; omega⟩ : Dev Cert.KernelIdeal.nD) ⟨(i 1).val % 256, by omega⟩) (i 2) := by
      funext a; apply Fin.ext
      match a with
      | ⟨0, _⟩ => rfl
      | ⟨1, _⟩ => show (i 1).val = (i 1).val / 256 * 256 + (i 1).val % 256; omega
      | ⟨2, _⟩ => rfl
    rw [e]
    refine Eq.subst (motive := Soft.Real') (S.hx _ (i 0) _ (i 2)) ?_
    rw [Xst_eq]
    exact (pre_real m hp _).1 _
  have hwq : ∀ i : Cert.ReferenceIdeal.S512x256.Idx, Soft.Real' (m' (((0 : Dev Cert.ReferenceIdeal.nD).tc : Thread Cert.ReferenceIdeal.nD Cert.ReferenceIdeal.τ).loc Cert.ReferenceIdeal.main_arg1) i) := fun i => by
    rw [← (hA 0).2.1]
    exact (pre_real m hp 0).2.1 i
  have hk : ∀ i : Cert.ReferenceIdeal.S2x4096x4x64.Idx, Soft.Real' (m' (((0 : Dev Cert.ReferenceIdeal.nD).tc : Thread Cert.ReferenceIdeal.nD Cert.ReferenceIdeal.τ).loc Cert.ReferenceIdeal.main_arg2) i) := fun i => by
    have h1 : (i 1).val < 4096 := (i 1).isLt
    have e : i = ix4 (i 0) (row (⟨(i 1).val / 256, by show _ < 16; omega⟩ : Dev Cert.KernelIdeal.nD) ⟨(i 1).val % 256, by omega⟩) (i 2) (i 3) := by
      funext a; apply Fin.ext
      match a with
      | ⟨0, _⟩ => rfl
      | ⟨1, _⟩ => show (i 1).val = (i 1).val / 256 * 256 + (i 1).val % 256; omega
      | ⟨2, _⟩ => rfl
      | ⟨3, _⟩ => rfl
    rw [e]
    refine Eq.subst (motive := Soft.Real') (S.hk _ (i 0) _ (i 2) (i 3)) ?_
    rw [Kst_eq]
    exact (pre_real m hp _).2.2 _
  refine ⟨Cert.ReferenceIdeal.Value.res_main_v44 (F := Ideal) m' 0, ?_, ?_⟩
  · refine (θ_run _ _ _).mono (fun r h c => ⟨?_, args_kept m g h.1 c⟩) (run_main (F := Ideal) m g)
    refine (h.1 c 5).trans ((finalA_out m g c).trans ?_)
    funext j
    have ej : j = ix3 (j 0) (j 1) (j 2) := by
      funext a
      match a with
      | ⟨0, _⟩ => rfl
      | ⟨1, _⟩ => rfl
      | ⟨2, _⟩ => rfl
    rw [ej]
    refine (out_eq S hx hwq hk c (j 0) (j 1) (j 2)).trans ?_
    rw [Ref.res_eq]
    refine congrArg (Ref.res _ _ _ _ _) ?_
    funext a; apply Fin.ext
    match a with
    | ⟨0, _⟩ => rfl
    | ⟨1, _⟩ => rfl
    | ⟨2, _⟩ => rfl
  · exact (θ_run Cert.ReferenceIdeal.defs _ _).mono (fun _ h => h 0) (Cert.ReferenceIdeal.Value.run (F := Ideal) m' g')

/-- Everything claimed. -/
theorem claim : Cert.Claim := ⟨Cert.Kernel.Gen.facts, Cert.KernelIdeal.Gen.facts, Cert.ReferenceIdeal.Gen.facts, facts_kernelIdeal, facts_referenceIdeal,
  frame_kernel, frame_kernelIdeal, fun m g _ => frame_kernelIdeal m g trivial, frame_referenceIdeal, fun m g _ => frame_referenceIdeal m g trivial, trivial, algebraic⟩

end Cert.Proof

end
